-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Dense [hPre_one_layer : Cert.Pre_one_layer.Facts] (m : (ℓ : Loc Cert.Dense.nD Cert.Dense.τ Cert.Dense.sig) → Buf (Elt Bits) ℓ) : Prop :=
  ∀ c : Dev Cert.Dense.nD,
    (Cert.Pre_one_layer.fn (F := Bits) (m ((c.tc : Thread Cert.Dense.nD Cert.Dense.τ).loc Cert.Dense.main_arg0)) (m ((c.tc : Thread Cert.Dense.nD Cert.Dense.τ).loc Cert.Dense.main_arg1)) (m ((c.tc : Thread Cert.Dense.nD Cert.Dense.τ).loc Cert.Dense.main_arg2)) (m ((c.tc : Thread Cert.Dense.nD Cert.Dense.τ).loc Cert.Dense.main_arg3)) (m ((c.tc : Thread Cert.Dense.nD Cert.Dense.τ).loc Cert.Dense.main_arg4)) (m ((c.tc : Thread Cert.Dense.nD Cert.Dense.τ).loc Cert.Dense.main_arg5)) (m ((c.tc : Thread Cert.Dense.nD Cert.Dense.τ).loc Cert.Dense.main_arg6)) (m ((c.tc : Thread Cert.Dense.nD Cert.Dense.τ).loc Cert.Dense.main_arg7))) = (fun _ => 1#1)

def Pre_DenseIdeal [hPre_one_layer : Cert.Pre_one_layer.Facts] (m : (ℓ : Loc Cert.DenseIdeal.nD Cert.DenseIdeal.τ Cert.DenseIdeal.sig) → Buf (Elt Ideal) ℓ) : Prop :=
  ∀ c : Dev Cert.DenseIdeal.nD,
    (Cert.Pre_one_layer.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3)) (m ((c.tc : Thread Cert.DenseIdeal.nD Cert.DenseIdeal.τ).loc Cert.DenseIdeal.main_arg4)) (m ((c.tc : Thread Cert.DenseIdeal.nD Cert.DenseIdeal.τ).loc Cert.DenseIdeal.main_arg5)) (m ((c.tc : Thread Cert.DenseIdeal.nD Cert.DenseIdeal.τ).loc Cert.DenseIdeal.main_arg6)) (m ((c.tc : Thread Cert.DenseIdeal.nD Cert.DenseIdeal.τ).loc Cert.DenseIdeal.main_arg7))) = (fun _ => 1#1)

def Pre_DenseRefIdeal (m : (ℓ : Loc Cert.DenseRefIdeal.nD Cert.DenseRefIdeal.τ Cert.DenseRefIdeal.sig) → Buf (Elt Ideal) ℓ) : Prop :=
  True

def Pre_DenseRefIdeal_one_layer [hPre_one_layer : Cert.Pre_one_layer.Facts] (m : (ℓ : Loc Cert.DenseRefIdeal.nD Cert.DenseRefIdeal.τ Cert.DenseRefIdeal.sig) → Buf (Elt Ideal) ℓ) : Prop :=
  ∀ c : Dev Cert.DenseRefIdeal.nD,
    (Cert.Pre_one_layer.fn (F := Ideal) (m ((c.tc : Thread Cert.DenseRefIdeal.nD Cert.DenseRefIdeal.τ).loc Cert.DenseRefIdeal.main_arg0)) (m ((c.tc : Thread Cert.DenseRefIdeal.nD Cert.DenseRefIdeal.τ).loc Cert.DenseRefIdeal.main_arg1)) (m ((c.tc : Thread Cert.DenseRefIdeal.nD Cert.DenseRefIdeal.τ).loc Cert.DenseRefIdeal.main_arg2)) (m ((c.tc : Thread Cert.DenseRefIdeal.nD Cert.DenseRefIdeal.τ).loc Cert.DenseRefIdeal.main_arg3)) (m ((c.tc : Thread Cert.DenseRefIdeal.nD Cert.DenseRefIdeal.τ).loc Cert.DenseRefIdeal.main_arg4)) (m ((c.tc : Thread Cert.DenseRefIdeal.nD Cert.DenseRefIdeal.τ).loc Cert.DenseRefIdeal.main_arg5)) (m ((c.tc : Thread Cert.DenseRefIdeal.nD Cert.DenseRefIdeal.τ).loc Cert.DenseRefIdeal.main_arg6)) (m ((c.tc : Thread Cert.DenseRefIdeal.nD Cert.DenseRefIdeal.τ).loc Cert.DenseRefIdeal.main_arg7))) = (fun _ => 1#1)

def Pre_Experts [hPre_expert_range : Cert.Pre_expert_range.Facts] (m : (ℓ : Loc Cert.Experts.nD Cert.Experts.τ Cert.Experts.sig) → Buf (Elt Bits) ℓ) : Prop :=
  ∀ c : Dev Cert.Experts.nD,
    (Cert.Pre_expert_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_expert_range : Cert.Pre_expert_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_expert_range [hPre_expert_range : Cert.Pre_expert_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_expert_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5))
      ∧ r.2.sem = fun _ => 0)

def quiescent_Dense [hDense : Cert.Dense.Facts] [hPre_one_layer : Cert.Pre_one_layer.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] [hPre_one_layer : Cert.Pre_one_layer.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6)
      ∧ r.2.mem ((c.tc : Thread Cert.DenseRefIdeal.nD Cert.DenseRefIdeal.τ).loc Cert.DenseRefIdeal.main_arg7) = m ((c.tc : Thread Cert.DenseRefIdeal.nD Cert.DenseRefIdeal.τ).loc Cert.DenseRefIdeal.main_arg7))
      ∧ r.2.sem = fun _ => 0)

def quiescent_DenseRefIdeal_pre_one_layer [hDenseRefIdeal : Cert.DenseRefIdeal.Facts] [hPre_one_layer : Cert.Pre_one_layer.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal_one_layer m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6)
      ∧ r.2.mem ((c.tc : Thread Cert.DenseRefIdeal.nD Cert.DenseRefIdeal.τ).loc Cert.DenseRefIdeal.main_arg7) = m ((c.tc : Thread Cert.DenseRefIdeal.nD Cert.DenseRefIdeal.τ).loc Cert.DenseRefIdeal.main_arg7))
      ∧ r.2.sem = fun _ => 0)

def quiescent_Experts [hExperts : Cert.Experts.Facts] [hPre_expert_range : Cert.Pre_expert_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_expert_range : Cert.Pre_expert_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_expert_range [hExpertsRefIdeal : Cert.ExpertsRefIdeal.Facts] [hPre_expert_range : Cert.Pre_expert_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_expert_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v9) = v0 c
          ∧ r.2.mem ((c.tc : Thread Cert.InprojRefIdeal.nD Cert.InprojRefIdeal.τ).loc Cert.InprojRefIdeal.main_v10) = v1 c
          ∧ r.2.mem ((c.tc : Thread Cert.InprojRefIdeal.nD Cert.InprojRefIdeal.τ).loc Cert.InprojRefIdeal.main_v11) = v2 c
          ∧ r.2.mem ((c.tc : Thread Cert.InprojRefIdeal.nD Cert.InprojRefIdeal.τ).loc Cert.InprojRefIdeal.main_v6) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v2) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v31) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5))

def preserves_Dense_DenseIdeal : Prop :=
  True

def algebraic_DenseIdeal_DenseRefIdeal [hDenseIdeal : Cert.DenseIdeal.Facts] [hDenseRefIdeal : Cert.DenseRefIdeal.Facts] [hPre_one_layer : Cert.Pre_one_layer.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)
      ∧ m' ((c.tc : Thread Cert.DenseRefIdeal.nD Cert.DenseRefIdeal.τ).loc Cert.DenseRefIdeal.main_arg7) = m ((c.tc : Thread Cert.DenseIdeal.nD Cert.DenseIdeal.τ).loc Cert.DenseIdeal.main_arg7)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v54) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6)
          ∧ r.2.mem ((c.tc : Thread Cert.DenseRefIdeal.nD Cert.DenseRefIdeal.τ).loc Cert.DenseRefIdeal.main_arg7) = m' ((c.tc : Thread Cert.DenseRefIdeal.nD Cert.DenseRefIdeal.τ).loc Cert.DenseRefIdeal.main_arg7))

def preserves_Experts_ExpertsIdeal : Prop :=
  True

def algebraic_ExpertsIdeal_ExpertsRefIdeal [hExpertsIdeal : Cert.ExpertsIdeal.Facts] [hExpertsRefIdeal : Cert.ExpertsRefIdeal.Facts] [hPre_expert_range : Cert.Pre_expert_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v33) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hDense : Cert.Dense.Facts) (hDenseIdeal : Cert.DenseIdeal.Facts) (hDenseRefIdeal : Cert.DenseRefIdeal.Facts) (hExperts : Cert.Experts.Facts) (hExpertsIdeal : Cert.ExpertsIdeal.Facts) (hExpertsRefIdeal : Cert.ExpertsRefIdeal.Facts) (hPre_finite : Cert.Pre_finite.Facts) (hPre_one_layer : Cert.Pre_one_layer.Facts) (hPre_expert_range : Cert.Pre_expert_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Dense (hDense := hDense) (hPre_one_layer := hPre_one_layer)
    ∧ quiescent_DenseIdeal (hDenseIdeal := hDenseIdeal) (hPre_one_layer := hPre_one_layer)
    ∧ quiescent_DenseRefIdeal (hDenseRefIdeal := hDenseRefIdeal)
    ∧ quiescent_DenseRefIdeal_pre_one_layer (hDenseRefIdeal := hDenseRefIdeal) (hPre_one_layer := hPre_one_layer)
    ∧ quiescent_Experts (hExperts := hExperts) (hPre_expert_range := hPre_expert_range)
    ∧ quiescent_ExpertsIdeal (hExpertsIdeal := hExpertsIdeal) (hPre_expert_range := hPre_expert_range)
    ∧ quiescent_ExpertsRefIdeal (hExpertsRefIdeal := hExpertsRefIdeal)
    ∧ quiescent_ExpertsRefIdeal_pre_expert_range (hExpertsRefIdeal := hExpertsRefIdeal) (hPre_expert_range := hPre_expert_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Dense_DenseIdeal
    ∧ algebraic_DenseIdeal_DenseRefIdeal (hDenseIdeal := hDenseIdeal) (hDenseRefIdeal := hDenseRefIdeal) (hPre_one_layer := hPre_one_layer)
    ∧ preserves_Experts_ExpertsIdeal
    ∧ algebraic_ExpertsIdeal_ExpertsRefIdeal (hExpertsIdeal := hExpertsIdeal) (hExpertsRefIdeal := hExpertsRefIdeal) (hPre_expert_range := hPre_expert_range)
-- ==== Pre_expert_range.lean ====
abbrev S40 : Shape := ⟨1, ![40]⟩
abbrev S1 : Shape := ⟨1, ![1]⟩
abbrev S40960x1024 : Shape := ⟨2, ![40960, 1024]⟩
abbrev S16x1024x2816 : Shape := ⟨3, ![16, 1024, 2816]⟩
abbrev S16x2816x1024 : Shape := ⟨3, ![16, 2816, 1024]⟩
abbrev S_ : Shape := ⟨0, ![]⟩

class Facts : Prop where
  bcast_S_S40 : S_.BroadcastsInDim S40 (![] : Fin 0 → Fin S40.rank)
  bcast_S_S1 : S_.BroadcastsInDim S1 (![] : Fin 0 → Fin S1.rank)
  bcast_S1_S40_0 : S1.BroadcastsInDim S40 (![0] : Fin 1 → Fin S40.rank)

variable [Facts]

def fn {F : FTy → Type} [FloatOps F] (main_arg0 : IVec S40 32) (main_arg1 : IVec S1 32) (main_arg2 : FVec F S40960x1024 .f32) (main_arg3 : FVec F S16x1024x2816 .f32) (main_arg4 : FVec F S16x1024x2816 .f32) (main_arg5 : FVec F S16x2816x1024 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 16#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S40 1 := broadcastInDim S40 ![0] bcast_S1_S40_0 main_v6
  let main_v8 : IVec S40 1 := andi main_v4 main_v7
  let main_c_2 : IVec S_ 32 := constantI S_ 32 40#32
  let main_v9 : IVec S1 32 := broadcastInDim S1 ![] bcast_S_S1 main_c_2
  let main_v10 : IVec S1 1 := cmpi .sle main_arg1 main_v9
  let main_v11 : IVec S40 1 := broadcastInDim S40 ![0] bcast_S1_S40_0 main_v10
  let main_v12 : IVec S40 1 := andi main_v8 main_v11
  main_v12
-- ==== Pre_finite.lean ====
abbrev S16384x512 : Shape := ⟨2, ![16384, 512]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S4x64 : S_.BroadcastsInDim S4x64 (![] : Fin 0 → Fin S4x64.rank)

variable [Facts]

def fn {F : FTy → Type} [FloatOps F] (main_arg0 : FVec F S16384x512 .bf16) (main_arg1 : FVec F S16384x512 .bf16) (main_arg2 : FVec F S16384x512 .bf16) (main_arg3 : FVec F S4x64 .f32) (main_arg4 : FVec F S128 .f32) : IVec S16384x512 1 × IVec S16384x512 1 × IVec S16384x512 1 × IVec S4x64 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : FVec F S16384x512 .f32 := (extf .f32 · bitsLt_bf16_f32) main_arg2
  let main_v9 : FVec F S16384x512 .f32 := Host.absf main_v8
  let main_cst_1 : FVec F S_ .f32 := constant S_ .f32 0x7F800000#32
  let main_v10 : FVec F S16384x512 .f32 := broadcastInDim S16384x512 ![] bcast_S_S16384x512 main_cst_1
  let main_v11 : IVec S16384x512 1 := cmpf .olt main_v9 main_v10
  let main_v12 : FVec F S4x64 .f32 := Host.absf main_arg3
  let main_cst_2 : FVec F S_ .f32 := constant S_ .f32 0x7F800000#32
  let main_v13 : FVec F S4x64 .f32 := broadcastInDim S4x64 ![] bcast_S_S4x64 main_cst_2
  let main_v14 : IVec S4x64 1 := cmpf .olt main_v12 main_v13
  (main_v3, main_v7, main_v11, main_v14)
-- ==== Pre_one_layer.lean ====
abbrev S16 : Shape := ⟨1, ![16]⟩
abbrev S1 : Shape := ⟨1, ![1]⟩
abbrev S16384x1024 : Shape := ⟨2, ![16384, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S_ : Shape := ⟨0, ![]⟩

class Facts : Prop where
  bcast_S_S16 : S_.BroadcastsInDim S16 (![] : Fin 0 → Fin S16.rank)
  slices_S16_S1_0 : S16.Slices ![0] S1
  bcast_S1_S16_0 : S1.BroadcastsInDim S16 (![0] : Fin 1 → Fin S16.rank)
  bcast_S_S1 : S_.BroadcastsInDim S1 (![] : Fin 0 → Fin S1.rank)

variable [Facts]

def fn {F : FTy → Type} [FloatOps F] (main_arg0 : IVec S16 32) (main_arg1 : IVec S1 32) (main_arg2 : FVec F S16384x1024 .f32) (main_arg3 : FVec F S2x1024x2816 .f32) (main_arg4 : FVec F S2x1024x2816 .f32) (main_arg5 : FVec F S2x2816x1024 .f32) (main_arg6 : FVec F S1x1024 .f32) (main_arg7 : FVec F S1x1024 .f32) : IVec S16 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 2#32
  let main_v2 : IVec S16 32 := broadcastInDim S16 ![] bcast_S_S16 main_c_0
  let main_v3 : IVec S16 1 := cmpi .slt main_arg0 main_v2
  let main_v4 : IVec S16 1 := andi main_v1 main_v3
  let main_v5 : IVec S1 32 := (extractStridedSlice S1 ![0] · slices_S16_S1_0) main_arg0
  let main_v6 : IVec S16 32 := broadcastInDim S16 ![0] bcast_S1_S16_0 main_v5
  let main_v7 : IVec S16 1 := cmpi .eq main_arg0 main_v6
  let main_v8 : IVec S16 1 := andi main_v4 main_v7
  let main_c_1 : IVec S_ 32 := constantI S_ 32 16#32
  let main_v9 : IVec S1 32 := broadcastInDim S1 ![] bcast_S_S1 main_c_1
  let main_v10 : IVec S1 1 := cmpi .eq main_arg1 main_v9
  let main_v11 : IVec S16 1 := broadcastInDim S16 ![0] bcast_S1_S16_0 main_v10
  let main_v12 : IVec S16 1 := andi main_v8 main_v11
  main_v12
-- ==== Kernel.lean ====
abbrev S16384x512 : Shape := ⟨2, ![16384, 512]⟩
abbrev S4x64 : Shape := ⟨2, ![4, 64]⟩
abbrev S128 : Shape := ⟨1, ![128]⟩
abbrev S1x128 : Shape := ⟨2, ![1, 128]⟩
abbrev S2048x128 : Shape := ⟨2, ![2048, 128]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S512x256 : Shape := ⟨2, ![512, 256]⟩
abbrev S512x128 : Shape := ⟨2, ![512, 128]⟩
abbrev S512x1 : Shape := ⟨2, ![512, 1]⟩
abbrev S512 : Shape := ⟨1, ![512]⟩
abbrev S256x1 : Shape := ⟨2, ![256, 1]⟩
abbrev S256 : Shape := ⟨1, ![256]⟩

abbrev nBuf : Space → Nat
  | .hbm => 7
  | .vmem => 10
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S16384x512, .bf16⟩
  | .local _ .vmem, ⟨0, _⟩ => ⟨S4x64, .f32⟩
  | .local _ .vmem, ⟨1, _⟩ => ⟨S1x128, .f32⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_19 : BitVec 32 := 0#32
  let c8_i32 : BitVec 32 := 8#32
  let v79 : BitVec 32 := Scalar.addi c0_i32_19 c8_i32
  let c1_i32_20 : BitVec 32 := 1#32
  ⟨c0_i32_19, v79, c1_i32_20⟩
def k0_mult1 (k0_t1 : Fin k0_t1_loop.trips) : BitVec 32 :=
  let c0_i32_19 : BitVec 32 := 0#32
  let c1_i32_20 : BitVec 32 := 1#32
  let arg8 : BitVec 32 := Scf.iv c0_i32_19 c1_i32_20 k0_t1
  let c256_i32_22 : BitVec 32 := 256#32
  let v80 : BitVec 32 := Scalar.muli arg8 c256_i32_22
  v80
def k0_off1 (k0_t1 : Fin k0_t1_loop.trips) : Fin 2 → Nat :=
  let c0_i32_19 : BitVec 32 := 0#32
  let c1_i32_20 : BitVec 32 := 1#32
  let arg8 : BitVec 32 := Scf.iv c0_i32_19 c1_i32_20 k0_t1
  let c256_i32_22 : BitVec 32 := 256#32
  let v80 : BitVec 32 := Scalar.muli arg8 c256_i32_22
  let v81 : BitVec 32 := v80
  let v82 : Index := Scalar.indexCast v81
  let c0_23 : Index := 0#32
  ![v82.toNat, 0]
@[reducible] def k0_t2_loop (k0_t1 : Fin k0_t1_loop.trips) : Scf.Loop 32 :=
  let c0_i32_28 : BitVec 32 := 0#32
  let c0_i32_19 : BitVec 32 := 0#32
  let c1_i32_20 : BitVec 32 := 1#32
  let arg8 : BitVec 32 := Scf.iv c0_i32_19 c1_i32_20 k0_t1
  let v91 : BitVec 32 := Scalar.subi arg8 c0_i32_28
  let c1_i32_29 : BitVec 32 := 1#32
  let v93 : BitVec 32 := Scalar.divsi v91 c1_i32_29
  let v94 : BitVec 32 := Scalar.muli v93 c1_i32_29
  let v95 : BitVec 32 := Scalar.addi c0_i32_28 v94
  let c1_i32_30 : BitVec 32 := 1#32
  ⟨c0_i32_28, v95, c1_i32_30⟩
def k0_mult2 (k0_t1 : Fin k0_t1_loop.trips) (k0_t2 : Fin (k0_t2_loop k0_t1).trips) : BitVec 32 :=
  let c0_i32_28 : BitVec 32 := 0#32
  let c1_i32_30 : BitVec 32 := 1#32
  let arg9 : BitVec 32 := Scf.iv c0_i32_28 c1_i32_30 k0_t2
  let c256_i32_45 : BitVec 32 := 256#32
  let v152 : BitVec 32 := Scalar.muli arg9 c256_i32_45
  v152
def k0_off2 (k0_t1 : Fin k0_t1_loop.trips) (k0_t2 : Fin (k0_t2_loop k0_t1).trips) : Fin 2 → Nat :=
  let c0_i32_28 : BitVec 32 := 0#32
  let c1_i32_30 : BitVec 32 := 1#32
  let arg9 : BitVec 32 := Scf.iv c0_i32_28 c1_i32_30 k0_t2
  let c256_i32_45 : BitVec 32 := 256#32
  let v152 : BitVec 32 := Scalar.muli arg9 c256_i32_45
  let v153 : BitVec 32 := v152
  let v154 : Index := Scalar.indexCast v153
  let c0_46 : Index := 0#32
  ![v154.toNat, 0]
@[reducible] def k0_t3_loop (k0_t1 : Fin k0_t1_loop.trips) : Scf.Loop 32 :=
  let c0_i32_28 : BitVec 32 := 0#32
  let c0_i32_19 : BitVec 32 := 0#32
  let c1_i32_20 : BitVec 32 := 1#32
  let arg8 : BitVec 32 := Scf.iv c0_i32_19 c1_i32_20 k0_t1
  let v91 : BitVec 32 := Scalar.subi arg8 c0_i32_28
  let c1_i32_29 : BitVec 32 := 1#32
  let v93 : BitVec 32 := Scalar.divsi v91 c1_i32_29
  let v94 : BitVec 32 := Scalar.muli v93 c1_i32_29
  let v95 : BitVec 32 := Scalar.addi c0_i32_28 v94
  let v92 : BitVec 32 := Scalar.addi c0_i32_28 v91
  let c1_i32_31 : BitVec 32 := 1#32
  ⟨v95, v92, c1_i32_31⟩
def k0_mult3 (k0_t1 : Fin k0_t1_loop.trips) (k0_t3 : Fin (k0_t3_loop k0_t1).trips) : BitVec 32 :=
  let c0_i32_28 : BitVec 32 := 0#32
  let c0_i32_19 : BitVec 32 := 0#32
  let c1_i32_20 : BitVec 32 := 1#32
  let arg8 : BitVec 32 := Scf.iv c0_i32_19 c1_i32_20 k0_t1
  let v91 : BitVec 32 := Scalar.subi arg8 c0_i32_28
  let c1_i32_29 : BitVec 32 := 1#32
  let v93 : BitVec 32 := Scalar.divsi v91 c1_i32_29
  let v94 : BitVec 32 := Scalar.muli v93 c1_i32_29
  let v95 : BitVec 32 := Scalar.addi c0_i32_28 v94
  let c1_i32_31 : BitVec 32 := 1#32
  let arg9 : BitVec 32 := Scf.iv v95 c1_i32_31 k0_t3
  let c256_i32_45 : BitVec 32 := 256#32
  let v152 : BitVec 32 := Scalar.muli arg9 c256_i32_45
  v152
def k0_off3 (k0_t1 : Fin k0_t1_loop.trips) (k0_t3 : Fin (k0_t3_loop k0_t1).trips) : Fin 2 → Nat :=
  let c0_i32_28 : BitVec 32 := 0#32
  let c0_i32_19 : BitVec 32 := 0#32
  let c1_i32_20 : BitVec 32 := 1#32
  let arg8 : BitVec 32 := Scf.iv c0_i32_19 c1_i32_20 k0_t1
  let v91 : BitVec 32 := Scalar.subi arg8 c0_i32_28
  let c1_i32_29 : BitVec 32 := 1#32
  let v93 : BitVec 32 := Scalar.divsi v91 c1_i32_29
  let v94 : BitVec 32 := Scalar.muli v93 c1_i32_29
  let v95 : BitVec 32 := Scalar.addi c0_i32_28 v94
  let c1_i32_31 : BitVec 32 := 1#32
  let arg9 : BitVec 32 := Scf.iv v95 c1_i32_31 k0_t3
  let c256_i32_45 : BitVec 32 := 256#32
  let v152 : BitVec 32 := Scalar.muli arg9 c256_i32_45
  let v153 : BitVec 32 := v152
  let v154 : Index := Scalar.indexCast v153
  let c0_46 : Index := 0#32
  ![v154.toNat, 0]
def k0_mult4 (k0_t1 : Fin k0_t1_loop.trips) : BitVec 32 :=
  let c0_i32_19 : BitVec 32 := 0#32
  let c1_i32_20 : BitVec 32 := 1#32
  let arg8 : BitVec 32 := Scf.iv c0_i32_19 c1_i32_20 k0_t1
  let c256_i32_32 : BitVec 32 := 256#32
  let v98 : BitVec 32 := Scalar.muli arg8 c256_i32_32
  v98
def k0_mult5 (k0_t1 : Fin k0_t1_loop.trips) : BitVec 32 :=
  let c0_i32_19 : BitVec 32 := 0#32
  let c1_i32_20 : BitVec 32 := 1#32
  let arg8 : BitVec 32 := Scf.iv c0_i32_19 c1_i32_20 k0_t1
  let c256_i32_43 : BitVec 32 := 256#32
  let v148 : BitVec 32 := Scalar.muli arg8 c256_i32_43
  v148
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S4x64 : Shape := ⟨2, ![4, 64]⟩
abbrev S128 : Shape := ⟨1, ![128]⟩
abbrev S8x2048x4x2x64 : Shape := ⟨5, ![8, 2048, 4, 2, 64]⟩
abbrev S8x2048x4x128 : Shape := ⟨4, ![8, 2048, 4, 128]⟩
abbrev S1x64 : Shape := ⟨2, ![1, 64]⟩
abbrev S64 : Shape := ⟨1, ![64]⟩
abbrev S_ : Shape := ⟨0, ![]⟩
abbrev S8x4x2x2048x2048 : Shape := ⟨5, ![8, 4, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 104
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S4x64, .f32⟩
  | .hbm, ⟨4, _⟩ => ⟨S128, .f32⟩
  | .hbm, ⟨5, _⟩ => ⟨S16384x512, .f32⟩
  | .hbm, ⟨6, _⟩ => ⟨S8x2048x4x2x64, .f32⟩
  | .hbm, ⟨7, _⟩ => ⟨S16384x512, .f32⟩
  | .hbm, ⟨8, _⟩ => ⟨S8x2048x4x2x64, .f32⟩
  | .hbm, ⟨9, _⟩ => ⟨S16384x512, .f32⟩
  | .hbm, ⟨10, _⟩ => ⟨S8x2048x4x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x4x2x2048x2048, .f32⟩
  | .hbm, ⟨31, _⟩ => ⟨S2048, .i32⟩
  | .hbm, ⟨32, _⟩ => ⟨S_, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S2048, .i1⟩
  | .hbm, ⟨46, _⟩ => ⟨S_, .i32⟩
  | .hbm, ⟨47, _⟩ => ⟨S2048, .i32⟩
  | .hbm, ⟨48, _⟩ => ⟨S2048, .i32⟩
  | .hbm, ⟨49, _⟩ => ⟨S2048, .i32⟩
  | .hbm, ⟨50, _⟩ => ⟨S1x2048, .i32⟩
  | .hbm, ⟨51, _⟩ => ⟨S2048x1, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S_, .f32⟩
  | .hbm, ⟨56, _⟩ => ⟨S_, .f32⟩
  | .hbm, ⟨57, _⟩ => ⟨S8x4x2x2048x2048, .i1⟩
  | .hbm, ⟨58, _⟩ => ⟨S8x4x2x2048x2048, .f32⟩
  | .hbm, ⟨59, _⟩ => ⟨S8x4x2x2048x2048, .f32⟩
  | .hbm, ⟨60, _⟩ => ⟨S_, .f32⟩
  | .hbm, ⟨61, _⟩ => ⟨S8x4x2x2048, .f32⟩
  | .hbm, ⟨62, _⟩ => ⟨S_, .f32⟩
  | .hbm, ⟨63, _⟩ => ⟨S8x4x2x2048, .f32⟩
  | .hbm, ⟨64, _⟩ => ⟨S8x4x2x2048, .f32⟩
  | .hbm, ⟨65, _⟩ => ⟨S8x4x2x2048x1, .f32⟩
  | .hbm, ⟨66, _⟩ => ⟨S8x4x2x2048x2048, .f32⟩
  | .hbm, ⟨67, _⟩ => ⟨S8x4x2x2048x2048, .f32⟩
  | .hbm, ⟨68, _⟩ => ⟨S8x4x2x2048x2048, .f32⟩
  | .hbm, ⟨69, _⟩ => ⟨S_, .f32⟩
  | .hbm, ⟨70, _⟩ => ⟨S8x4x2x2048, .f32⟩
  | .hbm, ⟨71, _⟩ => ⟨S8x4x2x2048x1, .f32⟩
  | .hbm, ⟨72, _⟩ => ⟨S8x4x2x2048x2048, .f32⟩
  | .hbm, ⟨73, _⟩ => ⟨S8x4x2x2048x2048, .f32⟩
  | .hbm, ⟨74, _⟩ => ⟨S8x4x1x2048x2048, .f32⟩
  | .hbm, ⟨75, _⟩ => ⟨S8x4x2048x2048, .f32⟩
  | .hbm, ⟨76, _⟩ => ⟨S8x4x1x2048x2048, .f32⟩
  | .hbm, ⟨77, _⟩ => ⟨S8x4x2048x2048, .f32⟩
  | .hbm, ⟨78, _⟩ => ⟨S8x4x2048x2048, .f32⟩
  | .hbm, ⟨79, _⟩ => ⟨S8x4x2048x2048, .f32⟩
  | .hbm, ⟨80, _⟩ => ⟨S8x4x2048x2048, .f32⟩
  | .hbm, ⟨81, _⟩ => ⟨S8x4x128x2048, .f32⟩
  | .hbm, ⟨82, _⟩ => ⟨S8x2048x4x128, .f32⟩
  | .hbm, ⟨83, _⟩ => ⟨S8x2048x4x128, .f32⟩
  | .hbm, ⟨84, _⟩ => ⟨S_, .f32⟩
  | .hbm, ⟨85, _⟩ => ⟨S8x2048x4, .f32⟩
  | .hbm, ⟨86, _⟩ => ⟨S8x2048x4x1, .f32⟩
  | .hbm, ⟨87, _⟩ => ⟨S_, .f32⟩
  | .hbm, ⟨88, _⟩ => ⟨S8x2048x4x1, .f32⟩
  | .hbm, ⟨89, _⟩ => ⟨S8x2048x4x1, .f32⟩
  | .hbm, ⟨90, _⟩ => ⟨S_, .f32⟩
  | .hbm, ⟨91, _⟩ => ⟨S8x2048x4x1, .f32⟩
  | .hbm, ⟨92, _⟩ => ⟨S8x2048x4x1, .f32⟩
  | .hbm, ⟨93, _⟩ => ⟨S8x2048x4x1, .f32⟩
  | .hbm, ⟨94, _⟩ => ⟨S8x2048x4x128, .f32⟩
  | .hbm, ⟨95, _⟩ => ⟨S8x2048x4x128, .f32⟩
  | .hbm, ⟨96, _⟩ => ⟨S1x1x1x128, .f32⟩
  | .hbm, ⟨97, _⟩ => ⟨S8x2048x4x128, .f32⟩
  | .hbm, ⟨98, _⟩ => ⟨S8x2048x4x128, .f32⟩
  | .hbm, ⟨99, _⟩ => ⟨S_, .f32⟩
  | .hbm, ⟨100, _⟩ => ⟨S8x2048x4x128, .f32⟩
  | .hbm, ⟨101, _⟩ => ⟨S8x2048x4x128, .f32⟩
  | .hbm, ⟨102, _⟩ => ⟨S16384x512, .f32⟩
  | .hbm, ⟨103, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_2 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v30 : Ref sig .tc := ⟨.hbm, 59, rfl⟩
abbrev main_cst_3 : Ref sig .tc := ⟨.hbm, 60, rfl⟩
abbrev main_v31 : Ref sig .tc := ⟨.hbm, 61, rfl⟩
abbrev main_cst_4 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_6 : Ref sig .tc := ⟨.hbm, 84, rfl⟩
abbrev main_v52 : Ref sig .tc := ⟨.hbm, 85, rfl⟩
abbrev main_v53 : Ref sig .tc := ⟨.hbm, 86, rfl⟩
abbrev main_cst_7 : Ref sig .tc := ⟨.hbm, 87, rfl⟩
abbrev main_v54 : Ref sig .tc := ⟨.hbm, 88, rfl⟩
abbrev main_v55 : Ref sig .tc := ⟨.hbm, 89, rfl⟩
abbrev main_cst_8 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_9 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩

abbrev nD : Nat := 1
abbrev τ : Topo := Topo.v7x

variable {F : FTy → Type} [FloatOps F]
-- ==== Inproj.lean ====
abbrev S16384x1024 : Shape := ⟨2, ![16384, 1024]⟩
abbrev S4x1024x2304 : Shape := ⟨3, ![4, 1024, 2304]⟩
abbrev S16384x512 : Shape := ⟨2, ![16384, 512]⟩
abbrev S16384x768 : Shape := ⟨2, ![16384, 768]⟩
abbrev S512x1024 : Shape := ⟨2, ![512, 1024]⟩
abbrev S1x1024x2304 : Shape := ⟨3, ![1, 1024, 2304]⟩
abbrev S512x512 : Shape := ⟨2, ![512, 512]⟩
abbrev S512x768 : Shape := ⟨2, ![512, 768]⟩
abbrev S1024x2304 : Shape := ⟨2, ![1024, 2304]⟩
abbrev S1x1024x256 : Shape := ⟨3, ![1, 1024, 256]⟩
abbrev S1024x256 : Shape := ⟨2, ![1024, 256]⟩
abbrev S1024x512 : Shape := ⟨2, ![1024, 512]⟩
abbrev S1024x768 : Shape := ⟨2, ![1024, 768]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S4x1024x2304, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x768, .f32⟩
  | .local _ .vmem, ⟨0, _⟩ => ⟨S512x1024, .f32⟩
  | .local _ .vmem, ⟨1, _⟩ => ⟨S512x1024, .f32⟩
  | .local _ .vmem, ⟨2, _⟩ => ⟨S1x1024x2304, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x768, .f32⟩
  | .local _ .vmem, ⟨10, _⟩ => ⟨S512x768, .f32⟩
  | .local _ .vmem, ⟨11, _⟩ => ⟨S1024x2304, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojRefIdeal.lean ====
abbrev S16384x1024 : Shape := ⟨2, ![16384, 1024]⟩
abbrev S4x1024x2304 : Shape := ⟨3, ![4, 1024, 2304]⟩
abbrev S1x1024x2304 : Shape := ⟨3, ![1, 1024, 2304]⟩
abbrev S1024x2304 : Shape := ⟨2, ![1024, 2304]⟩
abbrev S16384x2304 : Shape := ⟨2, ![16384, 2304]⟩
abbrev S16384x512 : Shape := ⟨2, ![16384, 512]⟩
abbrev S16384x768 : Shape := ⟨2, ![16384, 768]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x2304, .f32⟩
  | .hbm, ⟨2, _⟩ => ⟨S1x1024x2304, .f32⟩
  | .hbm, ⟨3, _⟩ => ⟨S1024x2304, .f32⟩
  | .hbm, ⟨4, _⟩ => ⟨S16384x2304, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x768, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S16384x512, .bf16⟩
  | .hbm, ⟨13, _⟩ => ⟨S16384x512, .bf16⟩
  | .hbm, ⟨14, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Outproj.lean ====
abbrev S16384x512 : Shape := ⟨2, ![16384, 512]⟩
abbrev S16384x1024 : Shape := ⟨2, ![16384, 1024]⟩
abbrev S4x1024x1024 : Shape := ⟨3, ![4, 1024, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S1x1024x1024 : Shape := ⟨3, ![1, 1024, 1024]⟩
abbrev S1024x1024 : Shape := ⟨2, ![1024, 1024]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S4x1024x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x1024x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutprojRefIdeal.lean ====
abbrev S16384x512 : Shape := ⟨2, ![16384, 512]⟩
abbrev S16384x1024 : Shape := ⟨2, ![16384, 1024]⟩
abbrev S4x1024x1024 : Shape := ⟨3, ![4, 1024, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S4x1024x1024, .f32⟩
  | .hbm, ⟨4, _⟩ => ⟨S1024, .f32⟩
  | .hbm, ⟨5, _⟩ => ⟨S1024, .f32⟩
  | .hbm, ⟨6, _⟩ => ⟨S16384x1024, .bf16⟩
  | .hbm, ⟨7, _⟩ => ⟨S16384x1024, .f32⟩
  | .hbm, ⟨8, _⟩ => ⟨S1x1024x1024, .f32⟩
  | .hbm, ⟨9, _⟩ => ⟨S1024x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Dense.lean ====
abbrev S16 : Shape := ⟨1, ![16]⟩
abbrev S1 : Shape := ⟨1, ![1]⟩
abbrev S16384x1024 : Shape := ⟨2, ![16384, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S1024 : Shape := ⟨1, ![1024]⟩
abbrev S1024x1 : Shape := ⟨2, ![1024, 1]⟩

abbrev nBuf : Space → Nat
  | .hbm => 7
  | .vmem => 14
  | .smem => 2
  | _ => 0

abbrev bufTy : (tb : Table) → Fin (tcTables nBuf tb) → BufTy
  | .hbm, ⟨0, _⟩ => ⟨S16384x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S1x1024, .f32⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | .local _ .smem, ⟨0, _⟩ => ⟨S16, .i32⟩
  | .local _ .smem, ⟨1, _⟩ => ⟨S1, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c10_i32 : BitVec 32 := 10#32
  let v8 : BitVec 1 := Scalar.cmpi .eq arg1 c10_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c0_i32_3 : BitVec 32 := 0#32
  let v13 : BitVec 1 := Scalar.cmpi .eq arg1 c0_i32_3
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S16.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DenseRefIdeal.lean ====
abbrev S16 : Shape := ⟨1, ![16]⟩
abbrev S1 : Shape := ⟨1, ![1]⟩
abbrev S16384x1024 : Shape := ⟨2, ![16384, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S_ : Shape := ⟨0, ![]⟩
abbrev S1x1 : Shape := ⟨2, ![1, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩
abbrev S16384 : Shape := ⟨1, ![16384]⟩
abbrev S16384x1 : Shape := ⟨2, ![16384, 1]⟩

abbrev nBuf : Space → Nat
  | .hbm => 83
  | .vmem => 0
  | .smem => 0
  | _ => 0

abbrev bufTy : (tb : Table) → Fin (tcTables nBuf tb) → BufTy
  | .hbm, ⟨0, _⟩ => ⟨S16, .i32⟩
  | .hbm, ⟨1, _⟩ => ⟨S1, .i32⟩
  | .hbm, ⟨2, _⟩ => ⟨S16384x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x1024, .f32⟩
  | .hbm, ⟨7, _⟩ => ⟨S1x1024, .f32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i1⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1x1, .i32⟩
  | .hbm, ⟨17, _⟩ => ⟨S1x1024x2816, .f32⟩
  | .hbm, ⟨18, _⟩ => ⟨S1024x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S_, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .i32⟩
  | .hbm, ⟨30, _⟩ => ⟨S1, .i32⟩
  | .hbm, ⟨31, _⟩ => ⟨S1, .i1⟩
  | .hbm, ⟨32, _⟩ => ⟨S_, .i32⟩
  | .hbm, ⟨33, _⟩ => ⟨S1, .i32⟩
  | .hbm, ⟨34, _⟩ => ⟨S1, .i32⟩
  | .hbm, ⟨35, _⟩ => ⟨S1, .i32⟩
  | .hbm, ⟨36, _⟩ => ⟨S1x1, .i32⟩
  | .hbm, ⟨37, _⟩ => ⟨S1x1024x2816, .f32⟩
  | .hbm, ⟨38, _⟩ => ⟨S1024x2816, .f32⟩
  | .hbm, ⟨39, _⟩ => ⟨S16384x2816, .f32⟩
  | .hbm, ⟨40, _⟩ => ⟨S16384x2816, .f32⟩
  | .hbm, ⟨41, _⟩ => ⟨S_, .i32⟩
  | .hbm, ⟨42, _⟩ => ⟨S1, .i32⟩
  | .hbm, ⟨43, _⟩ => ⟨S1, .i1⟩
  | .hbm, ⟨44, _⟩ => ⟨S_, .i32⟩
  | .hbm, ⟨45, _⟩ => ⟨S1, .i32⟩
  | .hbm, ⟨46, _⟩ => ⟨S1, .i32⟩
  | .hbm, ⟨47, _⟩ => ⟨S1, .i32⟩
  | .hbm, ⟨48, _⟩ => ⟨S1x1, .i32⟩
  | .hbm, ⟨49, _⟩ => ⟨S1x2816x1024, .f32⟩
  | .hbm, ⟨50, _⟩ => ⟨S2816x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Experts.lean ====
abbrev S40 : Shape := ⟨1, ![40]⟩
abbrev S1 : Shape := ⟨1, ![1]⟩
abbrev S40960x1024 : Shape := ⟨2, ![40960, 1024]⟩
abbrev S16x1024x2816 : Shape := ⟨3, ![16, 1024, 2816]⟩
abbrev S16x2816x1024 : Shape := ⟨3, ![16, 2816, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩

abbrev nBuf : Space → Nat
  | .hbm => 5
  | .vmem => 12
  | .smem => 2
  | _ => 0

abbrev bufTy : (tb : Table) → Fin (tcTables nBuf tb) → BufTy
  | .hbm, ⟨0, _⟩ => ⟨S40960x1024, .f32⟩
  | .hbm, ⟨1, _⟩ => ⟨S16x1024x2816, .f32⟩
  | .hbm, ⟨2, _⟩ => ⟨S16x1024x2816, .f32⟩
  | .hbm, ⟨3, _⟩ => ⟨S16x2816x1024, .f32⟩
  | .hbm, ⟨4, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S40, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c10_i32 : BitVec 32 := 10#32
  let v8 : BitVec 1 := Scalar.cmpi .eq arg1 c10_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c0_i32_3 : BitVec 32 := 0#32
  let v13 : BitVec 1 := Scalar.cmpi .eq arg1 c0_i32_3
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S40 : Shape := ⟨1, ![40]⟩
abbrev S1 : Shape := ⟨1, ![1]⟩
abbrev S40960x1024 : Shape := ⟨2, ![40960, 1024]⟩
abbrev S16x1024x2816 : Shape := ⟨3, ![16, 1024, 2816]⟩
abbrev S16x2816x1024 : Shape := ⟨3, ![16, 2816, 1024]⟩
abbrev S40x1024x1024 : Shape := ⟨3, ![40, 1024, 1024]⟩
abbrev S_ : Shape := ⟨0, ![]⟩
abbrev S40x1 : Shape := ⟨2, ![40, 1]⟩
abbrev S40x1024x2816 : Shape := ⟨3, ![40, 1024, 2816]⟩
abbrev S40x2816x1024 : Shape := ⟨3, ![40, 2816, 1024]⟩
abbrev S40x1x1 : Shape := ⟨3, ![40, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S40960x1024, .f32⟩
  | .hbm, ⟨3, _⟩ => ⟨S16x1024x2816, .f32⟩
  | .hbm, ⟨4, _⟩ => ⟨S16x1024x2816, .f32⟩
  | .hbm, ⟨5, _⟩ => ⟨S16x2816x1024, .f32⟩
  | .hbm, ⟨6, _⟩ => ⟨S40x1024x1024, .f32⟩
  | .hbm, ⟨7, _⟩ => ⟨S_, .i32⟩
  | .hbm, ⟨8, _⟩ => ⟨S40, .i32⟩
  | .hbm, ⟨9, _⟩ => ⟨S40, .i1⟩
  | .hbm, ⟨10, _⟩ => ⟨S_, .i32⟩
  | .hbm, ⟨11, _⟩ => ⟨S40, .i32⟩
  | .hbm, ⟨12, _⟩ => ⟨S40, .i32⟩
  | .hbm, ⟨13, _⟩ => ⟨S40, .i32⟩
  | .hbm, ⟨14, _⟩ => ⟨S40x1, .i32⟩
  | .hbm, ⟨15, _⟩ => ⟨S40x1024x2816, .f32⟩
  | .hbm, ⟨16, _⟩ => ⟨S40x1024x2816, .f32⟩
  | .hbm, ⟨17, _⟩ => ⟨S_, .i32⟩
  | .hbm, ⟨18, _⟩ => ⟨S40, .i32⟩
  | .hbm, ⟨19, _⟩ => ⟨S40, .i1⟩
  | .hbm, ⟨20, _⟩ => ⟨S_, .i32⟩
  | .hbm, ⟨21, _⟩ => ⟨S40, .i32⟩
  | .hbm, ⟨22, _⟩ => ⟨S40, .i32⟩
  | .hbm, ⟨23, _⟩ => ⟨S40, .i32⟩
  | .hbm, ⟨24, _⟩ => ⟨S40x1, .i32⟩
  | .hbm, ⟨25, _⟩ => ⟨S40x1024x2816, .f32⟩
  | .hbm, ⟨26, _⟩ => ⟨S40x1024x2816, .f32⟩
  | .hbm, ⟨27, _⟩ => ⟨S40x1024x2816, .f32⟩
  | .hbm, ⟨28, _⟩ => ⟨S40x1024x2816, .f32⟩
  | .hbm, ⟨29, _⟩ => ⟨S_, .f32⟩
  | .hbm, ⟨30, _⟩ => ⟨S40x1024x2816, .f32⟩
  | .hbm, ⟨31, _⟩ => ⟨S40x1024x2816, .f32⟩
  | .hbm, ⟨32, _⟩ => ⟨S_, .f32⟩
  | .hbm, ⟨33, _⟩ => ⟨S40x1024x2816, .f32⟩
  | .hbm, ⟨34, _⟩ => ⟨S40x1024x2816, .f32⟩
  | .hbm, ⟨35, _⟩ => ⟨S40x1024x2816, .f32⟩
  | .hbm, ⟨36, _⟩ => ⟨S40x1024x2816, .f32⟩
  | .hbm, ⟨37, _⟩ => ⟨S_, .i32⟩
  | .hbm, ⟨38, _⟩ => ⟨S40, .i32⟩
  | .hbm, ⟨39, _⟩ => ⟨S40, .i1⟩
  | .hbm, ⟨40, _⟩ => ⟨S_, .i32⟩
  | .hbm, ⟨41, _⟩ => ⟨S40, .i32⟩
  | .hbm, ⟨42, _⟩ => ⟨S40, .i32⟩
  | .hbm, ⟨43, _⟩ => ⟨S40, .i32⟩
  | .hbm, ⟨44, _⟩ => ⟨S40x1, .i32⟩
  | .hbm, ⟨45, _⟩ => ⟨S40x2816x1024, .f32⟩
  | .hbm, ⟨46, _⟩ => ⟨S40x1024x1024, .f32⟩
  | .hbm, ⟨47, _⟩ => ⟨S40, .i32⟩
  | .hbm, ⟨48, _⟩ => ⟨S_, .i32⟩
  | .hbm, ⟨49, _⟩ => ⟨S40, .i32⟩
  | .hbm, ⟨50, _⟩ => ⟨S40, .i1⟩
  | .hbm, ⟨51, _⟩ => ⟨S40x1x1, .i1⟩
  | .hbm, ⟨52, _⟩ => ⟨S_, .f32⟩
  | .hbm, ⟨53, _⟩ => ⟨S_, .f32⟩
  | .hbm, ⟨54, _⟩ => ⟨S40x1024x1024, .i1⟩
  | .hbm, ⟨55, _⟩ => ⟨S40x1024x1024, .f32⟩
  | .hbm, ⟨56, _⟩ => ⟨S40x1024x1024, .f32⟩
  | .hbm, ⟨57, _⟩ => ⟨S40960x1024, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Proof.KernelIdealRun.lean ====
/-
  The body of `KernelIdeal` over its loop of query blocks. The loop nests the loop over the key blocks, so its invariant is
  stated here: before trip `k` the three operands hold what they held, and the result block holds what it held with the
  slabs of the trips before `k` written over it.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import Idealize.ShloMosaic.Lib.Pipeline.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One trip of the loop over the query blocks -/

/-- What one trip touches: the queries, keys and values at their contents, the result block at `f`. -/
abbrev Held (c : Dev nD) (arg4 arg5 arg6 arg7 : Memref sig .tc .vmem S2048x128 .bf16)
    (X4 : BufTy.Contents (Elt F) arg4.view.ty) (X5 : BufTy.Contents (Elt F) arg5.view.ty)
    (X6 : BufTy.Contents (Elt F) arg6.view.ty) (f : BufTy.Contents (Elt F) arg7.view.ty) : sProp 𝕄 :=
  iprop((arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} f))

set_option maxHeartbeats 4000000 in
/-- ONE TRIP: the body of the loop at trip `k`, from the operands' contents, writes a list of slabs over the result
    block; the list is the one the execution finds. -/
@[irreducible] def trip (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (v15 : FVec F S1x1 .f32) (v19 : FVec F S1x128 .f32) (v22 : IVec S256x128 1) (v24 : IVec S512x256 32) (v29 : IVec S512x256 32) (c64 : BitVec 32) (v31 : IVec S512x256 32) (v38 : IVec S512x256 32) (v40 : BitVec 32) (v41 : BitVec 1)
    (X4 : BufTy.Contents (Elt F) arg4.view.ty) (X5 : BufTy.Contents (Elt F) arg5.view.ty)
    (X6 : BufTy.Contents (Elt F) arg6.view.ty) (k : Fin k0_t1_loop.trips) :
    { L : List (View.Piece (Elt F) S2048x128 .bf16) // ∀ (E : Set ℕ) (u : Unit) (f : BufTy.Contents (Elt F) arg7.view.ty),
      Held (F := F) c arg4 arg5 arg6 arg7 X4 X5 X6 f
      ⊢ wp frame (wpE (defs₀ (F := F)) Variants.none (c : Thread nD τ) none) E
          (k0_t1_body (F := F) i arg2 harg2 arg3 harg3 arg4 harg4 arg5 harg5 arg6 harg6 arg7 harg7 v15 v19 v22 v24 v29 c64 v31 v38 v40 v41 k u)
          (fun _ => Held (F := F) c arg4 arg5 arg6 arg7 X4 X5 X6 (arg7.view.writes (Elt F) f L)) } := by
  refine ⟨?_, fun E u f => ?run⟩
  case run =>
    unfold k0_t1_body
    simp only [k0_part1_eq_skeleton]
    iintro ⟨H4, H5, H6, H7⟩
    sl_exec
    sl_step
    sl_close

/-- The slabs trip `k` writes, as a list. -/
abbrev tripL (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (v15 : FVec F S1x1 .f32) (v19 : FVec F S1x128 .f32) (v22 : IVec S256x128 1) (v24 : IVec S512x256 32) (v29 : IVec S512x256 32) (c64 : BitVec 32) (v31 : IVec S512x256 32) (v38 : IVec S512x256 32) (v40 : BitVec 32) (v41 : BitVec 1)
    (X4 : BufTy.Contents (Elt F) arg4.view.ty) (X5 : BufTy.Contents (Elt F) arg5.view.ty)
    (X6 : BufTy.Contents (Elt F) arg6.view.ty) (k : Fin k0_t1_loop.trips) : List (View.Piece (Elt F) S2048x128 .bf16) :=
  (trip (F := F) c i arg2 harg2 arg3 harg3 arg4 harg4 arg5 harg5 arg6 harg6 arg7 harg7 v15 v19 v22 v24 v29 c64 v31 v38 v40 v41 X4 X5 X6 k).1

/-- The slabs of the trips before trip `n`, the last one in front. -/
def slabs (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (v15 : FVec F S1x1 .f32) (v19 : FVec F S1x128 .f32) (v22 : IVec S256x128 1) (v24 : IVec S512x256 32) (v29 : IVec S512x256 32) (c64 : BitVec 32) (v31 : IVec S512x256 32) (v38 : IVec S512x256 32) (v40 : BitVec 32) (v41 : BitVec 1)
    (X4 : BufTy.Contents (Elt F) arg4.view.ty) (X5 : BufTy.Contents (Elt F) arg5.view.ty)
    (X6 : BufTy.Contents (Elt F) arg6.view.ty) : ℕ → List (View.Piece (Elt F) S2048x128 .bf16)
  | 0 => []
  | n + 1 => if h : n < k0_t1_loop.trips then
      tripL (F := F) c i arg2 harg2 arg3 harg3 arg4 harg4 arg5 harg5 arg6 harg6 arg7 harg7 v15 v19 v22 v24 v29 c64 v31 v38 v40 v41 X4 X5 X6 ⟨n, h⟩ ++ slabs c i arg2 harg2 arg3 harg3 arg4 harg4 arg5 harg5 arg6 harg6 arg7 harg7 v15 v19 v22 v24 v29 c64 v31 v38 v40 v41 X4 X5 X6 n
    else slabs c i arg2 harg2 arg3 harg3 arg4 harg4 arg5 harg5 arg6 harg6 arg7 harg7 v15 v19 v22 v24 v29 c64 v31 v38 v40 v41 X4 X5 X6 n

/-- One more trip puts its slabs in front. -/
theorem slabs_succ (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (v15 : FVec F S1x1 .f32) (v19 : FVec F S1x128 .f32) (v22 : IVec S256x128 1) (v24 : IVec S512x256 32) (v29 : IVec S512x256 32) (c64 : BitVec 32) (v31 : IVec S512x256 32) (v38 : IVec S512x256 32) (v40 : BitVec 32) (v41 : BitVec 1)
    (X4 : BufTy.Contents (Elt F) arg4.view.ty) (X5 : BufTy.Contents (Elt F) arg5.view.ty)
    (X6 : BufTy.Contents (Elt F) arg6.view.ty) (k : Fin k0_t1_loop.trips) :
    slabs (F := F) c i arg2 harg2 arg3 harg3 arg4 harg4 arg5 harg5 arg6 harg6 arg7 harg7 v15 v19 v22 v24 v29 c64 v31 v38 v40 v41 X4 X5 X6 (k.val + 1)
      = tripL (F := F) c i arg2 harg2 arg3 harg3 arg4 harg4 arg5 harg5 arg6 harg6 arg7 harg7 v15 v19 v22 v24 v29 c64 v31 v38 v40 v41 X4 X5 X6 k ++ slabs (F := F) c i arg2 harg2 arg3 harg3 arg4 harg4 arg5 harg5 arg6 harg6 arg7 harg7 v15 v19 v22 v24 v29 c64 v31 v38 v40 v41 X4 X5 X6 k.val := by
  rw [slabs.eq_2]; exact dif_pos k.isLt

/-- What holds before trip `n`: the operands as they were, the result block with the slabs of the trips before `n`. -/
abbrev before (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (v15 : FVec F S1x1 .f32) (v19 : FVec F S1x128 .f32) (v22 : IVec S256x128 1) (v24 : IVec S512x256 32) (v29 : IVec S512x256 32) (c64 : BitVec 32) (v31 : IVec S512x256 32) (v38 : IVec S512x256 32) (v40 : BitVec 32) (v41 : BitVec 1)
    (X4 : BufTy.Contents (Elt F) arg4.view.ty) (X5 : BufTy.Contents (Elt F) arg5.view.ty)
    (X6 : BufTy.Contents (Elt F) arg6.view.ty) (G : BufTy.Contents (Elt F) arg7.view.ty) (n : ℕ) (_ : Unit) : sProp 𝕄 :=
  iprop((arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6)
    ∗ (∃ f, (arg7.view.loc (c : Thread nD τ) ↦[arg7.view.set]{fullShare} f)
        ∗ ⌜f = arg7.view.writes (Elt F) G (slabs (F := F) c i arg2 harg2 arg3 harg3 arg4 harg4 arg5 harg5 arg6 harg6 arg7 harg7 v15 v19 v22 v24 v29 c64 v31 v38 v40 v41 X4 X5 X6 n)⌝))

set_option warn.classDefReducibility false in
/-- The loop over the query blocks, by that invariant. -/
@[sl_loop] def loopInv_k0_t1 (E : Set ℕ) (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (v15 : FVec F S1x1 .f32) (v19 : FVec F S1x128 .f32) (v22 : IVec S256x128 1) (v24 : IVec S512x256 32) (v29 : IVec S512x256 32) (c64 : BitVec 32) (v31 : IVec S512x256 32) (v38 : IVec S512x256 32) (v40 : BitVec 32) (v41 : BitVec 1)
    (X4 : BufTy.Contents (Elt F) arg4.view.ty) (X5 : BufTy.Contents (Elt F) arg5.view.ty)
    (X6 : BufTy.Contents (Elt F) arg6.view.ty) (G : BufTy.Contents (Elt F) arg7.view.ty) :
    LoopInvTy_k0_t1 (F := F) Unit ℕ (UR sig nD τ) ℕ Variants.none c none E i arg2 harg2 arg3 harg3 arg4 harg4 arg5 harg5 arg6 harg6 arg7 harg7 v15 v19 v22 v24 v29 c64 v31 v38 v40 v41 where
  inv := before (F := F) c i arg2 harg2 arg3 harg3 arg4 harg4 arg5 harg5 arg6 harg6 arg7 harg7 v15 v19 v22 v24 v29 c64 v31 v38 v40 v41 X4 X5 X6 G
  step k acc := by
    iintro ⟨H4, H5, H6, ⟨%f, H7, %hf⟩⟩
    iapply (wp_wand_r Idealize.ShloMosaic.frame (wpE (defs₀ (F := F)) Variants.none (c : Thread nD τ) none) E)
    isplitl [H4 H5 H6 H7]
    · iapply ((trip (F := F) c i arg2 harg2 arg3 harg3 arg4 harg4 arg5 harg5 arg6 harg6 arg7 harg7 v15 v19 v22 v24 v29 c64 v31 v38 v40 v41 X4 X5 X6 k).2 E acc f)
      isplitl [H4]; · iexact H4
      isplitl [H5]; · iexact H5
      isplitl [H6]; · iexact H6
      iexact H7
    · iintro %yld ⟨H4, H5, H6, H7⟩
      isplitl [H4]; · iexact H4
      isplitl [H5]; · iexact H5
      isplitl [H6]; · iexact H6
      simp only [slabs_succ]
      iexists _; isplitl [H7]; · iexact H7
      ipureintro; rw [hf, ← View.writes_append]

/-! ## The body -/

set_option maxHeartbeats 4000000 in
/-- The body on whole staging blocks: the inputs are handed back as they were, and the result block with the slabs of
    all eight trips written over what it held. -/
@[irreducible] def kernelRun (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole)
    (x0 : Vec F S4x64 .f32) (x1 : Vec F S1x128 .f32) (x2 x3 x4 : Vec F S2048x128 .bf16) :
      { L : List (View.Piece (Elt F) S2048x128 .bf16) // ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ G, arg7.view.loc (c : Thread nD τ) ↦[arg7.view.set]{fullShare} (arg7.view.writes (Elt F) G L))) -∗ K ⟨⟩))
          ⊢ wp frame (wpE (defs₀ (F := F)) Variants.none c none) E (cc0_diff_attention (F := F) i arg2 harg2 arg3 harg3 arg4 harg4 arg5 harg5 arg6 harg6 arg7 harg7) K } := by
  refine ⟨?_, fun E K => ?run⟩
  case run =>
    simp only [cc0_diff_attention_eq_skeleton]; unfold cc0_diff_attention_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists f5
    iexact H5

end Cert.KernelIdeal.Attn

end
-- ==== Proof.KernelIdealVal.lean ====
/-
  What the body of `KernelIdeal` leaves in the result block, as a function of the five input blocks: for each of the eight
  query blocks, the loop over the key blocks before it carries a running maximum, a running sum and a running
  accumulator, the key block of the diagonal is taken under the mask, and the slab written is the normalized
  difference of the two maps.
-/
module

public import proofs.«01_k».proof.Proof.KernelIdealRun
public import Idealize.ShloMosaic.Lib.WritesUnit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The values -/

/-- Row `y 0` of the `n`-th block of 256 rows, column `y 1`. -/
def rowOf (n : ℕ) (y : S256x128.Idx) : S2048x128.Idx := fun a => match a with
  | ⟨0, _⟩ => ⟨(256 * n + (y 0).val) % 2048, Nat.mod_lt _ (by decide)⟩
  | ⟨1, _⟩ => y 1

/-- The `n`-th block of 256 rows. -/
def blk (x : Vec F S2048x128 .bf16) (n : ℕ) : Vec F S256x128 .bf16 := fun y => x (rowOf n y)

/-- What the loop over the key blocks carries: per row of the two stacked maps the running maximum and the running
    sum, and the running accumulator. -/
abbrev Carry (F : FTy → Type) : Type := FVec F S512x1 .f32 × FVec F S512x1 .f32 × FVec F S512x128 .f32

/-- One unmasked key block. -/
def step (q kb vb : Vec F S256x128 .bf16) (s : Carry F) : Carry F :=
  (k0_pay8 k0_pay27 q s.1 kb, k0_pay11 k0_pay27 q s.1 s.2.1 kb, k0_pay12 k0_pay27 q s.1 s.2.2 kb vb)

/-- The carry after the first `n` key blocks. -/
def carry (q : Vec F S256x128 .bf16) (xk xv : Vec F S2048x128 .bf16) : ℕ → Carry F
  | 0 => (k0_pay4, k0_pay5, k0_pay6)
  | n + 1 => step q (blk xk n) (blk xv n) (carry q xk xv n)

/-- The mask of the diagonal block: the key's chunk is not after the query's. -/
def vis : IVec S512x256 1 := k0_pay1 (iota Kind.tc S512x256 32 [1] iota_S512x256_d1_w32) k0_pay28 (64#32) k0_pay29 k0_pay30 (1#32) (0#1)

/-- The slab of query block `k`, from `lam` and the gain. -/
def slab (lam : FVec F S1x1 .f32) (g : FVec F S1x128 .f32) (xq xk xv : Vec F S2048x128 .bf16) (k : ℕ) : FVec F S256x128 .bf16 :=
  k0_pay2 lam g (carry (blk xq k) xk xv k).2.2
    (k0_pay22 k0_pay27 vis (blk xq k) (carry (blk xq k) xk xv k).1 (blk xk k))
    (k0_pay23 k0_pay27 vis (blk xq k) (carry (blk xq k) xk xv k).1 (carry (blk xq k) xk xv k).2.1 (blk xk k))
    (k0_pay24 k0_pay27 vis (blk xq k) (carry (blk xq k) xk xv k).1 (blk xk k) (blk xv k))

/-- The place of row `y 0` within its block of 256 rows. -/
def inBlk (y : S2048x128.Idx) : S256x128.Idx := fun a => match a with
  | ⟨0, _⟩ => ⟨(y 0).val % 256, Nat.mod_lt _ (by decide)⟩
  | ⟨1, _⟩ => y 1

/-- The whole result block. -/
def outBlk (x0 : Vec F S4x64 .f32) (x1 : Vec F S1x128 .f32) (xq xk xv : Vec F S2048x128 .bf16) : Vec F S2048x128 .bf16 :=
  fun y => slab (k0_pay25 x0) (k0_pay26 x1) xq xk xv ((y 0).val / 256) (inBlk y)

/-! ## The execution's finds are these values -/

theorem trips_t1 : k0_t1_loop.trips = 8 := by decide +kernel
theorem trips_t2 : ∀ k : Fin k0_t1_loop.trips, (k0_t2_loop k).trips = k.val := by decide +kernel
theorem trips_t3 (k : Fin k0_t1_loop.trips) : (k0_t3_loop k).trips = 0 := Nat.le_zero.mp (k0_t3_abs k).2.1

/-- A load of 256 rows at row `256 n` reads the `n`-th block. -/
theorem read_blk (a : Memref sig .tc .vmem S2048x128 .bf16) (ha : a.IsWhole) (x : Vec F S2048x128 .bf16) (n : ℕ) (hn : n < 8)
    (off : Fin 2 → ℕ) (hoff : off = ![256 * n, 0]) (inb : ∀ b, off b + S256x128.size b ≤ S2048x128.size b) :
    View.readAt (Elt F) a.view (Rect.unit (s := S2048x128) off S256x128.size inb).toLoadRect (ha.unread x) = blk x n := by
  subst hoff
  rw [View.readAt_eq_ld, ha.read_unread]
  funext y
  unfold blk View.ld
  congr 1
  funext b
  apply Fin.ext
  match b with
  | ⟨0, _⟩ =>
    have h0 : (y 0).val < 256 := (y 0).isLt
    show 256 * n + 1 * (y 0).val = (256 * n + (y 0).val) % 2048
    omega
  | ⟨1, _⟩ => show 0 + 1 * (y 1).val = (y 1).val; omega

set_option maxHeartbeats 1000000 in
/-- One trip of the loop over the key blocks. -/
theorem tripR_eq (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (v78 : IVec S512x256 1) (q : Vec F S256x128 .bf16)
    (xk xv : Vec F S2048x128 .bf16) (k : Fin k0_t1_loop.trips) (j : Fin (k0_t2_loop k).trips) (s : Carry F) :
    tripR_k0_t2 (F := F) Variants.none c none i arg2 harg2 arg3 harg3 arg4 harg4 arg5 harg5 arg6 harg6 arg7 harg7 k0_pay27 v78 (0#32) (1#32) k q (harg5.unread xk) (harg6.unread xv) j s
      = step q (blk xk j.val) (blk xv j.val) s := by
  have hj : j.val < 8 := lt_of_lt_of_le j.isLt (by rw [trips_t2]; exact Nat.le_of_lt (lt_of_lt_of_eq k.isLt trips_t1))
  unfold tripR_k0_t2 trip_k0_t2
  dsimp only
  sl_unfold_words
  unfold step
  rw [← read_blk arg5 harg5 xk j.val hj (k0_off2 k j) (k0_off2_eq k j) (k0_off2_inb k j),
    ← read_blk arg6 harg6 xv j.val hj (k0_off2 k j) (k0_off2_eq k j) (k0_off2_inb k j)]
  rfl

/-- The carry before trip `n` of the loop over the key blocks. -/
theorem st_eq (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (v78 : IVec S512x256 1) (q : Vec F S256x128 .bf16)
    (xk xv : Vec F S2048x128 .bf16) (k : Fin k0_t1_loop.trips) : ∀ n, n ≤ (k0_t2_loop k).trips →
    st_k0_t2 (F := F) Variants.none c none i arg2 harg2 arg3 harg3 arg4 harg4 arg5 harg5 arg6 harg6 arg7 harg7 k0_pay27 v78 (0#32) (1#32) k q (harg5.unread xk) (harg6.unread xv) (k0_pay4, k0_pay5, k0_pay6) n
      = carry q xk xv n
  | 0, _ => rfl
  | n + 1, h => by
    have := st_k0_t2_succ (F := F) Variants.none c none i arg2 harg2 arg3 harg3 arg4 harg4 arg5 harg5 arg6 harg6 arg7 harg7 k0_pay27 v78 (0#32) (1#32) k q (harg5.unread xk) (harg6.unread xv) (k0_pay4, k0_pay5, k0_pay6) ⟨n, h⟩
    rw [this, tripR_eq, st_eq c i arg2 harg2 arg3 harg3 arg4 harg4 arg5 harg5 arg6 harg6 arg7 harg7 v78 q xk xv k n (Nat.le_of_succ_le h)]
    rfl

/-- The carry the diagonal block starts from, as the execution names it. -/
abbrev carried (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (v78 : IVec S512x256 1) (q : Vec F S256x128 .bf16) (X5 : BufTy.Contents (Elt F) arg5.view.ty)
    (X6 : BufTy.Contents (Elt F) arg6.view.ty) (k : Fin k0_t1_loop.trips) : Carry F :=
  st_k0_t3 (F := F) Variants.none c none i arg2 harg2 arg3 harg3 arg4 harg4 arg5 harg5 arg6 harg6 arg7 harg7 k0_pay27 v78 (0#32) (1#32) k q X5 X6
    (st_k0_t2 (F := F) Variants.none c none i arg2 harg2 arg3 harg3 arg4 harg4 arg5 harg5 arg6 harg6 arg7 harg7 k0_pay27 v78 (0#32) (1#32) k q X5 X6 (k0_pay4, k0_pay5, k0_pay6) (k0_t2_loop k).trips)
    (k0_t3_loop k).trips

/-- The slab written from the carry and the three blocks of the diagonal. -/
def slabOf (lam : FVec F S1x1 .f32) (g : FVec F S1x128 .f32) (q kb vb : Vec F S256x128 .bf16) (s : Carry F) : FVec F S256x128 .bf16 :=
  k0_pay2 lam g s.2.2 (k0_pay22 k0_pay27 vis q s.1 kb) (k0_pay23 k0_pay27 vis q s.1 s.2.1 kb) (k0_pay24 k0_pay27 vis q s.1 kb vb)

set_option maxHeartbeats 1000000 in
/-- One trip of the loop over the query blocks writes one slab, named by the loads. -/
theorem tripL_found (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (lam : FVec F S1x1 .f32) (g : FVec F S1x128 .f32)
    (X4 : BufTy.Contents (Elt F) arg4.view.ty) (X5 : BufTy.Contents (Elt F) arg5.view.ty)
    (X6 : BufTy.Contents (Elt F) arg6.view.ty) (k : Fin k0_t1_loop.trips) :
    tripL (F := F) c i arg2 harg2 arg3 harg3 arg4 harg4 arg5 harg5 arg6 harg6 arg7 harg7 lam g k0_pay27 (iota Kind.tc S512x256 32 [1] iota_S512x256_d1_w32) k0_pay28 (64#32) k0_pay29 k0_pay30 (1#32) (0#1) X4 X5 X6 k
      = [⟨Rect.unit (s := S2048x128) (k0_off1 k) S256x128.size (k0_off1_inb k),
          slabOf lam g (View.readAt (Elt F) arg4.view (Rect.unit (s := S2048x128) (k0_off1 k) S256x128.size (k0_off1_inb k)).toLoadRect X4)
            (View.readAt (Elt F) arg5.view (Rect.unit (s := S2048x128) (k0_off1 k) S256x128.size (k0_off1_inb k)).toLoadRect X5)
            (View.readAt (Elt F) arg6.view (Rect.unit (s := S2048x128) (k0_off1 k) S256x128.size (k0_off1_inb k)).toLoadRect X6)
            (carried (F := F) c i arg2 harg2 arg3 harg3 arg4 harg4 arg5 harg5 arg6 harg6 arg7 harg7 vis
              (View.readAt (Elt F) arg4.view (Rect.unit (s := S2048x128) (k0_off1 k) S256x128.size (k0_off1_inb k)).toLoadRect X4) X5 X6 k)⟩] := by
  unfold tripL trip
  rfl

/-- One trip of the loop over the query blocks writes one slab. -/
theorem tripL_eq (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (lam : FVec F S1x1 .f32) (g : FVec F S1x128 .f32)
    (xq xk xv : Vec F S2048x128 .bf16) (k : Fin k0_t1_loop.trips) :
    tripL (F := F) c i arg2 harg2 arg3 harg3 arg4 harg4 arg5 harg5 arg6 harg6 arg7 harg7 lam g k0_pay27 (iota Kind.tc S512x256 32 [1] iota_S512x256_d1_w32) k0_pay28 (64#32) k0_pay29 k0_pay30 (1#32) (0#1)
        (harg4.unread xq) (harg5.unread xk) (harg6.unread xv) k
      = [⟨Rect.unit (s := S2048x128) (k0_off1 k) S256x128.size (k0_off1_inb k), slab lam g xq xk xv k.val⟩] := by
  have hk : k.val < 8 := lt_of_lt_of_eq k.isLt trips_t1
  have hc : carried (F := F) c i arg2 harg2 arg3 harg3 arg4 harg4 arg5 harg5 arg6 harg6 arg7 harg7 vis (blk xq k.val) (harg5.unread xk) (harg6.unread xv) k = carry (blk xq k.val) xk xv k.val := by
    unfold carried
    rw [st_eq (F := F) c i arg2 harg2 arg3 harg3 arg4 harg4 arg5 harg5 arg6 harg6 arg7 harg7 vis (blk xq k.val) xk xv k _ le_rfl, trips_t3, trips_t2]
    rfl
  rw [tripL_found, read_blk (F := F) arg4 harg4 xq k.val hk (k0_off1 k) (k0_off1_eq k) (k0_off1_inb k),
    read_blk (F := F) arg5 harg5 xk k.val hk (k0_off1 k) (k0_off1_eq k) (k0_off1_inb k),
    read_blk (F := F) arg6 harg6 xv k.val hk (k0_off1 k) (k0_off1_eq k) (k0_off1_inb k), hc]
  rfl

/-- The slabs of the first `n` trips are the first `n` tiles. -/
theorem slabs_tiles (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (lam : FVec F S1x1 .f32) (g : FVec F S1x128 .f32) (xq xk xv : Vec F S2048x128 .bf16) :
    ∀ n (hn : n ≤ k0_t1_loop.trips),
    slabs (F := F) c i arg2 harg2 arg3 harg3 arg4 harg4 arg5 harg5 arg6 harg6 arg7 harg7 lam g k0_pay27 (iota Kind.tc S512x256 32 [1] iota_S512x256_d1_w32) k0_pay28 (64#32) k0_pay29 k0_pay30 (1#32) (0#1)
        (harg4.unread xq) (harg5.unread xk) (harg6.unread xv) n
      = View.tilePieces (s := S2048x128) (Val := Elt F) (e := .bf16) S256x128.size k0_off1 k0_off1_inb (fun k => slab lam g xq xk xv k.val) n hn
  | 0, _ => rfl
  | n + 1, hn => by
    have h := slabs_succ (F := F) c i arg2 harg2 arg3 harg3 arg4 harg4 arg5 harg5 arg6 harg6 arg7 harg7 lam g k0_pay27 (iota Kind.tc S512x256 32 [1] iota_S512x256_d1_w32) k0_pay28 (64#32) k0_pay29 k0_pay30 (1#32) (0#1)
        (harg4.unread xq) (harg5.unread xk) (harg6.unread xv) ⟨n, hn⟩
    rw [h, tripL_eq, slabs_tiles c i arg2 harg2 arg3 harg3 arg4 harg4 arg5 harg5 arg6 harg6 arg7 harg7 lam g xq xk xv n (Nat.le_of_succ_le hn)]
    rfl

/-- A load of a whole block reads the block. -/
theorem read_whole {s : Shape} {e : EltTy} (a : Memref sig .tc .vmem s e) (ha : a.IsWhole) (x : Vec F s e)
    (off : Fin s.rank → ℕ) (hoff : ∀ b, off b = 0) (inb : ∀ b, off b + s.size b ≤ s.size b) :
    View.readAt (Elt F) a.view (Rect.unit (s := s) off s.size inb).toLoadRect (ha.unread x) = x := by
  rw [View.readAt_eq_ld, ha.read_unread]
  funext y
  unfold View.ld
  congr 1
  funext b
  apply Fin.ext
  show off b + 1 * (y b).val = (y b).val
  rw [hoff b]; omega

/-- The pieces the whole body writes, named by the loads. -/
theorem kernelRun_found (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (x0 : Vec F S4x64 .f32) (x1 : Vec F S1x128 .f32) (x2 x3 x4 : Vec F S2048x128 .bf16) :
    (kernelRun (F := F) c i arg2 harg2 arg3 harg3 arg4 harg4 arg5 harg5 arg6 harg6 arg7 harg7 x0 x1 x2 x3 x4).1
      = slabs (F := F) c i arg2 harg2 arg3 harg3 arg4 harg4 arg5 harg5 arg6 harg6 arg7 harg7
          (k0_pay25 (View.readAt (Elt F) arg2.view (Rect.unit (s := S4x64) ![0, 0] S4x64.size (by decide)).toLoadRect (harg2.unread x0)))
          (k0_pay26 (View.readAt (Elt F) arg3.view (Rect.unit (s := S1x128) ![0, 0] S1x128.size (by decide)).toLoadRect (harg3.unread x1)))
          k0_pay27 (iota Kind.tc S512x256 32 [1] iota_S512x256_d1_w32) k0_pay28 (64#32) k0_pay29 k0_pay30 (1#32) (0#1)
          (harg4.unread x2) (harg5.unread x3) (harg6.unread x4) k0_t1_loop.trips := by
  unfold kernelRun
  rfl

/-- Whatever the result block held, after the body it reads `outBlk` of the inputs. -/
theorem read_out (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (x0 : Vec F S4x64 .f32) (x1 : Vec F S1x128 .f32) (x2 x3 x4 : Vec F S2048x128 .bf16)
    (G : BufTy.Contents (Elt F) arg7.view.ty) :
    arg7.view.read (Elt F) (arg7.view.writes (Elt F) G (kernelRun (F := F) c i arg2 harg2 arg3 harg3 arg4 harg4 arg5 harg5 arg6 harg6 arg7 harg7 x0 x1 x2 x3 x4).1) = outBlk x0 x1 x2 x3 x4 := by
  have z : ∀ b : Fin 2, (![0, 0] : Fin 2 → ℕ) b = 0 := by decide
  rw [kernelRun_found, read_whole arg2 harg2 x0 _ z, read_whole arg3 harg3 x1 _ z, slabs_tiles _ _ _ _ _ _ _ _ _ _ _ _ _ _ _ _ _ _ _ _ le_rfl]
  funext y
  have hy : (y 0).val < 2048 := (y 0).isLt
  have hk : (y 0).val / 256 < k0_t1_loop.trips := by rw [trips_t1]; omega
  rw [View.read_tilePieces arg7.view G S256x128.size k0_off1 k0_off1_inb _ _ le_rfl y ⟨(y 0).val / 256, hk⟩ hk (inBlk y)
    (fun a => ?_) 0 (fun i' hi' => ?_)]
  · rfl
  · rw [k0_off1_eq]
    match a with
    | ⟨0, _⟩ => show (y 0).val = 256 * ((y 0).val / 256) + (y 0).val % 256; omega
    | ⟨1, _⟩ => show (y 1).val = 0 + (y 1).val; omega
  · rw [k0_off1_eq]
    have : i'.val ≠ (y 0).val / 256 := fun h => hi' (Fin.ext h)
    show (y 0).val < 256 * i'.val ∨ 256 * i'.val + 256 ≤ (y 0).val
    omega

end Cert.KernelIdeal.Attn

end
-- ==== Proof.KernelIdealGo.lean ====
/-
  The launch of `KernelIdeal`: the pipeline's proof data (after a point, each input buffer its block and the result's buffer
  `outBlk` of the five), the body's obligation at a symbolic point, the run, the frame, and what the result array ends
  holding: the blocks of `result`, a function of the argument arrays.
-/
module

public import proofs.«01_k».proof.Proof.KernelIdealVal
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlk (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%G, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns
  iexists _
  isplitr
  · ipureintro
    exact read_out c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5)) (iblk m c 0 t) (iblk m c 1 t) (iblk m c 2 t) (iblk m c 3 t) (iblk m c 4 t) G
  iexact H5

theorem defs₀_row (t : Fin cfg0.N) :
    defs₀ (F := F) .tc cfg0.body (cfg0.bodyArgs t (cfg0.slots t)) = bodyAt0 t := by
  unfold defs₀; rw [Defs.onTc_tc]

/-- The obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The launch: every window's array at what the data folds to, every semaphore at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-! ## What the result array holds -/

/-- Batch `b`'s rows and head `h`'s columns of an array. -/
def part (x : Vec F S16384x512 .bf16) (b h : ℕ) : Vec F S2048x128 .bf16 := fun z => x (fun a => match a with
  | ⟨0, _⟩ => ⟨(2048 * b + (z 0).val) % 16384, Nat.mod_lt _ (by decide)⟩
  | ⟨1, _⟩ => ⟨(128 * h + (z 1).val) % 512, Nat.mod_lt _ (by decide)⟩)

/-- An index within its batch and head. -/
def within (y : S16384x512.Idx) : S2048x128.Idx := fun a => match a with
  | ⟨0, _⟩ => ⟨(y 0).val % 2048, Nat.mod_lt _ (by decide)⟩
  | ⟨1, _⟩ => ⟨(y 1).val % 128, Nat.mod_lt _ (by decide)⟩

/-- The result array as a function of the arguments. -/
def result (q k v : Vec F S16384x512 .bf16) (lp : Vec F S4x64 .f32) (g : Vec F S1x128 .f32) : Vec F S16384x512 .bf16 := fun y =>
  outBlk lp g (part q ((y 0).val / 2048) ((y 1).val / 128)) (part k ((y 0).val / 2048) ((y 1).val / 128))
    (part v ((y 0).val / 2048) ((y 1).val / 128)) (within y)

theorem index_5 : ∀ t : Fin cfg0.N, win0_5.index t = ![t.val / 4, t.val % 4] := (by decide +kernel : ∀ t : Fin grid0.N, _)
theorem index_2 : ∀ t : Fin cfg0.N, win0_2.index t = ![t.val / 4, t.val % 4] := (by decide +kernel : ∀ t : Fin grid0.N, _)
theorem index_3 : ∀ t : Fin cfg0.N, win0_3.index t = ![t.val / 4, t.val % 4] := (by decide +kernel : ∀ t : Fin grid0.N, _)
theorem index_4 : ∀ t : Fin cfg0.N, win0_4.index t = ![t.val / 4, t.val % 4] := (by decide +kernel : ∀ t : Fin grid0.N, _)
theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)

/-- The gain the region finds: the argument as one row. -/
def gRow (g : Vec F S128 .f32) : Vec F S1x128 .f32 := shapeCast S1x128 g shapeCasts_S128_S1x128

theorem V_main_v0 (c : Dev nD) : V m c main_v0 = gRow (m ((c : Thread nD τ).loc main_arg4)) := by
  unfold V hostOps0
  after_results
  rfl

theorem iblk_0 (c : Dev nD) (t : Fin cfg0.N) : iblk m c 0 t = m ((c : Thread nD τ).loc main_arg3) := by
  rw [← V_main_arg3 m c]
  funext y
  blk_simp [iblk]
  refine congrArg (V m c main_arg3) ?_
  blk_ext [index_0]

theorem iblk_1 (c : Dev nD) (t : Fin cfg0.N) : iblk m c 1 t = gRow (m ((c : Thread nD τ).loc main_arg4)) := by
  rw [← V_main_v0 m c]
  funext y
  blk_simp [iblk]
  refine congrArg (V m c main_v0) ?_
  blk_ext [index_1]

theorem iblk_2 (c : Dev nD) (t : Fin cfg0.N) : iblk m c 2 t = part (m ((c : Thread nD τ).loc main_arg0)) (t.val / 4) (t.val % 4) := by
  rw [← V_main_arg0 m c]
  have ht : t.val < 32 := lt_of_lt_of_eq t.isLt N_0
  funext y
  have b0 : (y 0).val < 2048 := (y 0).isLt
  have b1 : (y 1).val < 128 := (y 1).isLt
  have h0 : ((win0_2.blk t).view.emb y 0).val = 2048 * (t.val / 4) + (y 0).val := by blk_simp [index_2]; omega
  have h1 : ((win0_2.blk t).view.emb y 1).val = 128 * (t.val % 4) + (y 1).val := by blk_simp [index_2]; omega
  blk_simp [iblk]
  refine congrArg (V m c main_arg0) (funext fun a => Fin.ext ?_)
  match a with
  | ⟨0, _⟩ => show ((win0_2.blk t).view.emb y 0).val = (2048 * (t.val / 4) + (y 0).val) % 16384; rw [h0]; omega
  | ⟨1, _⟩ => show ((win0_2.blk t).view.emb y 1).val = (128 * (t.val % 4) + (y 1).val) % 512; rw [h1]; omega

theorem iblk_3 (c : Dev nD) (t : Fin cfg0.N) : iblk m c 3 t = part (m ((c : Thread nD τ).loc main_arg1)) (t.val / 4) (t.val % 4) := by
  rw [← V_main_arg1 m c]
  have ht : t.val < 32 := lt_of_lt_of_eq t.isLt N_0
  funext y
  have b0 : (y 0).val < 2048 := (y 0).isLt
  have b1 : (y 1).val < 128 := (y 1).isLt
  have h0 : ((win0_3.blk t).view.emb y 0).val = 2048 * (t.val / 4) + (y 0).val := by blk_simp [index_3]; omega
  have h1 : ((win0_3.blk t).view.emb y 1).val = 128 * (t.val % 4) + (y 1).val := by blk_simp [index_3]; omega
  blk_simp [iblk]
  refine congrArg (V m c main_arg1) (funext fun a => Fin.ext ?_)
  match a with
  | ⟨0, _⟩ => show ((win0_3.blk t).view.emb y 0).val = (2048 * (t.val / 4) + (y 0).val) % 16384; rw [h0]; omega
  | ⟨1, _⟩ => show ((win0_3.blk t).view.emb y 1).val = (128 * (t.val % 4) + (y 1).val) % 512; rw [h1]; omega

theorem iblk_4 (c : Dev nD) (t : Fin cfg0.N) : iblk m c 4 t = part (m ((c : Thread nD τ).loc main_arg2)) (t.val / 4) (t.val % 4) := by
  rw [← V_main_arg2 m c]
  have ht : t.val < 32 := lt_of_lt_of_eq t.isLt N_0
  funext y
  have b0 : (y 0).val < 2048 := (y 0).isLt
  have b1 : (y 1).val < 128 := (y 1).isLt
  have h0 : ((win0_4.blk t).view.emb y 0).val = 2048 * (t.val / 4) + (y 0).val := by blk_simp [index_4]; omega
  have h1 : ((win0_4.blk t).view.emb y 1).val = 128 * (t.val % 4) + (y 1).val := by blk_simp [index_4]; omega
  blk_simp [iblk]
  refine congrArg (V m c main_arg2) (funext fun a => Fin.ext ?_)
  match a with
  | ⟨0, _⟩ => show ((win0_4.blk t).view.emb y 0).val = (2048 * (t.val / 4) + (y 0).val) % 16384; rw [h0]; omega
  | ⟨1, _⟩ => show ((win0_4.blk t).view.emb y 1).val = (128 * (t.val % 4) + (y 1).val) % 512; rw [h1]; omega

theorem final_5 (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (gRow (m ((c : Thread nD τ).loc main_arg4))) := by
  refine (dats m 0 c).arrAt_eq_of_covers 5 _ (by decide +kernel) fun t hf y => ?_
  have ht : t.val < 32 := lt_of_lt_of_eq t.isLt N_0
  blk_simp
  rw [after0_5, iblk_0, iblk_1, iblk_2, iblk_3, iblk_4]
  unfold result
  have h0 : ((win0_5.blk t).view.emb y 0).val = 2048 * (t.val / 4) + (y 0).val := by blk_simp [index_5]; omega
  have h1 : ((win0_5.blk t).view.emb y 1).val = 128 * (t.val % 4) + (y 1).val := by blk_simp [index_5]; omega
  have b0 : (y 0).val < 2048 := (y 0).isLt
  have b1 : (y 1).val < 128 := (y 1).isLt
  have e0 : ((win0_5.blk t).view.emb y 0).val / 2048 = t.val / 4 := by rw [h0]; omega
  have e1 : ((win0_5.blk t).view.emb y 1).val / 128 = t.val % 4 := by rw [h1]; omega
  have ew : within ((win0_5.blk t).view.emb y) = y := funext fun a => Fin.ext (by
    match a with
    | ⟨0, _⟩ => show ((win0_5.blk t).view.emb y 0).val % 2048 = (y 0).val; rw [h0]; omega
    | ⟨1, _⟩ => show ((win0_5.blk t).view.emb y 1).val % 128 = (y 1).val; rw [h1]; omega)
  rw [e0, e1, ew]

/-- THE RUN: the result array ends at `result` of the arguments, the arguments as they were. -/
theorem run : θ_run defs (onTc (τ := τ) (main (F := F))) ⟨m, fun _ => 0, ρ⟩ (fun r => ∀ c : Dev nD,
    r.2.mem ((c.tc : Thread nD τ).loc main_v1)
      = result (m ((c : Thread nD τ).loc main_arg0)) (m ((c : Thread nD τ).loc main_arg1)) (m ((c : Thread nD τ).loc main_arg2))
        (m ((c : Thread nD τ).loc main_arg3)) (gRow (m ((c : Thread nD τ).loc main_arg4)))) :=
  (θ_run defs _ _).mono (fun _ h c => ((h c).1 5).trans (final_5 m c)) (run_main m ρ)

end Cert.KernelIdeal.Attn

end
-- ==== Proof.SoftmaxMath.lean ====
/-
  The mathematics of a softmax taken block by block: a running maximum, a running sum and a running weighted sum,
  rescaled whenever the maximum grows, against the softmax of the whole row.
-/
module

public import Idealize.ShloMosaic.Lib.Pointwise

@[expose] public section

noncomputable section

namespace Cert.Attn

open Idealize.ShloMosaic

/-! ## Exponentials of differences -/

theorem exp_bot : Ideal.exp ⊥ = 0 := rfl

/-- The exponential of a difference that is not positive is a real between 0 and 1. -/
theorem exp_sub_real {a b : EReal} (h : a ≤ b) (hb : b ≠ ⊤) : ∃ r : ℝ, 0 ≤ r ∧ Ideal.exp (a - b) = (r : EReal) := by
  induction a with
  | bot => exact ⟨0, le_refl _, by rw [EReal.bot_sub, exp_bot]; rfl⟩
  | top => exact absurd (top_le_iff.mp h) hb
  | coe a =>
    induction b with
    | bot => exact absurd h (by simp)
    | top => exact absurd rfl hb
    | coe b => exact ⟨Real.exp (a - b), (Real.exp_pos _).le, by rw [← EReal.coe_sub, Ideal.exp_coe]⟩

/-- Rescaling by the growth of the maximum. -/
theorem exp_rescale {s a b : EReal} (h1 : s ≤ a) (h2 : a ≤ b) (hb : b ≠ ⊤) : Ideal.exp (a - b) * Ideal.exp (s - a) = Ideal.exp (s - b) := by
  induction s with
  | bot => rw [EReal.bot_sub, EReal.bot_sub, exp_bot, mul_zero]
  | top => exact absurd (top_le_iff.mp (h1.trans h2)) hb
  | coe s =>
    induction b with
    | bot => exact absurd (h1.trans h2) (by simp)
    | top => exact absurd rfl hb
    | coe b =>
      induction a with
      | bot => exact absurd h1 (by simp)
      | top => exact absurd h2 (by simp)
      | coe a =>
        rw [← EReal.coe_sub, ← EReal.coe_sub, ← EReal.coe_sub, Ideal.exp_coe, Ideal.exp_coe, Ideal.exp_coe, ← EReal.coe_mul, ← Real.exp_add]
        congr 2
        ring

/-- A real factor that is not negative goes into a sum. -/
theorem coe_mul_sum {ι : Type} (r : ℝ) (hr : 0 ≤ r) (t : Finset ι) (f : ι → EReal) : (r : EReal) * ∑ i ∈ t, f i = ∑ i ∈ t, (r : EReal) * f i := by
  classical
  induction t using Finset.induction with
  | empty => simp
  | insert a t ha ih =>
    rw [Finset.sum_insert ha, Finset.sum_insert ha, EReal.left_distrib_of_nonneg_of_ne_top (by exact_mod_cast hr) (EReal.coe_ne_top r), ih]

/-! ## The running maximum, sum and weighted sum -/

variable {n : ℕ}

/-- The largest score of the first `N` blocks. -/
def mx (s : ℕ → Fin n → EReal) (N : ℕ) : EReal := (Finset.range N).sup fun i => Finset.univ.sup (s i)

/-- The sum of the exponentials of the first `N` blocks, less `M`. -/
def se (s : ℕ → Fin n → EReal) (M : EReal) (N : ℕ) : EReal := ∑ i ∈ Finset.range N, ∑ j, Ideal.exp (s i j - M)

/-- The weighted sum of the exponentials of the first `N` blocks, less `M`. -/
def sw (s v : ℕ → Fin n → EReal) (M : EReal) (N : ℕ) : EReal := ∑ i ∈ Finset.range N, ∑ j, Ideal.exp (s i j - M) * v i j

theorem mx_zero (s : ℕ → Fin n → EReal) : mx s 0 = ⊥ := rfl
theorem se_zero (s : ℕ → Fin n → EReal) (M : EReal) : se s M 0 = 0 := rfl
theorem sw_zero (s v : ℕ → Fin n → EReal) (M : EReal) : sw s v M 0 = 0 := rfl

theorem mx_succ (s : ℕ → Fin n → EReal) (N : ℕ) : mx s (N + 1) = max (mx s N) (Finset.univ.sup (s N)) := by
  unfold mx
  rw [Finset.range_add_one, Finset.sup_insert, sup_comm]

theorem le_mx (s : ℕ → Fin n → EReal) {N i : ℕ} (hi : i < N) (j : Fin n) : s i j ≤ mx s N :=
  (Finset.le_sup (f := s i) (Finset.mem_univ j)).trans (Finset.le_sup (f := fun i => Finset.univ.sup (s i)) (Finset.mem_range.mpr hi))

theorem mx_mono (s : ℕ → Fin n → EReal) (N : ℕ) : mx s N ≤ mx s (N + 1) := by rw [mx_succ]; exact le_max_left _ _

theorem mx_ne_top (s : ℕ → Fin n → EReal) (hs : ∀ i j, s i j ≠ ⊤) (N : ℕ) : mx s N ≠ ⊤ := by
  rw [← lt_top_iff_ne_top]
  unfold mx
  rw [Finset.sup_lt_iff bot_lt_top]
  intro i _
  rw [Finset.sup_lt_iff bot_lt_top]
  exact fun j _ => lt_top_iff_ne_top.mpr (hs i j)

/-- One block of the running sum. -/
theorem se_step (s : ℕ → Fin n → EReal) (hs : ∀ i j, s i j ≠ ⊤) (N : ℕ) :
    Ideal.exp (mx s N - mx s (N + 1)) * se s (mx s N) N + ∑ j, Ideal.exp (s N j - mx s (N + 1)) = se s (mx s (N + 1)) (N + 1) := by
  obtain ⟨r, hr, e⟩ := exp_sub_real (mx_mono s N) (mx_ne_top s hs (N + 1))
  rw [se, se, Finset.sum_range_succ, e, coe_mul_sum r hr]
  congr 1
  refine Finset.sum_congr rfl fun i hi => ?_
  rw [coe_mul_sum r hr]
  refine Finset.sum_congr rfl fun j _ => ?_
  rw [← e, exp_rescale (le_mx s (Finset.mem_range.mp hi) j) (mx_mono s N) (mx_ne_top s hs (N + 1))]

/-- One block of the running weighted sum. -/
theorem sw_step (s v : ℕ → Fin n → EReal) (hs : ∀ i j, s i j ≠ ⊤) (N : ℕ) :
    Ideal.exp (mx s N - mx s (N + 1)) * sw s v (mx s N) N + ∑ j, Ideal.exp (s N j - mx s (N + 1)) * v N j = sw s v (mx s (N + 1)) (N + 1) := by
  obtain ⟨r, hr, e⟩ := exp_sub_real (mx_mono s N) (mx_ne_top s hs (N + 1))
  rw [sw, sw, Finset.sum_range_succ, e, coe_mul_sum r hr]
  congr 1
  refine Finset.sum_congr rfl fun i hi => ?_
  rw [coe_mul_sum r hr]
  refine Finset.sum_congr rfl fun j _ => ?_
  rw [← e, ← mul_assoc, exp_rescale (le_mx s (Finset.mem_range.mp hi) j) (mx_mono s N) (mx_ne_top s hs (N + 1))]

/-! ## Blocks of a row -/

/-- A sum over `B` blocks of `n`, as a sum over the whole row. -/
theorem sum_blocks (B : ℕ) (f : ℕ → EReal) : ∑ i ∈ Finset.range B, ∑ j : Fin n, f (n * i + j.val) = ∑ x : Fin (B * n), f x.val := by
  rw [Fin.sum_univ_eq_sum_range f (B * n)]
  induction B with
  | zero => simp
  | succ B ih =>
    rw [Finset.sum_range_succ, ih, Nat.succ_mul, Finset.sum_range_add, Fin.sum_univ_eq_sum_range (fun j => f (n * B + j)), Nat.mul_comm]

/-- The blocks after the `N`-th contribute nothing where their terms vanish. -/
theorem sum_range_tail (N B : ℕ) (h : N ≤ B) (f : ℕ → EReal) (hz : ∀ i, N ≤ i → f i = 0) :
    ∑ i ∈ Finset.range N, f i = ∑ i ∈ Finset.range B, f i :=
  Finset.sum_subset (Finset.range_mono h) fun i _ hi => hz i (by simpa using hi)

/-- The largest score of the first `N` blocks is the row's largest where the later blocks are masked. -/
theorem mx_row (N B : ℕ) (h : N ≤ B) (hn : 0 < n) (f : ℕ → EReal) (hz : ∀ x, n * N ≤ x → f x = ⊥) :
    mx (fun i (j : Fin n) => f (n * i + j.val)) N = Finset.univ.sup fun x : Fin (B * n) => f x.val := by
  unfold mx
  apply le_antisymm
  · refine Finset.sup_le fun i hi => Finset.sup_le fun j _ => ?_
    have hi := Finset.mem_range.mp hi
    have hlt : n * i + j.val < B * n := by
      have := j.isLt
      calc n * i + j.val < n * i + n := by omega
        _ = n * (i + 1) := by ring
        _ ≤ n * B := Nat.mul_le_mul_left _ (by omega)
        _ = B * n := Nat.mul_comm _ _
    exact Finset.le_sup (f := fun x : Fin (B * n) => f x.val) (Finset.mem_univ ⟨n * i + j.val, hlt⟩)
  · refine Finset.sup_le fun x _ => ?_
    by_cases hx : n * N ≤ x.val
    · rw [hz _ hx]; exact bot_le
    · have hi : x.val / n < N := Nat.div_lt_of_lt_mul (by omega)
      have hj : x.val % n < n := Nat.mod_lt _ hn
      have e : n * (x.val / n) + x.val % n = x.val := Nat.div_add_mod _ _
      have := le_mx (fun i (j : Fin n) => f (n * i + j.val)) hi ⟨x.val % n, hj⟩
      simp only [e] at this
      exact this

/-! ## The difference of two softmaxes applied to values -/

/-- Finite quantities: weighting the values by the difference of two normalized maps is the difference of the two
    normalized weighted sums. -/
theorem mix {ι : Type} [Fintype ι] (w w' v : ι → ℝ) (L L' l : ℝ) (hL : L ≠ 0) (hL' : L' ≠ 0) :
    (∑ j, (v j : EReal) * (Ideal.div (w j) L - (l : EReal) * Ideal.div (w' j) L') : EReal)
      = Ideal.div (∑ j, (w j : EReal) * v j) L - (l : EReal) * Ideal.div (∑ j, (w' j : EReal) * v j) L' := by
  simp only [Ideal.div_coe hL, Ideal.div_coe hL', ← EReal.coe_mul, ← EReal.coe_sub]
  have cs : ∀ f : ι → ℝ, ∑ j, (f j : EReal) = ((∑ j, f j : ℝ) : EReal) := fun f => by
    classical
    refine Finset.induction_on (Finset.univ : Finset ι) (by simp) fun a t ha ih => ?_
    rw [Finset.sum_insert ha, Finset.sum_insert ha, ih, EReal.coe_add]
  rw [cs, cs, cs, ← EReal.coe_mul, ← EReal.coe_mul, ← EReal.coe_mul, ← EReal.coe_sub]
  congr 1
  rw [Finset.sum_mul, Finset.sum_mul, Finset.mul_sum, ← Finset.sum_sub_distrib]
  exact Finset.sum_congr rfl fun j _ => by ring

/-- A finite sum of reals, as a real. -/
theorem coe_sum' {ι : Type} [Fintype ι] (f : ι → ℝ) : ∑ j, (f j : EReal) = ((∑ j, f j : ℝ) : EReal) := by
  classical
  refine Finset.induction_on (Finset.univ : Finset ι) (by simp) fun a t ha ih => ?_
  rw [Finset.sum_insert ha, Finset.sum_insert ha, ih, EReal.coe_add]

/-- The exponentials of a row less its largest score are reals, and their sum is not zero, where no score is plus
    infinity and some score is not minus infinity. -/
theorem exps_real {m : ℕ} (f : Fin m → EReal) (ht : ∀ x, f x ≠ ⊤) (x₀ : Fin m) (hx : f x₀ ≠ ⊥) :
    ∃ w : Fin m → ℝ, (∀ x, Ideal.exp (f x - Finset.univ.sup f) = (w x : EReal)) ∧ (∑ x, w x) ≠ 0 := by
  have hM : Finset.univ.sup f ≠ ⊤ := by
    rw [← lt_top_iff_ne_top, Finset.sup_lt_iff bot_lt_top]
    exact fun j _ => lt_top_iff_ne_top.mpr (ht j)
  have hle : ∀ x, f x ≤ Finset.univ.sup f := fun x => Finset.le_sup (Finset.mem_univ x)
  choose w hw0 hw using fun x => exp_sub_real (hle x) hM
  refine ⟨w, hw, ?_⟩
  have hpos : 0 < w x₀ := by
    have hMb : Finset.univ.sup f ≠ ⊥ := fun h => hx (le_bot_iff.mp (h ▸ hle x₀))
    have e := hw x₀
    lift f x₀ to ℝ using ⟨ht x₀, hx⟩ with a ha
    lift Finset.univ.sup f to ℝ using ⟨hM, hMb⟩ with b hb
    rw [← EReal.coe_sub, Ideal.exp_coe] at e
    rw [← EReal.coe_eq_coe_iff.mp e]
    exact Real.exp_pos _
  exact (Finset.sum_pos' (fun x _ => hw0 x) ⟨x₀, Finset.mem_univ _, hpos⟩).ne'

/-- The running sums of a row, taken over the first `N` of its `B` blocks, are the sums over the whole row where the
    later blocks are masked. -/
theorem se_row (N B : ℕ) (h : N ≤ B) (f : ℕ → EReal) (hz : ∀ x, n * N ≤ x → f x = ⊥) (M : EReal) :
    se (fun i (j : Fin n) => f (n * i + j.val)) M N = ∑ x : Fin (B * n), Ideal.exp (f x.val - M) := by
  rw [← sum_blocks B fun x => Ideal.exp (f x - M)]
  refine sum_range_tail N B h _ fun i hi => Finset.sum_eq_zero fun j _ => ?_
  show Ideal.exp (f (n * i + j.val) - M) = 0
  rw [hz _ ((Nat.mul_le_mul_left n hi).trans (Nat.le_add_right _ _)), EReal.bot_sub, exp_bot]

theorem sw_row (N B : ℕ) (h : N ≤ B) (f v : ℕ → EReal) (hz : ∀ x, n * N ≤ x → f x = ⊥) (M : EReal) :
    sw (fun i (j : Fin n) => f (n * i + j.val)) (fun i (j : Fin n) => v (n * i + j.val)) M N = ∑ x : Fin (B * n), Ideal.exp (f x.val - M) * v x.val := by
  rw [← sum_blocks B fun x => Ideal.exp (f x - M) * v x]
  refine sum_range_tail N B h _ fun i hi => Finset.sum_eq_zero fun j _ => ?_
  show Ideal.exp (f (n * i + j.val) - M) * v (n * i + j.val) = 0
  rw [hz _ ((Nat.mul_le_mul_left n hi).trans (Nat.le_add_right _ _)), EReal.bot_sub, exp_bot, zero_mul]

/-- What one map leaves after its first `N` blocks: the running weighted sum over the running sum. -/
def one (f v : ℕ → EReal) (n N : ℕ) : EReal :=
  Ideal.div (sw (fun i (j : Fin n) => f (n * i + j.val)) (fun i (j : Fin n) => v (n * i + j.val)) (mx (fun i (j : Fin n) => f (n * i + j.val)) N) N)
    (se (fun i (j : Fin n) => f (n * i + j.val)) (mx (fun i (j : Fin n) => f (n * i + j.val)) N) N)

/-- The softmax weight of one position. -/
def wt (f : ℕ → EReal) (m : ℕ) (x : Fin m) : EReal :=
  Ideal.div (Ideal.exp (f x.val - Finset.univ.sup fun y : Fin m => f y.val)) (∑ z : Fin m, Ideal.exp (f z.val - Finset.univ.sup fun y : Fin m => f y.val))

/-- The row: the difference of the two maps' blockwise results is the values weighted by the difference of the two
    softmaxes of the whole row. -/
theorem row_eq (N B : ℕ) (h : N ≤ B) (hn : 0 < n) (f f' v : ℕ → EReal) (l : ℝ)
    (hz : ∀ x, n * N ≤ x → f x = ⊥) (hz' : ∀ x, n * N ≤ x → f' x = ⊥) (ht : ∀ x, f x ≠ ⊤) (ht' : ∀ x, f' x ≠ ⊤)
    (x₀ : Fin (B * n)) (hx : f x₀.val ≠ ⊥) (hx' : f' x₀.val ≠ ⊥) (hv : ∀ x, ∃ r : ℝ, v x = (r : EReal)) :
    one f v n N - (l : EReal) * one f' v n N = ∑ x : Fin (B * n), v x.val * (wt f (B * n) x - (l : EReal) * wt f' (B * n) x) := by
  unfold one wt
  rw [mx_row N B h hn f hz, mx_row N B h hn f' hz', se_row N B h f hz, se_row N B h f' hz', sw_row N B h f v hz, sw_row N B h f' v hz']
  obtain ⟨w, hw, hL⟩ := exps_real (fun x : Fin (B * n) => f x.val) (fun x => ht _) x₀ hx
  obtain ⟨w', hw', hL'⟩ := exps_real (fun x : Fin (B * n) => f' x.val) (fun x => ht' _) x₀ hx'
  choose u hu using fun x : Fin (B * n) => hv x.val
  simp only [hw, hw', hu, coe_sum' w, coe_sum' w']
  exact (mix w w' u _ _ l hL hL').symm

end Cert.Attn

end
-- ==== Proof.AttnPoint.lean ====
/-
  The kernel's pieces at an index: scores, running maximum, sum and weighted sum, the mask of the diagonal block, the
  slab; and the carry after some key blocks in terms of the running quantities of a row.
-/
module

public import proofs.«01_k».proof.Proof.KernelIdealVal
public import proofs.«01_k».proof.Proof.SoftmaxMath
public import Idealize.ShloMosaic.Lib.Pointwise

@[expose] public section

set_option maxRecDepth 16384

noncomputable section

namespace Cert.KernelIdeal.Attn

open Cert.KernelIdeal Cert.KernelIdeal.Gen Cert.Attn
open Idealize.ShloMosaic

theorem minf : Ideal.ofBits .f32 0xFF800000#32 = ⊥ := by
  simp [Ideal.ofBits, Ideal.ieee]

/-! ## The payloads at an index -/

/-- The score of a stacked row: the sum over its map's 64 lanes. -/
def dotp (q kb : Vec Ideal S256x128 .bf16) (r : Fin 512) (j : Fin 256) : EReal :=
  ∑ d : Fin 64, (q (ix2 ⟨r.val % 256, by omega⟩ ⟨r.val / 256 * 64 + d.val, by omega⟩) * kb (ix2 j ⟨r.val / 256 * 64 + d.val, by omega⟩) : EReal)

theorem lane_lo : ∀ x : Fin 64, IntOp.cmpi .slt (BitVec.ofNat 32 x.val) 64#32 = 1#1 := by decide
theorem lane_hi : ∀ x : Fin 64, IntOp.cmpi .slt (BitVec.ofNat 32 (64 + x.val)) 64#32 = 0#1 := by decide

theorem sel_one {α : Type} (a b : α) : Scalar.select (1#1) a b = a := rfl
theorem sel_zero {α : Type} (a b : α) : Scalar.select (0#1) a b = b := rfl

theorem pay7_apply (q kb : Vec Ideal S256x128 .bf16) (r : Fin 512) (j : Fin 256) : k0_pay7 (F := Ideal) k0_pay27 q kb (ix2 r j) = dotp q kb r j := by
  pointwise [k0_pay7, k0_pay3, k0_pay27]
  unfold dotp
  rw [Fin.sum_univ_two_halves 64 64 rfl]
  by_cases hr : r.val < 256
  · have e1 : r.val % 256 = r.val := Nat.mod_eq_of_lt hr
    have e2 : r.val / 256 = 0 := Nat.div_eq_of_lt hr
    simp only [dif_pos hr, lane_lo, lane_hi, e1, e2]
    have z : ∀ d : Fin 64, Scalar.select (0#1) (q (ix2 ⟨r.val, by omega⟩ ⟨64 + d.val, by omega⟩)) (0 : EReal) * kb (ix2 j ⟨64 + d.val, by omega⟩) = 0 := fun d => zero_mul _
    refine (congrArg₂ (· + ·) (Finset.sum_congr rfl fun d _ => ?_) (Finset.sum_eq_zero fun d _ => z d)).trans (add_zero _)
    simp only [sel_one, Nat.zero_mul, Nat.zero_add]
  · have e1 : r.val % 256 = r.val - 256 := by omega
    have e2 : r.val / 256 = 1 := by omega
    simp only [dif_neg hr, lane_lo, lane_hi, e1, e2]
    have z : ∀ d : Fin 64, Scalar.select (1#1) (0 : EReal) (q (ix2 ⟨r.val - 256, by omega⟩ ⟨d.val, by omega⟩)) * kb (ix2 j ⟨d.val, by omega⟩) = 0 := fun d => zero_mul _
    refine (congrArg₂ (· + ·) (Finset.sum_eq_zero fun d _ => z d) (Finset.sum_congr rfl fun d _ => ?_)).trans (zero_add _)
    simp only [sel_zero, Nat.one_mul]

theorem pay8_apply (q kb : Vec Ideal S256x128 .bf16) (m : FVec Ideal S512x1 .f32) (r : Fin 512) :
    k0_pay8 (F := Ideal) k0_pay27 q m kb (ix2 r 0) = max (m (ix2 r 0) : EReal) (Finset.univ.sup fun j => dotp q kb r j) := by
  pointwise [k0_pay8]
  simp only [pay7_apply, minf]
  rfl

theorem pay11_apply (q kb : Vec Ideal S256x128 .bf16) (m l : FVec Ideal S512x1 .f32) (r : Fin 512) :
    k0_pay11 (F := Ideal) k0_pay27 q m l kb (ix2 r 0) = (Ideal.exp (m (ix2 r 0) - k0_pay8 (F := Ideal) k0_pay27 q m kb (ix2 r 0)) * l (ix2 r 0)
      + ∑ j : Fin 256, Ideal.exp (dotp q kb r j - k0_pay8 (F := Ideal) k0_pay27 q m kb (ix2 r 0)) : EReal) := by
  pointwise [k0_pay11, k0_pay10, k0_pay9]
  simp only [pay7_apply]

theorem pay12_apply (q kb vb : Vec Ideal S256x128 .bf16) (m : FVec Ideal S512x1 .f32) (a : FVec Ideal S512x128 .f32) (r : Fin 512) (e : Fin 128) :
    k0_pay12 (F := Ideal) k0_pay27 q m a kb vb (ix2 r e) = (Ideal.exp (m (ix2 r 0) - k0_pay8 (F := Ideal) k0_pay27 q m kb (ix2 r 0)) * a (ix2 r e)
      + ∑ j : Fin 256, Ideal.exp (dotp q kb r j - k0_pay8 (F := Ideal) k0_pay27 q m kb (ix2 r 0)) * vb (ix2 j e) : EReal) := by
  pointwise [k0_pay12, k0_pay10, k0_pay9]
  simp only [pay7_apply]

/-- The masked score of the diagonal block. -/
def dotm (q kb : Vec Ideal S256x128 .bf16) (r : Fin 512) (j : Fin 256) : EReal :=
  if j.val / 64 ≤ r.val % 256 / 64 then dotp q kb r j else ⊥

theorem colChunk : ∀ j : Fin 256, (Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32)) = BitVec.ofNat 32 (j.val / 64) := by decide +kernel

theorem rowPlace : ∀ r : Fin 512, (Scalar.select (IntOp.cmpi CmpIPredicate.sge (BitVec.ofNat 32 r.val) 256#32)
                    (IntOp.subi (BitVec.ofNat 32 r.val) 256#32) (BitVec.ofNat 32 r.val)) = BitVec.ofNat 32 (r.val % 256) := by decide +kernel

theorem rowChunk : ∀ j : Fin 256, (Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (1#32) (Scalar.extui (0#1 : BitVec 1))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32)) = BitVec.ofNat 32 (j.val / 64) := by decide +kernel

theorem vis_apply (r : Fin 512) (j : Fin 256) : vis (ix2 r j) = BitVec.ofBool (decide (j.val / 64 ≤ r.val % 256 / 64)) := by
  have e : ∀ n : Fin 4, (BitVec.ofNat 32 n.val).toInt = n.val := by decide
  have e1 := e ⟨j.val / 64, by omega⟩
  have e2 := e ⟨r.val % 256 / 64, by omega⟩
  have hr := rowChunk ⟨r.val % 256, by omega⟩
  pointwise [vis, k0_pay1, k0_pay28, k0_pay29, k0_pay30]
  rw [colChunk, rowPlace, hr]
  unfold IntOp.cmpi
  simp only [BitVec.sle, e1, e2, Nat.cast_le]

theorem pay19_apply (q kb : Vec Ideal S256x128 .bf16) (r : Fin 512) (j : Fin 256) : k0_pay19 (F := Ideal) k0_pay27 vis q kb (ix2 r j) = dotm q kb r j := by
  have h7 := pay7_apply q kb r j
  have e : k0_pay19 (F := Ideal) k0_pay27 vis q kb (ix2 r j) = Scalar.select (vis (ix2 r j)) (k0_pay7 (F := Ideal) k0_pay27 q kb (ix2 r j)) (Named.named κ "mask" 0xF149F2CA#32) := by
    pointwise [k0_pay19, k0_pay7]
  rw [e, h7, vis_apply]
  unfold dotm
  by_cases hc : j.val / 64 ≤ r.val % 256 / 64
  · rw [if_pos hc, decide_eq_true hc]; rfl
  · rw [if_neg hc, decide_eq_false hc]; rfl

theorem pay20_apply (q kb : Vec Ideal S256x128 .bf16) (m : FVec Ideal S512x1 .f32) (r : Fin 512) :
    k0_pay20 (F := Ideal) k0_pay27 vis q m kb (ix2 r 0) = max (m (ix2 r 0) : EReal) (Finset.univ.sup fun j => dotm q kb r j) := by
  pointwise [k0_pay20]
  simp only [pay19_apply, minf]
  rfl

theorem pay22_apply (q kb : Vec Ideal S256x128 .bf16) (m : FVec Ideal S512x1 .f32) (r : Fin 512) :
    k0_pay22 (F := Ideal) k0_pay27 vis q m kb (ix2 r 0) = Ideal.exp (m (ix2 r 0) - k0_pay20 (F := Ideal) k0_pay27 vis q m kb (ix2 r 0) : EReal) := by
  pointwise [k0_pay22]

theorem pay23_apply (q kb : Vec Ideal S256x128 .bf16) (m l : FVec Ideal S512x1 .f32) (r : Fin 512) :
    k0_pay23 (F := Ideal) k0_pay27 vis q m l kb (ix2 r 0) = (Ideal.exp (m (ix2 r 0) - k0_pay20 (F := Ideal) k0_pay27 vis q m kb (ix2 r 0)) * l (ix2 r 0)
      + ∑ j : Fin 256, Ideal.exp (dotm q kb r j - k0_pay20 (F := Ideal) k0_pay27 vis q m kb (ix2 r 0)) : EReal) := by
  pointwise [k0_pay23, k0_pay22, k0_pay21]
  simp only [pay19_apply]

theorem pay24_apply (q kb vb : Vec Ideal S256x128 .bf16) (m : FVec Ideal S512x1 .f32) (r : Fin 512) (e : Fin 128) :
    k0_pay24 (F := Ideal) k0_pay27 vis q m kb vb (ix2 r e)
      = (∑ j : Fin 256, Ideal.exp (dotm q kb r j - k0_pay20 (F := Ideal) k0_pay27 vis q m kb (ix2 r 0)) * vb (ix2 j e) : EReal) := by
  pointwise [k0_pay24, k0_pay21]
  simp only [pay19_apply]

end Cert.KernelIdeal.Attn

end
-- ==== Proof.AttnSlab.lean ====
/-
  The slab the body writes, at an index: the difference of the two maps' blockwise softmaxes of a row applied to the
  values, normalized; the carry in terms of the running quantities of a row.
-/
module

public import proofs.«01_k».proof.Proof.AttnPoint

@[expose] public section

set_option maxRecDepth 16384

noncomputable section

namespace Cert.KernelIdeal.Attn

open Cert.KernelIdeal Cert.KernelIdeal.Gen Cert.Attn
open Idealize.ShloMosaic

variable (xq xk xv : Vec Ideal S2048x128 .bf16)

/-- The score of position `ρ` against position `x` in map `i`, minus infinity where the key's chunk is after the
    query's. -/
def fpos (i : ℕ) (hi : i < 2) (ρ x : ℕ) : EReal := if x / 64 ≤ ρ / 64 then
  ∑ d : Fin 64, (xq (ix2 ⟨ρ % 2048, Nat.mod_lt _ (by decide)⟩ ⟨i * 64 + d.val, by omega⟩) * xk (ix2 ⟨x % 2048, Nat.mod_lt _ (by decide)⟩ ⟨i * 64 + d.val, by omega⟩) : EReal)
  else ⊥

/-- The value of position `x` in lane `e`. -/
def vpos (e : Fin 128) (x : ℕ) : EReal := xv (ix2 ⟨x % 2048, Nat.mod_lt _ (by decide)⟩ e)

theorem rowOf_ix (n : ℕ) (r : Fin 256) (d : Fin 128) : rowOf n (ix2 r d) = ix2 ⟨(256 * n + r.val) % 2048, Nat.mod_lt _ (by decide)⟩ d := by
  funext a
  match a with
  | ⟨0, _⟩ => rfl
  | ⟨1, _⟩ => rfl

/-- The scores of a block are those of the positions. -/
theorem dotp_blk (k n : ℕ) (r : Fin 512) (j : Fin 256) (h : (256 * n + j.val) / 64 ≤ (256 * k + r.val % 256) / 64) :
    dotp (blk xq k) (blk xk n) r j = fpos xq xk (r.val / 256) (by omega) (256 * k + r.val % 256) (256 * n + j.val) := by
  unfold dotp fpos blk
  rw [if_pos h]
  simp only [rowOf_ix]

theorem dotm_blk (k : ℕ) (r : Fin 512) (j : Fin 256) :
    dotm (blk xq k) (blk xk k) r j = fpos xq xk (r.val / 256) (by omega) (256 * k + r.val % 256) (256 * k + j.val) := by
  unfold dotm
  by_cases h : j.val / 64 ≤ r.val % 256 / 64
  · rw [if_pos h]; exact dotp_blk xq xk k k r j (by omega)
  · rw [if_neg h]; unfold fpos; rw [if_neg (by omega)]

/-- The row's scores, block by block. -/
abbrev rows (k : ℕ) (r : Fin 512) : ℕ → Fin 256 → EReal := fun i j => fpos xq xk (r.val / 256) (by omega) (256 * k + r.val % 256) (256 * i + j.val)

/-- The row's values, block by block. -/
abbrev vals (e : Fin 128) : ℕ → Fin 256 → EReal := fun i j => vpos xv e (256 * i + j.val)

variable (hf : ∀ (i : ℕ) (hi : i < 2) (ρ x : ℕ), fpos xq xk i hi ρ x ≠ ⊤)

include hf in
/-- The carry after `n` key blocks before the diagonal. -/
theorem carry_eq (k : ℕ) (r : Fin 512) : ∀ n, n ≤ k →
    (carry (F := Ideal) (blk xq k) xk xv n).1 (ix2 r 0) = mx (rows xq xk k r) n
    ∧ (carry (F := Ideal) (blk xq k) xk xv n).2.1 (ix2 r 0) = se (rows xq xk k r) (mx (rows xq xk k r) n) n
    ∧ ∀ e, (carry (F := Ideal) (blk xq k) xk xv n).2.2 (ix2 r e) = sw (rows xq xk k r) (vals xv e) (mx (rows xq xk k r) n) n
  | 0, _ => ⟨rfl, Ideal.ofBits_zero_f32, fun e => Ideal.ofBits_zero_f32⟩
  | n + 1, h => by
    obtain ⟨h1, h2, h3⟩ := carry_eq k r n (by omega)
    have hs : ∀ j : Fin 256, dotp (blk xq k) (blk xk n) r j = rows xq xk k r n j := fun j => dotp_blk xq xk k n r j (by omega)
    have e8 : k0_pay8 (F := Ideal) k0_pay27 (blk xq k) (carry (F := Ideal) (blk xq k) xk xv n).1 (blk xk n) (ix2 r 0) = mx (rows xq xk k r) (n + 1) := by
      rw [pay8_apply, h1, mx_succ]
      simp only [hs]
    have hv : ∀ (e : Fin 128) (j : Fin 256), blk xv n (ix2 j e) = vals xv e n j := fun e j => by
      unfold blk; rw [rowOf_ix]; rfl
    refine ⟨e8, ?_, fun e => ?_⟩
    · refine (pay11_apply _ _ _ _ _).trans ?_
      rw [e8, h1, h2, ← se_step _ (fun i j => hf _ _ _ _)]
      simp only [hs]
    · refine (pay12_apply _ _ _ _ _ _ _).trans ?_
      rw [e8, h1, h3, ← sw_step _ _ (fun i j => hf _ _ _ _)]
      simp only [hs, hv]

/-- The normalized difference of the two maps of a row, `f` the row of lanes before normalization. -/
def nrm (f : Fin 128 → EReal) (gain : EReal) (e : Fin 128) : EReal :=
  f e * Ideal.rsqrt (Ideal.div (∑ x : Fin 128, f x * f x) (Ideal.ofBits .f32 0x43000000#32) + Ideal.ofBits .f32 0x3727C5AC#32) * gain

/-- The row of lanes before normalization. -/
def lanes (l : EReal) (k : ℕ) (r : Fin 256) (e : Fin 128) : EReal :=
  one (fpos xq xk 0 (by decide) (256 * k + r.val)) (vpos xv e) 256 (k + 1) - l * one (fpos xq xk 1 (by decide) (256 * k + r.val)) (vpos xv e) 256 (k + 1)

include hf in
/-- The slab at an index. -/
theorem slab_apply (lam : FVec Ideal S1x1 .f32) (g : FVec Ideal S1x128 .f32) (k : ℕ) (r : Fin 256) (e : Fin 128) :
    slab (F := Ideal) lam g xq xk xv k (ix2 r e) = nrm (lanes xq xk xv (lam (ix2 0 0)) k r) (g (ix2 0 e)) e := by
  have hs : ∀ (r : Fin 512) (j : Fin 256), dotm (blk xq k) (blk xk k) r j = rows xq xk k r k j := fun r j => dotm_blk xq xk k r j
  have hv : ∀ (e : Fin 128) (j : Fin 256), blk xv k (ix2 j e) = vals xv e k j := fun e j => by
    unfold blk; rw [rowOf_ix]; rfl
  have e20 : ∀ r : Fin 512, k0_pay20 (F := Ideal) k0_pay27 vis (blk xq k) (carry (F := Ideal) (blk xq k) xk xv k).1 (blk xk k) (ix2 r 0) = mx (rows xq xk k r) (k + 1) := fun r => by
    rw [pay20_apply, (carry_eq xq xk xv hf k r k le_rfl).1, mx_succ]
    simp only [hs]
  have eL : ∀ r : Fin 512, k0_pay23 (F := Ideal) k0_pay27 vis (blk xq k) (carry (F := Ideal) (blk xq k) xk xv k).1 (carry (F := Ideal) (blk xq k) xk xv k).2.1 (blk xk k) (ix2 r 0)
      = se (rows xq xk k r) (mx (rows xq xk k r) (k + 1)) (k + 1) := fun r => by
    rw [pay23_apply, e20, (carry_eq xq xk xv hf k r k le_rfl).1, (carry_eq xq xk xv hf k r k le_rfl).2.1, ← se_step _ (fun i j => hf _ _ _ _)]
    simp only [hs]
  have eA : ∀ (r : Fin 512) (e : Fin 128), (k0_pay22 (F := Ideal) k0_pay27 vis (blk xq k) (carry (F := Ideal) (blk xq k) xk xv k).1 (blk xk k) (ix2 r 0)
        * (carry (F := Ideal) (blk xq k) xk xv k).2.2 (ix2 r e) + k0_pay24 (F := Ideal) k0_pay27 vis (blk xq k) (carry (F := Ideal) (blk xq k) xk xv k).1 (blk xk k) (blk xv k) (ix2 r e) : EReal)
      = sw (rows xq xk k r) (vals xv e) (mx (rows xq xk k r) (k + 1)) (k + 1) := fun r e => by
    rw [pay22_apply, pay24_apply, e20, (carry_eq xq xk xv hf k r k le_rfl).1, (carry_eq xq xk xv hf k r k le_rfl).2.2, ← sw_step _ _ (fun i j => hf _ _ _ _)]
    simp only [hs, hv]
  unfold slab
  generalize k0_pay22 (F := Ideal) k0_pay27 vis (blk xq k) (carry (F := Ideal) (blk xq k) xk xv k).1 (blk xk k) = A at *
  generalize k0_pay23 (F := Ideal) k0_pay27 vis (blk xq k) (carry (F := Ideal) (blk xq k) xk xv k).1 (carry (F := Ideal) (blk xq k) xk xv k).2.1 (blk xk k) = B at *
  generalize k0_pay24 (F := Ideal) k0_pay27 vis (blk xq k) (carry (F := Ideal) (blk xq k) xk xv k).1 (blk xk k) (blk xv k) = C at *
  generalize (carry (F := Ideal) (blk xq k) xk xv k).2.2 = D at *
  pointwise [k0_pay2]
  simp only [eA, eL]
  have q0 : ∀ e, Ideal.div (sw (rows xq xk k ⟨r.val, by omega⟩) (vals xv e) (mx (rows xq xk k ⟨r.val, by omega⟩) (k + 1)) (k + 1)) (se (rows xq xk k ⟨r.val, by omega⟩) (mx (rows xq xk k ⟨r.val, by omega⟩) (k + 1)) (k + 1))
      = one (fpos xq xk 0 (by decide) (256 * k + r.val)) (vpos xv e) 256 (k + 1) := fun e => by
    have a1 : r.val / 256 = 0 := by omega
    have a2 : r.val % 256 = r.val := by omega
    unfold one rows
    simp only [a1, a2]
  have q1 : ∀ e, Ideal.div (sw (rows xq xk k ⟨256 + r.val, by omega⟩) (vals xv e) (mx (rows xq xk k ⟨256 + r.val, by omega⟩) (k + 1)) (k + 1)) (se (rows xq xk k ⟨256 + r.val, by omega⟩) (mx (rows xq xk k ⟨256 + r.val, by omega⟩) (k + 1)) (k + 1))
      = one (fpos xq xk 1 (by decide) (256 * k + r.val)) (vpos xv e) 256 (k + 1) := fun e => by
    have a1 : (256 + r.val) / 256 = 1 := by omega
    have a2 : (256 + r.val) % 256 = r.val := by omega
    unfold one rows
    simp only [a1, a2]
  simp only [q0, q1]
  rfl

end Cert.KernelIdeal.Attn

end
-- ==== Proof.HostMax.lean ====
/-
  A maximum over the last of five axes, as a supremum.
-/
module

public import Idealize.ShloMosaic.Lib.Pointwise

@[expose] public section

noncomputable section

namespace Cert.Attn

open Idealize.ShloMosaic

/-- A fold of the maximum over a fiber is a supremum over what runs through the fiber. -/
theorem fold_fiber {ι κ : Type} [Fintype ι] [Fintype κ] (P : ι → Prop) [DecidablePred P] (f : κ → ι)
    (hf : ∀ i, P i ↔ ∃ k, f k = i) (x : ι → EReal) :
    (Finset.univ.filter P).fold max ⊥ x = Finset.univ.sup fun k => x (f k) := by
  have e : (Finset.univ.filter P).fold max ⊥ x = (Finset.univ.filter P).sup x := rfl
  rw [e]
  apply le_antisymm
  · refine Finset.sup_le fun i hi => ?_
    obtain ⟨k, rfl⟩ := (hf i).mp (Finset.mem_filter.mp hi).2
    exact Finset.le_sup (f := fun k => x (f k)) (Finset.mem_univ k)
  · refine Finset.sup_le fun k _ => ?_
    exact Finset.le_sup (f := x) (Finset.mem_filter.mpr ⟨Finset.mem_univ _, (hf _).mpr ⟨k, rfl⟩⟩)

/-- The maximum over the last of five axes, starting from minus infinity. -/
theorem reduce_max_last {n0 n1 n2 n3 n4 : ℕ} {u : Shape} (x : (⟨5, ![n0, n1, n2, n3, n4]⟩ : Shape).Idx → EReal) (init : u.Idx → EReal)
    (h : (⟨5, ![n0, n1, n2, n3, n4]⟩ : Shape).ReducesTo [4] (⟨4, ![n0, n1, n2, n3]⟩ : Shape)) (hu : 0 < u.numel) (hi : init (Shape.Idx.first hu) = ⊥)
    (a : Fin n0) (b : Fin n1) (c : Fin n2) (d : Fin n3) :
    Host.reduce (max : EReal → EReal → EReal) x init h hu (ix4 a b c d) = Finset.univ.sup fun k : Fin n4 => x (ix5 a b c d k) := by
  rw [Host.reduce_eq_fold, hi]
  exact fold_fiber _ (fun k : Fin n4 => ix5 a b c d k) (fun i => Shape.ReducesTo.fiber_r5_a4 h (ix4 a b c d) i) x

end Cert.Attn

end
-- ==== Proof.AttnRef.lean ====
/-
  The reference's attention, stage by stage, and each stage's value at an index.
-/
module

public import proofs.«01_k».proof.Proof.Gen.ReferenceIdeal.Run
public import Idealize.ShloMosaic.Lib.Pointwise
public import proofs.«01_k».proof.Proof.HostMax

@[expose] public section

set_option maxRecDepth 16384

noncomputable section

namespace Cert.ReferenceIdeal.Attn

open Cert.ReferenceIdeal Cert.ReferenceIdeal.Gen Cert.ReferenceIdeal.Value
open Idealize.ShloMosaic

/-! ## The stages -/

section
variable {F : FTy → Type} [FloatOps F]

/-- The chunk of 64 positions a position lies in. -/
def chunk : IVec S2048 32 := (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))))

/-- Whether a query (first) sees a key (second). -/
def seen : IVec S2048x2048 1 := (cmpi .sle (broadcastInDim S2048x2048 ![0, 1] bcast_S1x2048_S2048x2048_0_1 (broadcastInDim S1x2048 ![1] bcast_S2048_S1x2048_1 chunk)) (broadcastInDim S2048x2048 ![0, 1] bcast_S2048x1_S2048x2048_0_1 (broadcastInDim S2048x1 ![0] bcast_S2048_S2048x1_0 chunk)))

/-- The scores, minus infinity where the key is not seen. -/
def scores (q k : FVec F S16384x512 .bf16) : FVec F S8x4x2x2048x2048 .f32 :=
  (select (broadcastInDim S8x4x2x2048x2048 ![3, 4] bcast_S2048x2048_S8x4x2x2048x2048_3_4 seen) (Host.dotGeneral dot_S8x2048x4x2x64_S8x2048x4x2x64_S8x4x2x2048x2048_4_4_1_1_023_023 none (shapeCast _ (extf .f32 q bitsLt_bf16_f32) shapeCasts_S16384x512_S8x2048x4x2x64) (shapeCast _ (extf .f32 k bitsLt_bf16_f32) shapeCasts_S16384x512_S8x2048x4x2x64)) (broadcastInDim S8x4x2x2048x2048 ![] bcast_S_S8x4x2x2048x2048 (id (constant S_ .f32 0xFF800000#32))))

/-- The largest score of each query. -/
def top (s : FVec F S8x4x2x2048x2048 .f32) : FVec F S8x4x2x2048 .f32 :=
  maximumf (broadcastInDim S8x4x2x2048 ![] bcast_S_S8x4x2x2048 (constant S_ .f32 0xFF800000#32)) (Host.reduce FloatOps.maximumf s (constant S_ .f32 0xFF800000#32) reducesTo_S8x4x2x2048x2048_S8x4x2x2048_d4 h_S_)

/-- The exponentials of the scores less the largest. -/
def expo (s : FVec F S8x4x2x2048x2048 .f32) : FVec F S8x4x2x2048x2048 .f32 :=
  Host.exp (subf s (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (top s))))

/-- The softmax. -/
def soft (w : FVec F S8x4x2x2048x2048 .f32) : FVec F S8x4x2x2048x2048 .f32 :=
  Host.divf w (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (Host.reduceAdd w (constant S_ .f32 0x00000000#32) reducesTo_S8x4x2x2048x2048_S8x4x2x2048_d4 h_S_)))

/-- The weight of the second map. -/
def lam (lp : FVec F S4x64 .f32) : FVec F S_ .f32 :=
  (addf (subf (Host.exp (Host.reduceAdd (mulf (shapeCast _ (extractStridedSlice S1x64 ![0, 0] lp slices_S4x64_S1x64_0_0) shapeCasts_S1x64_S64) (shapeCast _ (extractStridedSlice S1x64 ![1, 0] lp slices_S4x64_S1x64_1_0) shapeCasts_S1x64_S64)) (constant S_ .f32 0x00000000#32) reducesTo_S64_S_d0 h_S_)) (Host.exp (Host.reduceAdd (mulf (shapeCast _ (extractStridedSlice S1x64 ![2, 0] lp slices_S4x64_S1x64_2_0) shapeCasts_S1x64_S64) (shapeCast _ (extractStridedSlice S1x64 ![3, 0] lp slices_S4x64_S1x64_3_0) shapeCasts_S1x64_S64)) (constant S_ .f32 0x00000000#32) reducesTo_S64_S_d0 h_S_))) (constant S_ .f32 0x3E4CCCCD#32))

/-- The values weighted by the difference of the two maps. -/
def mixed (p : FVec F S8x4x2x2048x2048 .f32) (l : FVec F S_ .f32) (v : FVec F S16384x512 .bf16) : FVec F S8x2048x4x128 .f32 :=
  (transpose S8x2048x4x128 [0, 3, 1, 2] (Host.dotGeneral dot_S8x2048x4x128_S8x4x2048x2048_S8x4x128x2048_1_3_3_2_02_01 none (shapeCast _ (extf .f32 v bitsLt_bf16_f32) shapeCasts_S16384x512_S8x2048x4x128) (subf (shapeCast _ (extractStridedSlice S8x4x1x2048x2048 ![0, 0, 0, 0, 0] p slices_S8x4x2x2048x2048_S8x4x1x2048x2048_0_0_0_0_0) shapeCasts_S8x4x1x2048x2048_S8x4x2048x2048) (mulf (broadcastInDim S8x4x2048x2048 ![] bcast_S_S8x4x2048x2048 l) (shapeCast _ (extractStridedSlice S8x4x1x2048x2048 ![0, 0, 1, 0, 0] p slices_S8x4x2x2048x2048_S8x4x1x2048x2048_0_0_1_0_0) shapeCasts_S8x4x1x2048x2048_S8x4x2048x2048)))) transposes_S8x4x128x2048_S8x2048x4x128_0_3_1_2)

/-- The mean-square normalization of each head and its gain. -/
def normed (o : FVec F S8x2048x4x128 .f32) (g : FVec F S128 .f32) : FVec F S16384x512 .bf16 :=
  truncf .bf16 (shapeCast _ (mulf (mulf (mulf o (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf o o) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x3727C5AC#32)))))) (broadcastInDim S8x2048x4x128 ![0, 1, 2, 3] bcast_S1x1x1x128_S8x2048x4x128_0_1_2_3 (broadcastInDim S1x1x1x128 ![3] bcast_S128_S1x1x1x128_3 g))) (broadcastInDim S8x2048x4x128 ![] bcast_S_S8x2048x4x128 (constant S_ .f32 0x3F4CCCCD#32))) shapeCasts_S8x2048x4x128_S16384x512) bitsLt_bf16_f32

/-- The whole reference. -/
def whole (q k v : FVec F S16384x512 .bf16) (lp : FVec F S4x64 .f32) (g : FVec F S128 .f32) : FVec F S16384x512 .bf16 :=
  normed (mixed (soft (expo (scores q k))) (lam lp) v) g

end

/-! ## Each stage at an index -/

theorem minf : Ideal.ofBits .f32 0xFF800000#32 = ⊥ := by
  simp [Ideal.ofBits, Ideal.ieee]

theorem chunk_apply : ∀ r : Fin 2048, chunk (ix1 r) = BitVec.ofNat 32 (r.val / 64) := by
  intro r
  pointwise [chunk]
  simp only [id, constantI_apply]
  revert r
  decide +kernel

/-- A key is seen when its chunk is not after the query's. -/
theorem seen_apply (r j : Fin 2048) : seen (ix2 r j) = BitVec.ofBool (decide (j.val / 64 ≤ r.val / 64)) := by
  have h : seen (ix2 r j) = IntOp.cmpi .sle (chunk (ix1 j)) (chunk (ix1 r)) := by pointwise [seen]
  have e : ∀ n : Fin 32, (BitVec.ofNat 32 n.val).toInt = n.val := by decide
  have e1 := e ⟨j.val / 64, by omega⟩
  have e2 := e ⟨r.val / 64, by omega⟩
  rw [h, chunk_apply, chunk_apply]
  unfold IntOp.cmpi
  simp only [BitVec.sle, e1, e2, Nat.cast_le]

/-- A score: the sum over the map's 64 lanes, or minus infinity. -/
theorem scores_apply (q k : FVec Ideal S16384x512 .bf16) (b : Fin 8) (h : Fin 4) (i : Fin 2) (r j : Fin 2048) :
    scores q k (ix5 b h i r j) = if j.val / 64 ≤ r.val / 64 then
      ∑ x : Fin 64, q (ix2 ⟨b.val * 2048 + r.val, by omega⟩ ⟨h.val * 128 + i.val * 64 + x.val, by omega⟩)
          * k (ix2 ⟨b.val * 2048 + j.val, by omega⟩ ⟨h.val * 128 + i.val * 64 + x.val, by omega⟩) else (⊥ : EReal) := by
  pointwise [scores]
  rw [seen_apply]
  simp only [id, constant_apply]
  by_cases hc : j.val / 64 ≤ r.val / 64
  · rw [if_pos hc, decide_eq_true hc]; rfl
  · rw [if_neg hc, decide_eq_false hc]; exact minf

/-- A maximum of two vectors at an index. -/
theorem max_at {t : Shape} (x y : FVec Ideal t .f32) (j : t.Idx) (a b : EReal) (hx : x j = a) (hy : y j = b) : maximumf x y j = max a b := by
  subst hx; subst hy; rfl

/-- The largest score. -/
theorem top_apply (s : FVec Ideal S8x4x2x2048x2048 .f32) (b : Fin 8) (h : Fin 4) (i : Fin 2) (r : Fin 2048) :
    top s (ix4 b h i r) = Finset.univ.sup fun j : Fin 2048 => (s (ix5 b h i r j) : EReal) := by
  have e : Host.reduce (FloatOps.maximumf (F := Ideal) (φ := .f32)) s (constant (F := Ideal) S_ .f32 0xFF800000#32) reducesTo_S8x4x2x2048x2048_S8x4x2x2048_d4 h_S_ (ix4 b h i r) = Finset.univ.sup fun j : Fin 2048 => (s (ix5 b h i r j) : EReal) :=
    Cert.Attn.reduce_max_last s (constant (F := Ideal) S_ .f32 0xFF800000#32) reducesTo_S8x4x2x2048x2048_S8x4x2x2048_d4 h_S_ minf b h i r
  have e2 : broadcastInDim S8x4x2x2048 ![] bcast_S_S8x4x2x2048 (constant (F := Ideal) S_ .f32 0xFF800000#32) (ix4 b h i r) = (⊥ : EReal) := minf
  unfold top
  exact (max_at _ _ _ _ _ e2 e).trans (bot_sup_eq _)

/-- An exponential. -/
theorem expo_apply (s : FVec Ideal S8x4x2x2048x2048 .f32) (b : Fin 8) (h : Fin 4) (i : Fin 2) (r j : Fin 2048) :
    expo s (ix5 b h i r j) = Ideal.exp (s (ix5 b h i r j) - top s (ix4 b h i r) : EReal) := by
  pointwise [expo]

/-- A softmax weight. -/
theorem soft_apply (s : FVec Ideal S8x4x2x2048x2048 .f32) (b : Fin 8) (h : Fin 4) (i : Fin 2) (r j : Fin 2048) :
    soft s (ix5 b h i r j) = Ideal.div (s (ix5 b h i r j)) (∑ x : Fin 2048, s (ix5 b h i r x)) := by
  pointwise [soft]

/-- The weight of the second map. -/
theorem lam_apply (lp : FVec Ideal S4x64 .f32) : lam lp ix0
    = (Ideal.exp (∑ x : Fin 64, lp (ix2 0 x) * lp (ix2 1 x)) - Ideal.exp (∑ x : Fin 64, lp (ix2 2 x) * lp (ix2 3 x)) + Ideal.ofBits .f32 0x3E4CCCCD#32 : EReal) := by
  pointwise [lam]

/-- A value weighted by the difference of the maps. -/
theorem mixed_apply (p : FVec Ideal S8x4x2x2048x2048 .f32) (l : FVec Ideal S_ .f32) (v : FVec Ideal S16384x512 .bf16) (b : Fin 8) (r : Fin 2048) (h : Fin 4) (e : Fin 128) :
    mixed p l v (ix4 b r h e) = ∑ x : Fin 2048, (v (ix2 ⟨b.val * 2048 + x.val, by omega⟩ ⟨h.val * 128 + e.val, by omega⟩)
      * (p (ix5 b h 0 r x) - l ix0 * p (ix5 b h 1 r x)) : EReal) := by
  pointwise [mixed]

/-- The normalization and the gain. -/
theorem normed_apply (o : FVec Ideal S8x2048x4x128 .f32) (g : FVec Ideal S128 .f32) (r : Fin 16384) (e : Fin 512) :
    normed o g (ix2 r e) = (o (ix4 ⟨r.val / 2048, by omega⟩ ⟨r.val % 2048, by omega⟩ ⟨e.val / 128, by omega⟩ ⟨e.val % 128, by omega⟩)
      * Ideal.rsqrt (Ideal.div (∑ x : Fin 128, o (ix4 ⟨r.val / 2048, by omega⟩ ⟨r.val % 2048, by omega⟩ ⟨e.val / 128, by omega⟩ x)
            * o (ix4 ⟨r.val / 2048, by omega⟩ ⟨r.val % 2048, by omega⟩ ⟨e.val / 128, by omega⟩ x)) (Ideal.ofBits .f32 0x43000000#32)
          + Ideal.ofBits .f32 0x3727C5AC#32)
      * g (ix1 ⟨e.val % 128, by omega⟩) * Ideal.ofBits .f32 0x3F4CCCCD#32 : EReal) := by
  pointwise [normed]

end Cert.ReferenceIdeal.Attn

end
-- ==== Proof.AttnValue.lean ====
/-
  The kernel's result is the reference's, where queries, keys, values and the weights' parameters are finite.
-/
module

public import proofs.«01_k».proof.Proof.KernelIdealGo
public import proofs.«01_k».proof.Proof.AttnSlab
public import proofs.«01_k».proof.Proof.AttnRef

@[expose] public section

set_option maxRecDepth 16384

noncomputable section

namespace Cert.KernelIdeal.Attn

open Cert.KernelIdeal Cert.KernelIdeal.Gen Cert.Attn
open Idealize.ShloMosaic

/-- Every element is a real. -/
def Fin' {t : Shape} (x : t.Idx → EReal) : Prop := ∀ i, ∃ r : ℝ, x i = (r : EReal)

/-- A sum of products of finite elements is a real. -/
theorem real_dot {ι : Type} [Fintype ι] (f g : ι → EReal) (hf : ∀ i, ∃ r : ℝ, f i = (r : EReal)) (hg : ∀ i, ∃ r : ℝ, g i = (r : EReal)) :
    ∃ r : ℝ, ∑ i, f i * g i = (r : EReal) := by
  choose a ha using hf
  choose b hb using hg
  refine ⟨∑ i, a i * b i, ?_⟩
  rw [← coe_sum']
  exact Finset.sum_congr rfl fun i _ => by rw [ha, hb, EReal.coe_mul]

theorem part_ix (x : Vec Ideal S16384x512 .bf16) (b h : ℕ) (hb : b < 8) (hh : h < 4) (r : Fin 2048) (e : Fin 128) :
    part x b h (ix2 r e) = x (ix2 ⟨b * 2048 + r.val, by omega⟩ ⟨h * 128 + e.val, by omega⟩) := by
  unfold part
  congr 1
  funext a
  apply Fin.ext
  match a with
  | ⟨0, _⟩ => show (2048 * b + r.val) % 16384 = b * 2048 + r.val; omega
  | ⟨1, _⟩ => show (128 * h + e.val) % 512 = h * 128 + e.val; omega

section
variable (q k v : Vec Ideal S16384x512 .bf16) (lp : Vec Ideal S4x64 .f32) (g : Vec Ideal S128 .f32)

theorem part_fin {x : Vec Ideal S16384x512 .bf16} (hx : Fin' (t := S16384x512) x) (b h : ℕ) : Fin' (t := S2048x128) (part x b h) := fun i => hx _

/-- Scores of finite queries and keys are not plus infinity. -/
theorem fpos_ne_top {xq xk : Vec Ideal S2048x128 .bf16} (hq : Fin' (t := S2048x128) xq) (hk : Fin' (t := S2048x128) xk) (i : ℕ) (hi : i < 2) (ρ x : ℕ) :
    fpos xq xk i hi ρ x ≠ ⊤ := by
  unfold fpos
  split
  · obtain ⟨r, hr⟩ := real_dot (fun d : Fin 64 => xq (ix2 ⟨ρ % 2048, Nat.mod_lt _ (by decide)⟩ ⟨i * 64 + d.val, by omega⟩))
      (fun d : Fin 64 => xk (ix2 ⟨x % 2048, Nat.mod_lt _ (by decide)⟩ ⟨i * 64 + d.val, by omega⟩)) (fun d => hq _) (fun d => hk _)
    rw [hr]; exact EReal.coe_ne_top r
  · exact bot_ne_top

/-- The first key is always seen. -/
theorem fpos_zero {xq xk : Vec Ideal S2048x128 .bf16} (hq : Fin' (t := S2048x128) xq) (hk : Fin' (t := S2048x128) xk) (i : ℕ) (hi : i < 2) (ρ : ℕ) :
    fpos xq xk i hi ρ 0 ≠ ⊥ := by
  unfold fpos
  rw [if_pos (by omega)]
  obtain ⟨r, hr⟩ := real_dot (fun d : Fin 64 => xq (ix2 ⟨ρ % 2048, Nat.mod_lt _ (by decide)⟩ ⟨i * 64 + d.val, by omega⟩))
    (fun d : Fin 64 => xk (ix2 ⟨0 % 2048, Nat.mod_lt _ (by decide)⟩ ⟨i * 64 + d.val, by omega⟩)) (fun d => hq _) (fun d => hk _)
  rw [hr]; exact EReal.coe_ne_bot r

/-- The blocks after the diagonal are masked. -/
theorem fpos_masked (xq xk : Vec Ideal S2048x128 .bf16) (i : ℕ) (hi : i < 2) (ρ x : ℕ) (h : 256 * (ρ / 256 + 1) ≤ x) : fpos xq xk i hi ρ x = ⊥ := by
  unfold fpos
  rw [if_neg (by omega)]

/-- The weight of the second map is a real. -/
theorem lam_real (hl : Fin' (t := S4x64) lp) : ∃ l : ℝ, k0_pay25 (F := Ideal) lp (ix2 0 0) = (l : EReal) ∧ Cert.ReferenceIdeal.Attn.lam (F := Ideal) lp ix0 = (l : EReal) := by
  have e : k0_pay25 (F := Ideal) lp (ix2 0 0) = Cert.ReferenceIdeal.Attn.lam (F := Ideal) lp ix0 := by
    rw [Cert.ReferenceIdeal.Attn.lam_apply]
    pointwise [k0_pay25]
  obtain ⟨a, ha⟩ := real_dot (fun d : Fin 64 => lp (ix2 0 d)) (fun d : Fin 64 => lp (ix2 1 d)) (fun d => hl _) (fun d => hl _)
  obtain ⟨b, hb⟩ := real_dot (fun d : Fin 64 => lp (ix2 2 d)) (fun d : Fin 64 => lp (ix2 3 d)) (fun d => hl _) (fun d => hl _)
  have hc : ∃ c : ℝ, Ideal.ofBits .f32 0x3E4CCCCD#32 = (c : EReal) := ⟨_, by simp [Ideal.ofBits, Ideal.ieee]; rfl⟩
  obtain ⟨c, hc⟩ := hc
  refine ⟨Real.exp a - Real.exp b + c, ?_, ?_⟩
  · rw [e, Cert.ReferenceIdeal.Attn.lam_apply, ha, hb, hc, Ideal.exp_coe, Ideal.exp_coe, EReal.coe_add, EReal.coe_sub]
  · rw [Cert.ReferenceIdeal.Attn.lam_apply, ha, hb, hc, Ideal.exp_coe, Ideal.exp_coe, EReal.coe_add, EReal.coe_sub]

/-- The reference's scores are the scores of the batch's and head's block. -/
theorem scores_fpos (b : Fin 8) (h : Fin 4) (i : Fin 2) (r x : Fin 2048) :
    Cert.ReferenceIdeal.Attn.scores (F := Ideal) q k (ix5 b h i r x) = fpos (part q b.val h.val) (part k b.val h.val) i.val i.isLt r.val x.val := by
  rw [Cert.ReferenceIdeal.Attn.scores_apply]
  unfold fpos
  have er : r.val % 2048 = r.val := Nat.mod_eq_of_lt r.isLt
  have ex : x.val % 2048 = x.val := Nat.mod_eq_of_lt x.isLt
  by_cases hc : x.val / 64 ≤ r.val / 64
  · rw [if_pos hc, if_pos hc]
    refine Finset.sum_congr rfl fun d _ => ?_
    rw [part_ix q b.val h.val b.isLt h.isLt, part_ix k b.val h.val b.isLt h.isLt]
    simp only [er, ex, Nat.add_assoc]
  · rw [if_neg hc, if_neg hc]

/-- The reference's softmax weights. -/
theorem soft_wt (b : Fin 8) (h : Fin 4) (i : Fin 2) (r x : Fin 2048) :
    Cert.ReferenceIdeal.Attn.soft (F := Ideal) (Cert.ReferenceIdeal.Attn.expo (Cert.ReferenceIdeal.Attn.scores q k)) (ix5 b h i r x)
      = wt (fpos (part q b.val h.val) (part k b.val h.val) i.val i.isLt r.val) 2048 x := by
  rw [Cert.ReferenceIdeal.Attn.soft_apply]
  simp only [Cert.ReferenceIdeal.Attn.expo_apply, Cert.ReferenceIdeal.Attn.top_apply, scores_fpos]
  rfl

/-- A row of lanes before normalization. -/
theorem lanes_mixed (hq : Fin' (t := S16384x512) q) (hk : Fin' (t := S16384x512) k) (hv : Fin' (t := S16384x512) v) (hl : Fin' (t := S4x64) lp)
    (b : Fin 8) (h : Fin 4) (r : Fin 2048) (e : Fin 128) (k' : ℕ) (r' : Fin 256) (er : r.val = 256 * k' + r'.val) :
    lanes (part q b.val h.val) (part k b.val h.val) (part v b.val h.val) (k0_pay25 (F := Ideal) lp (ix2 0 0)) k' r' e
      = Cert.ReferenceIdeal.Attn.mixed (F := Ideal) (Cert.ReferenceIdeal.Attn.soft (Cert.ReferenceIdeal.Attn.expo (Cert.ReferenceIdeal.Attn.scores q k))) (Cert.ReferenceIdeal.Attn.lam lp) v (ix4 b r h e) := by
  obtain ⟨l, e1, e2⟩ := lam_real lp hl
  rw [Cert.ReferenceIdeal.Attn.mixed_apply, e2]
  unfold lanes
  rw [e1, ← er]
  have hk8 : k' < 8 := by omega
  have hdiv : r.val / 256 = k' := by omega
  have m0 : ∀ x, 256 * (k' + 1) ≤ x → fpos (part q b.val h.val) (part k b.val h.val) 0 (by decide) r.val x = ⊥ := fun x hx =>
    fpos_masked _ _ _ _ _ _ (by rw [hdiv]; exact hx)
  have m1 : ∀ x, 256 * (k' + 1) ≤ x → fpos (part q b.val h.val) (part k b.val h.val) 1 (by decide) r.val x = ⊥ := fun x hx =>
    fpos_masked _ _ _ _ _ _ (by rw [hdiv]; exact hx)
  refine (row_eq (n := 256) (k' + 1) 8 (by omega) (by decide) _ _ (vpos (part v b.val h.val) e) l m0 m1
    (fun x => fpos_ne_top (part_fin hq _ _) (part_fin hk _ _) _ _ _ _) (fun x => fpos_ne_top (part_fin hq _ _) (part_fin hk _ _) _ _ _ _)
    ⟨0, by decide⟩ (fpos_zero (part_fin hq _ _) (part_fin hk _ _) _ _ _) (fpos_zero (part_fin hq _ _) (part_fin hk _ _) _ _ _)
    (fun x => part_fin hv _ _ _)).trans ?_
  show (∑ x : Fin 2048, vpos (part v b.val h.val) e x.val * (wt _ 2048 x - (l : EReal) * wt _ 2048 x)) = _
  refine Finset.sum_congr rfl fun x _ => ?_
  rw [soft_wt, soft_wt]
  have ex : x.val % 2048 = x.val := Nat.mod_eq_of_lt x.isLt
  have ev : vpos (part v b.val h.val) e x.val = v (ix2 ⟨b.val * 2048 + x.val, by omega⟩ ⟨h.val * 128 + e.val, by omega⟩) := by
    unfold vpos
    rw [part_ix v b.val h.val b.isLt h.isLt]
    simp only [ex]
  rw [ev]
  rfl

/-- THE VALUE: the kernel's result is the reference's. -/
theorem result_eq (hq : Fin' (t := S16384x512) q) (hk : Fin' (t := S16384x512) k) (hv : Fin' (t := S16384x512) v) (hl : Fin' (t := S4x64) lp) :
    result (F := Ideal) q k v lp (gRow g) = Cert.ReferenceIdeal.Attn.whole (F := Ideal) q k v lp g := by
  funext y
  obtain ⟨R, E, rfl⟩ : ∃ (R : Fin 16384) (E : Fin 512), y = ix2 R E := ⟨y 0, y 1, eq_ix2 y⟩
  unfold Cert.ReferenceIdeal.Attn.whole
  rw [Cert.ReferenceIdeal.Attn.normed_apply]
  have hR := R.isLt
  have hE := E.isLt
  have ei : inBlk (within (ix2 R E)) = ix2 (⟨R.val % 2048 % 256, by omega⟩ : Fin 256) (⟨E.val % 128, by omega⟩ : Fin 128) := by
    funext a
    match a with
    | ⟨0, _⟩ => rfl
    | ⟨1, _⟩ => rfl
  show slab (F := Ideal) (k0_pay25 lp) (k0_pay26 (gRow g)) (part q (R.val / 2048) (E.val / 128)) (part k (R.val / 2048) (E.val / 128)) (part v (R.val / 2048) (E.val / 128)) (R.val % 2048 / 256) (inBlk (within (ix2 R E))) = _
  rw [ei, slab_apply _ _ _ (fun i hi ρ x => fpos_ne_top (part_fin hq _ _) (part_fin hk _ _) i hi ρ x)]
  have el : ∀ e : Fin 128, lanes (part q (R.val / 2048) (E.val / 128)) (part k (R.val / 2048) (E.val / 128)) (part v (R.val / 2048) (E.val / 128)) (k0_pay25 (F := Ideal) lp (ix2 0 0)) (R.val % 2048 / 256) ⟨R.val % 2048 % 256, by omega⟩ e
      = Cert.ReferenceIdeal.Attn.mixed (F := Ideal) (Cert.ReferenceIdeal.Attn.soft (Cert.ReferenceIdeal.Attn.expo (Cert.ReferenceIdeal.Attn.scores q k))) (Cert.ReferenceIdeal.Attn.lam lp) v (ix4 (⟨R.val / 2048, by omega⟩ : Fin 8) (⟨R.val % 2048, by omega⟩ : Fin 2048) (⟨E.val / 128, by omega⟩ : Fin 4) e) := fun e =>
    lanes_mixed q k v lp hq hk hv hl ⟨R.val / 2048, by omega⟩ ⟨E.val / 128, by omega⟩ ⟨R.val % 2048, by omega⟩ e _ _ (by show R.val % 2048 = 256 * (R.val % 2048 / 256) + R.val % 2048 % 256; omega)
  have eg : ∀ e : Fin 128, k0_pay26 (F := Ideal) (gRow g) (ix2 0 e) = (g (ix1 e) * Ideal.ofBits .f32 0x3F4CCCCD#32 : EReal) := fun e => by
    pointwise [k0_pay26, gRow]
  unfold nrm
  simp only [el, eg]
  rw [mul_assoc, mul_assoc, mul_assoc]

end

end Cert.KernelIdeal.Attn

end
-- ==== Proof.AttnRefRun.lean ====
/-
  The reference's run ends at the composition of the stages.
-/
module

public import proofs.«01_k».proof.Proof.AttnRef
public import Idealize.ShloMosaic.Lib.Pointwise

@[expose] public section

set_option maxRecDepth 16384

noncomputable section

namespace Cert.ReferenceIdeal.Attn

open Cert.ReferenceIdeal Cert.ReferenceIdeal.Gen Cert.ReferenceIdeal.Value
open Idealize.ShloMosaic

variable {F : FTy → Type} [FloatOps F]

/-- The run's term is the composition of the stages. -/
theorem res_eq (m : (ℓ : Loc nD τ sig) → Buf (Elt F) ℓ) (c : Dev nD) :
    res_out0 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_out0 res_main_v67 whole normed mixed soft expo top scores seen chunk lam
  rfl

end Cert.ReferenceIdeal.Attn

end
-- ==== Proof.AttnClaims.lean ====
/-
  The claims about the attention: what the precondition says, the reference's frame, the equality of the two results.
-/
module

public import proofs.«01_k».proof.Defs
public import proofs.«01_k».proof.Proof.Gen.Pre_finite
public import proofs.«01_k».proof.Proof.AttnValue
public import proofs.«01_k».proof.Proof.AttnRefRun
public import Idealize.ShloMosaic.Adequacy
public import Idealize.ShloMosaic.Init

@[expose] public section

set_option maxRecDepth 16384

noncomputable section

namespace Cert.AttnClaims

open Idealize.ShloMosaic
open Cert.KernelIdeal.Attn (Fin')

/-- A value whose magnitude is below plus infinity is a real. -/
theorem real_of_abs (x : EReal) (h : FloatOps.cmpf (F := Ideal) (φ := .f32) .olt (FloatOps.absf (F := Ideal) (φ := .f32) x) (Ideal.ofBits .f32 0x7F800000#32) = 1#1) :
    ∃ r : ℝ, x = (r : EReal) := by
  have e : Ideal.ofBits .f32 0x7F800000#32 = ⊤ := by simp [Ideal.ofBits, Ideal.ieee]
  rw [e, Ideal.absf_def, Ideal.cmpf_def] at h
  induction x with
  | bot => simp [Ideal.cmp] at h
  | top => simp [Ideal.cmp] at h
  | coe r => exact ⟨r, rfl⟩

/-- The precondition: every query, key, value and parameter of the weight is a real. -/
theorem finite_of_pre (m : (ℓ : Loc Cert.KernelIdeal.nD Cert.KernelIdeal.τ Cert.KernelIdeal.sig) → Buf (Elt Ideal) ℓ) (h : Cert.Pre_KernelIdeal_finite m)
    (c : Dev Cert.KernelIdeal.nD) :
    Fin' (t := Cert.KernelIdeal.S16384x512) (m ((c.tc : Thread Cert.KernelIdeal.nD Cert.KernelIdeal.τ).loc Cert.KernelIdeal.main_arg0))
    ∧ Fin' (t := Cert.KernelIdeal.S16384x512) (m ((c.tc : Thread Cert.KernelIdeal.nD Cert.KernelIdeal.τ).loc Cert.KernelIdeal.main_arg1))
    ∧ Fin' (t := Cert.KernelIdeal.S16384x512) (m ((c.tc : Thread Cert.KernelIdeal.nD Cert.KernelIdeal.τ).loc Cert.KernelIdeal.main_arg2))
    ∧ Fin' (t := Cert.KernelIdeal.S4x64) (m ((c.tc : Thread Cert.KernelIdeal.nD Cert.KernelIdeal.τ).loc Cert.KernelIdeal.main_arg3)) := by
  obtain ⟨h0, h1, h2, h3⟩ := h c
  exact ⟨fun i => real_of_abs _ (congrFun h0 i), fun i => real_of_abs _ (congrFun h1 i), fun i => real_of_abs _ (congrFun h2 i), fun i => real_of_abs _ (congrFun h3 i)⟩

/-- The reference runs and leaves its arguments and the counters as they were. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, Idealize.ShloMosaic.sem_eq_zero_of_no_sems (by decide) r.2⟩)
    (Cert.ReferenceIdeal.Value.run (F := Ideal) m ρ)

/-- The mask's constant is minus infinity. -/
theorem preserves : Cert.preserves_Kernel_KernelIdeal :=
  IdealRules.named_const.statement Cert.KernelIdeal.κ "mask" .f32 0xF149F2CA#32 ⊥ rfl

/-- Kernel and reference end with equal results. -/
theorem algebraic : Cert.algebraic_KernelIdeal_ReferenceIdeal_pre_finite := by
  intro m g m' g' hp ha
  refine ⟨fun c => Cert.KernelIdeal.Attn.result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (Cert.KernelIdeal.Attn.gRow (m ((c.tc : Thread Cert.KernelIdeal.nD Cert.KernelIdeal.τ).loc Cert.KernelIdeal.main_arg4))), ?_, ?_⟩
  · exact (θ_run _ _ _).mono (fun r h c => ⟨h.1 c, h.2.1 c⟩) (θ_run_and (Cert.KernelIdeal.Attn.run m g) (Cert.KernelIdeal.Attn.frame m g))
  · refine (θ_run _ _ _).mono (fun r h c => ⟨(h c).1.trans ?_, (h c).2⟩) (Cert.ReferenceIdeal.Value.run (F := Ideal) m' g')
    obtain ⟨a0, a1, a2, a3, a4⟩ := ha c
    obtain ⟨f0, f1, f2, f3⟩ := finite_of_pre m hp c
    refine (Cert.ReferenceIdeal.Attn.res_eq m' c).trans ?_
    rw [a0, a1, a2, a3, a4]
    exact (Cert.KernelIdeal.Attn.result_eq _ _ _ _ _ f0 f1 f2 f3).symm

end Cert.AttnClaims

end
-- ==== Proof.WholeBlock.lean ====
/-
  Loads and stores of a whole block: what a load of all of a view reads, what one store over all of it leaves.
-/
module

public import Idealize.ShloMosaic.Lib.Exec
public import Idealize.ShloMosaic.Lib.Writes
public import Idealize.ShloMosaic.Lib.WritesUnit
public import Idealize.ShloMosaic.Lib.Pipeline.FrameBody

@[expose] public section

noncomputable section

namespace Cert.WholeBlock

open Idealize.ShloMosaic

variable {sig : RefSig} {κ : Kind} {Val : EltTy → Type} {sp : Space} {s : Shape} {e : EltTy}

/-- The rectangle of all of a shape places every index at itself. -/
theorem emb_unit {off : Fin s.rank → ℕ} (h : ∀ a, off a = 0) (inb : ∀ a, off a + s.size a ≤ s.size a) (y : s.Idx) :
    (Rect.unit (s := s) off s.size inb).emb y = y := by
  funext a
  apply Fin.ext
  show off a + 1 * (y a).val = (y a).val
  rw [h a]; omega

/-- A load of all of a view reads what the view reads. -/
theorem readAt_all (v : View sig κ sp s e) (f : v.ty.Contents Val) {off : Fin s.rank → ℕ} (h : ∀ a, off a = 0)
    (inb : ∀ a, off a + s.size a ≤ s.size a) :
    View.readAt Val v (Rect.unit (s := s) off s.size inb).toLoadRect f = v.read Val f := by
  rw [View.readAt_eq_ld]
  funext y
  unfold View.ld
  congr 1
  funext b
  apply Fin.ext
  show off b + 1 * (y b).val = (y b).val
  rw [h b]; omega

/-- A load of all of a view standing for `x` reads `x`. -/
theorem readAt_rep [∀ e, Nonempty (Val e)] (v : View sig κ sp s e) (x : s.Idx → Val e) {off : Fin s.rank → ℕ} (h : ∀ a, off a = 0)
    (inb : ∀ a, off a + s.size a ≤ s.size a) :
    View.readAt Val v (Rect.unit (s := s) off s.size inb).toLoadRect (v.rep x) = x :=
  (readAt_all v _ h inb).trans (View.read_rep v x)

/-- After a store over all of a view, the view reads what was stored. -/
theorem read_store (v : View sig κ sp s e) (f : v.ty.Contents Val) {off : Fin s.rank → ℕ} (h : ∀ a, off a = 0)
    (inb : ∀ a, off a + s.size a ≤ s.size a) (w : s.Idx → Val e) (L : List (View.Piece Val s e)) :
    v.read Val (v.writes Val f (⟨Rect.unit (s := s) off s.size inb, w⟩ :: L)) = w := by
  funext y
  have hr := View.read_writes_cons_emb (v := v) (f := f) (Rect.unit (s := s) off s.size inb) w L y
  rwa [emb_unit h inb y] at hr

/-- A store over all of a whole buffer replaces its contents. -/
theorem writes_whole (b : Ref sig κ) (f : b.ty.Contents Val) {off : Fin b.ty.shape.rank → ℕ} (h : ∀ a, off a = 0)
    (inb : ∀ a, off a + b.ty.shape.size a ≤ b.ty.shape.size a) (w : b.ty.shape.Idx → Val b.ty.elt) (L : List (View.Piece Val b.ty.shape b.ty.elt)) :
    (View.whole b).writes Val f (⟨Rect.unit (s := b.ty.shape) off b.ty.shape.size inb, w⟩ :: L) = w :=
  (View.read_whole (Val := Val) b _).symm.trans (read_store (View.whole b) f h inb w L)

/-- A load of all of a view read back after a store over all of it is what was stored. -/
theorem readCov_store [∀ e, Nonempty (Val e)] (v : View sig κ sp s e) {off off' : Fin s.rank → ℕ} (h : ∀ a, off a = 0) (h' : ∀ a, off' a = 0)
    (inb : ∀ a, off a + s.size a ≤ s.size a) (inb' : ∀ a, off' a + s.size a ≤ s.size a) (w : s.Idx → Val e) (L : List (View.Piece Val s e)) :
    v.readCov (⟨Rect.unit (s := s) off s.size inb, w⟩ :: L) (Rect.unit (s := s) off' s.size inb').toLoadRect = w :=
  (readAt_all v _ h' inb').trans (read_store v _ h inb w L)

/-- The offsets of a whole rank-2 block. -/
theorem zero2 : ∀ a : Fin 2, (![0, 0] : Fin 2 → ℕ) a = 0 := by decide

/-- The offsets of a whole rank-3 block. -/
theorem zero3 : ∀ a : Fin 3, (![0, 0, 0] : Fin 3 → ℕ) a = 0 := by decide

end Cert.WholeBlock

end
-- ==== Proof.ColumnBlocks.lean ====
/-
  A block filled by several stores: when every store writes the entries of one table, and together they reach every
  entry, the block holds the table, and a load from it reads the table.
-/
module

public import Idealize.ShloMosaic.Lib.Exec
public import Idealize.ShloMosaic.Lib.Writes
public import Idealize.ShloMosaic.Lib.WritesUnit
public import Idealize.ShloMosaic.Lib.Pipeline.FrameBody

@[expose] public section

noncomputable section

namespace Cert.ColumnBlocks

open Idealize.ShloMosaic

variable {sig : RefSig} {κ : Kind} {Val : EltTy → Type} {sp : Space} {s : Shape} {e : EltTy}

/-- Every store of a list writes entries of the table `W`. -/
def Agree (L : List (View.Piece Val s e)) (W : s.Idx → Val e) : Prop :=
  ∀ p ∈ L, ∀ x, p.2 x = W (p.1.emb x)

/-- No store at all agrees with any table. -/
theorem agree_nil (W : s.Idx → Val e) : Agree (Val := Val) [] W := fun p hp => absurd hp List.not_mem_nil

/-- One more store of the table's entries. -/
theorem agree_cons {r : Rect s} {w : r.shape.Idx → Val e} {L : List (View.Piece Val s e)} {W : s.Idx → Val e}
    (h : ∀ x, w x = W (r.emb x)) (hL : Agree L W) : Agree (⟨r, w⟩ :: L) W := by
  intro p hp
  rcases List.mem_cons.1 hp with rfl | hp
  · exact h
  · exact hL p hp

/-- An entry some store reaches reads the table, whatever the buffer held before. -/
theorem read_writes (v : View sig κ sp s e) (f : v.ty.Contents Val) (W : s.Idx → Val e) (y : s.Idx) :
    ∀ L : List (View.Piece Val s e), Agree L W → (∃ p ∈ L, y ∈ p.1.set) → v.read Val (v.writes Val f L) y = W y
  | [], _, h => by obtain ⟨_, hm, _⟩ := h; exact absurd hm List.not_mem_nil
  | p :: L, ha, h => by
    by_cases hy : y ∈ p.1.set
    · obtain ⟨r, w⟩ := p
      obtain ⟨x, rfl⟩ : ∃ x, r.emb x = y := r.exists_idx_of_mem hy
      exact (View.read_writes_cons_emb (v := v) (f := f) r w L x).trans (ha ⟨r, w⟩ List.mem_cons_self x)
    · obtain ⟨q, hq, hqy⟩ := h
      have hqL : q ∈ L := by
        rcases List.mem_cons.1 hq with rfl | hq
        · exact absurd hqy hy
        · exact hq
      refine Eq.trans ?_ (read_writes v f W y L (fun p' hp' => ha p' (List.mem_cons_of_mem _ hp')) ⟨q, hqL, hqy⟩)
      have hy' : y ∉ Finset.univ.map p.1.emb := by rwa [Rect.map_emb_univ]
      rw [View.writes_cons, View.read_slice_write_of_not_mem p.1 _ _ _ hy']

/-- Stores that reach every entry leave the table. -/
theorem read_all (v : View sig κ sp s e) (f : v.ty.Contents Val) (W : s.Idx → Val e) (L : List (View.Piece Val s e))
    (ha : Agree L W) (hc : ∀ y, ∃ p ∈ L, y ∈ p.1.set) : v.read Val (v.writes Val f L) = W :=
  funext fun y => read_writes v f W y L ha (hc y)

/-- A load after such stores reads the table at the load's indices. -/
theorem readCov_all [∀ e, Nonempty (Val e)] (v : View sig κ sp s e) (W : s.Idx → Val e) (L : List (View.Piece Val s e))
    (B : LoadRect s) (ha : Agree L W) (hc : ∀ y, ∃ p ∈ L, y ∈ p.1.set) :
    v.readCov L B = fun j => W (B.idx j) :=
  funext fun j => read_writes v _ W (B.idx j) L ha (hc _)

end Cert.ColumnBlocks

end
-- ==== Proof.InprojIdealStep.lean ====
/-
  What one point of the input-projection kernel leaves: the scratch holding the layer's weights, and the four blocks
  of the result read off a product with them.
-/
module

public import proofs.«01_k».proof.Proof.Gen.InprojIdeal.Value
public import proofs.«01_k».proof.Proof.WholeBlock
public import proofs.«01_k».proof.Proof.ColumnBlocks
public import Idealize.ShloMosaic.Lib.Pointwise
public import Idealize.ShloMosaic.Lib.WholeRead

@[expose] public section

set_option maxRecDepth 16384

noncomputable section

namespace Cert.InprojIdeal.Step

open Cert.InprojIdeal Cert.InprojIdeal.Gen Cert.WholeBlock Cert.ColumnBlocks
open Idealize.ShloMosaic Idealize.ShloMosaic.TcCoe Idealize.ShloMosaic.Tactic

/-- The layer's weights as a matrix. -/
def cols (w : Vec Ideal S1x1024x2304 .f32) : Vec Ideal S1024x2304 .bf16 := fun y => w (ix3 0 (y 0) (y 1))

/-- The rectangle of columns `o`, `o + 1`, … of the weights. -/
abbrev qRect : LoadRect S1024x2304 := (Rect.unit (s := S1024x2304) ![0, 0] S1024x512.size inb_S1024x2304_S1024x512_0_0).toLoadRect
abbrev kRect : LoadRect S1024x2304 := (Rect.unit (s := S1024x2304) ![0, 512] S1024x512.size inb_S1024x2304_S1024x512_0_512).toLoadRect
abbrev vRect : LoadRect S1024x2304 := (Rect.unit (s := S1024x2304) ![0, 1024] S1024x512.size inb_S1024x2304_S1024x512_0_1024).toLoadRect
abbrev mRect : LoadRect S1024x2304 := (Rect.unit (s := S1024x2304) ![0, 1536] S1024x768.size inb_S1024x2304_S1024x768_0_1536).toLoadRect

/-- A stored block of 256 columns holds the entries of the weights it is stored at. -/
theorem piece (o : ℕ) (i2 : ∀ a, (![0, o] : Fin 2 → ℕ) a + S1024x256.size a ≤ S1024x2304.size a)
    (i3 : ∀ a, (![0, 0, o] : Fin 3 → ℕ) a + S1x1024x256.size a ≤ S1x1024x2304.size a)
    (pay : Vec Ideal S1x1024x256 .f32 → FVec Ideal S1024x256 .bf16)
    (hp : ∀ v (k : Fin 1024) (h : Fin 256), pay v (ix2 k h) = v (ix3 0 k h))
    (arg2 : Memref sig .tc .vmem S1x1024x2304 .f32) (harg2 : arg2.IsWhole) (x1 : Vec Ideal S1x1024x2304 .f32)
    (x : (Rect.unit (s := S1024x2304) ![0, o] S1024x256.size i2).shape.Idx) :
    pay (View.readAt (Elt Ideal) arg2.view (Rect.unit (s := S1x1024x2304) ![0, 0, o] S1x1024x256.size i3).toLoadRect (harg2.unread x1)) x
      = cols x1 ((Rect.unit (s := S1024x2304) ![0, o] S1024x256.size i2).emb x) := by
  have e : (x : S1024x256.Idx) = ix2 (x 0) (x 1) := by
    funext a; fin_cases a <;> rfl
  refine (congrArg _ e).trans ((hp _ (x 0) (x 1)).trans ((harg2.readAt_unread x1 _ _).trans (congrArg x1 ?_)))
  funext a
  fin_cases a
  · rfl
  · rfl
  · rfl

theorem pay10_apply (v : Vec Ideal S1x1024x256 .f32) (k : Fin 1024) (h : Fin 256) : k0_pay10 v (ix2 k h) = v (ix3 0 k h) := by
  pointwise [k0_pay10]

theorem pay11_apply (v : Vec Ideal S1x1024x256 .f32) (k : Fin 1024) (h : Fin 256) : k0_pay11 v (ix2 k h) = v (ix3 0 k h) := by
  pointwise [k0_pay11]

theorem pay12_apply (v : Vec Ideal S1x1024x256 .f32) (k : Fin 1024) (h : Fin 256) : k0_pay12 v (ix2 k h) = v (ix3 0 k h) := by
  pointwise [k0_pay12]

theorem pay13_apply (v : Vec Ideal S1x1024x256 .f32) (k : Fin 1024) (h : Fin 256) : k0_pay13 v (ix2 k h) = v (ix3 0 k h) := by
  pointwise [k0_pay13]

theorem pay14_apply (v : Vec Ideal S1x1024x256 .f32) (k : Fin 1024) (h : Fin 256) : k0_pay14 v (ix2 k h) = v (ix3 0 k h) := by
  pointwise [k0_pay14]

theorem pay1_apply (v : Vec Ideal S1x1024x256 .f32) (k : Fin 1024) (h : Fin 256) : k0_pay1 v (ix2 k h) = v (ix3 0 k h) := by
  pointwise [k0_pay1]

theorem pay2_apply (v : Vec Ideal S1x1024x256 .f32) (k : Fin 1024) (h : Fin 256) : k0_pay2 v (ix2 k h) = v (ix3 0 k h) := by
  pointwise [k0_pay2]

theorem pay3_apply (v : Vec Ideal S1x1024x256 .f32) (k : Fin 1024) (h : Fin 256) : k0_pay3 v (ix2 k h) = v (ix3 0 k h) := by
  pointwise [k0_pay3]

theorem pay4_apply (v : Vec Ideal S1x1024x256 .f32) (k : Fin 1024) (h : Fin 256) : k0_pay4 v (ix2 k h) = v (ix3 0 k h) := by
  pointwise [k0_pay4]

/-- The first point's nine stores into the scratch agree with the weights. -/
theorem agreeA (c : Dev nD) (i : grid0.Coords) (arg1 : Memref sig .tc .vmem S512x1024 .f32) (harg1 : arg1.IsWhole) (arg2 : Memref sig .tc .vmem S1x1024x2304 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x768 .f32) (harg6 : arg6.IsWhole) (arg7 : Memref sig .tc .vmem S1024x2304 .bf16) (harg7 : arg7.IsWhole) (hc0 : cond0_0 i)
    (x0 : Vec Ideal S512x1024 .f32) (x1 : Vec Ideal S1x1024x2304 .f32) :
    Agree (kernelRun0_A (F := Ideal) c i arg1 harg1 arg2 harg2 arg3 harg3 arg4 harg4 arg5 harg5 arg6 harg6 arg7 harg7 hc0 x0 x1).2.2.2.2.1 (cols x1) := by
  unfold kernelRun0_A
  dsimp only
  sl_unfold_words
  refine agree_cons (piece 2048 _ _ k0_pay4 pay4_apply arg2 harg2 x1) ?_
  refine agree_cons (piece 1792 _ _ k0_pay3 pay3_apply arg2 harg2 x1) ?_
  refine agree_cons (piece 1536 _ _ k0_pay2 pay2_apply arg2 harg2 x1) ?_
  refine agree_cons (piece 1280 _ _ k0_pay1 pay1_apply arg2 harg2 x1) ?_
  refine agree_cons (piece 1024 _ _ k0_pay14 pay14_apply arg2 harg2 x1) ?_
  refine agree_cons (piece 768 _ _ k0_pay13 pay13_apply arg2 harg2 x1) ?_
  refine agree_cons (piece 512 _ _ k0_pay12 pay12_apply arg2 harg2 x1) ?_
  refine agree_cons (piece 256 _ _ k0_pay11 pay11_apply arg2 harg2 x1) ?_
  exact agree_cons (piece 0 _ _ k0_pay10 pay10_apply arg2 harg2 x1) (agree_nil _)

/-- The first point fills the scratch with the weights. -/
theorem scrA (c : Dev nD) (i : grid0.Coords) (arg1 : Memref sig .tc .vmem S512x1024 .f32) (harg1 : arg1.IsWhole) (arg2 : Memref sig .tc .vmem S1x1024x2304 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x768 .f32) (harg6 : arg6.IsWhole) (arg7 : Memref sig .tc .vmem S1024x2304 .bf16) (harg7 : arg7.IsWhole) (hc0 : cond0_0 i)
    (x0 : Vec Ideal S512x1024 .f32) (x1 : Vec Ideal S1x1024x2304 .f32) :
    sout0_A_0 (F := Ideal) c i arg1 harg1 arg2 harg2 arg3 harg3 arg4 harg4 arg5 harg5 arg6 harg6 arg7 harg7 hc0 x0 x1 = cols x1 :=
  read_all _ _ _ _ (agreeA c i arg1 harg1 arg2 harg2 arg3 harg3 arg4 harg4 arg5 harg5 arg6 harg6 arg7 harg7 hc0 x0 x1) (scover0_A_0 c i arg1 harg1 arg2 harg2 arg3 harg3 arg4 harg4 arg5 harg5 arg6 harg6 arg7 harg7 hc0 x0 x1)

/-- The first point's block of `q`. -/
theorem outA2 (c : Dev nD) (i : grid0.Coords) (arg1 : Memref sig .tc .vmem S512x1024 .f32) (harg1 : arg1.IsWhole) (arg2 : Memref sig .tc .vmem S1x1024x2304 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x768 .f32) (harg6 : arg6.IsWhole) (arg7 : Memref sig .tc .vmem S1024x2304 .bf16) (harg7 : arg7.IsWhole) (hc0 : cond0_0 i)
    (x0 : Vec Ideal S512x1024 .f32) (x1 : Vec Ideal S1x1024x2304 .f32) :
    out0_A_2 (F := Ideal) c i arg1 harg1 arg2 harg2 arg3 harg3 arg4 harg4 arg5 harg5 arg6 harg6 arg7 harg7 hc0 x0 x1 = k0_pay6 x0 (fun j => cols x1 (qRect.idx j)) := by
  unfold out0_A_2 kernelRun0_A
  dsimp only
  sl_unfold_words
  exact (read_store _ _ zero2 _ _ []).trans (congrArg₂ (k0_pay6 (F := Ideal)) ((readAt_all _ _ zero2 _).trans (harg1.read_unread x0))
    (readCov_all _ _ _ _ (agreeA c i arg1 harg1 arg2 harg2 arg3 harg3 arg4 harg4 arg5 harg5 arg6 harg6 arg7 harg7 hc0 x0 x1) (scover0_A_0 c i arg1 harg1 arg2 harg2 arg3 harg3 arg4 harg4 arg5 harg5 arg6 harg6 arg7 harg7 hc0 x0 x1)))

/-- The first point's block of `k`. -/
theorem outA3 (c : Dev nD) (i : grid0.Coords) (arg1 : Memref sig .tc .vmem S512x1024 .f32) (harg1 : arg1.IsWhole) (arg2 : Memref sig .tc .vmem S1x1024x2304 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x768 .f32) (harg6 : arg6.IsWhole) (arg7 : Memref sig .tc .vmem S1024x2304 .bf16) (harg7 : arg7.IsWhole) (hc0 : cond0_0 i)
    (x0 : Vec Ideal S512x1024 .f32) (x1 : Vec Ideal S1x1024x2304 .f32) :
    out0_A_3 (F := Ideal) c i arg1 harg1 arg2 harg2 arg3 harg3 arg4 harg4 arg5 harg5 arg6 harg6 arg7 harg7 hc0 x0 x1 = k0_pay7 x0 (fun j => cols x1 (kRect.idx j)) := by
  unfold out0_A_3 kernelRun0_A
  dsimp only
  sl_unfold_words
  exact (read_store _ _ zero2 _ _ []).trans (congrArg₂ (k0_pay7 (F := Ideal)) ((readAt_all _ _ zero2 _).trans (harg1.read_unread x0))
    (readCov_all _ _ _ _ (agreeA c i arg1 harg1 arg2 harg2 arg3 harg3 arg4 harg4 arg5 harg5 arg6 harg6 arg7 harg7 hc0 x0 x1) (scover0_A_0 c i arg1 harg1 arg2 harg2 arg3 harg3 arg4 harg4 arg5 harg5 arg6 harg6 arg7 harg7 hc0 x0 x1)))

/-- The first point's block of `v`. -/
theorem outA4 (c : Dev nD) (i : grid0.Coords) (arg1 : Memref sig .tc .vmem S512x1024 .f32) (harg1 : arg1.IsWhole) (arg2 : Memref sig .tc .vmem S1x1024x2304 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x768 .f32) (harg6 : arg6.IsWhole) (arg7 : Memref sig .tc .vmem S1024x2304 .bf16) (harg7 : arg7.IsWhole) (hc0 : cond0_0 i)
    (x0 : Vec Ideal S512x1024 .f32) (x1 : Vec Ideal S1x1024x2304 .f32) :
    out0_A_4 (F := Ideal) c i arg1 harg1 arg2 harg2 arg3 harg3 arg4 harg4 arg5 harg5 arg6 harg6 arg7 harg7 hc0 x0 x1 = k0_pay8 x0 (fun j => cols x1 (vRect.idx j)) := by
  unfold out0_A_4 kernelRun0_A
  dsimp only
  sl_unfold_words
  exact (read_store _ _ zero2 _ _ []).trans (congrArg₂ (k0_pay8 (F := Ideal)) ((readAt_all _ _ zero2 _).trans (harg1.read_unread x0))
    (readCov_all _ _ _ _ (agreeA c i arg1 harg1 arg2 harg2 arg3 harg3 arg4 harg4 arg5 harg5 arg6 harg6 arg7 harg7 hc0 x0 x1) (scover0_A_0 c i arg1 harg1 arg2 harg2 arg3 harg3 arg4 harg4 arg5 harg5 arg6 harg6 arg7 harg7 hc0 x0 x1)))

/-- The first point's block of `rest`. -/
theorem outA5 (c : Dev nD) (i : grid0.Coords) (arg1 : Memref sig .tc .vmem S512x1024 .f32) (harg1 : arg1.IsWhole) (arg2 : Memref sig .tc .vmem S1x1024x2304 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x768 .f32) (harg6 : arg6.IsWhole) (arg7 : Memref sig .tc .vmem S1024x2304 .bf16) (harg7 : arg7.IsWhole) (hc0 : cond0_0 i)
    (x0 : Vec Ideal S512x1024 .f32) (x1 : Vec Ideal S1x1024x2304 .f32) :
    out0_A_5 (F := Ideal) c i arg1 harg1 arg2 harg2 arg3 harg3 arg4 harg4 arg5 harg5 arg6 harg6 arg7 harg7 hc0 x0 x1 = k0_pay9 x0 (fun j => cols x1 (mRect.idx j)) := by
  unfold out0_A_5 kernelRun0_A
  dsimp only
  sl_unfold_words
  exact (read_store _ _ zero2 _ _ []).trans (congrArg₂ (k0_pay9 (F := Ideal)) ((readAt_all _ _ zero2 _).trans (harg1.read_unread x0))
    (readCov_all _ _ _ _ (agreeA c i arg1 harg1 arg2 harg2 arg3 harg3 arg4 harg4 arg5 harg5 arg6 harg6 arg7 harg7 hc0 x0 x1) (scover0_A_0 c i arg1 harg1 arg2 harg2 arg3 harg3 arg4 harg4 arg5 harg5 arg6 harg6 arg7 harg7 hc0 x0 x1)))

/-- A later point's block of `q`. -/
theorem outB2 (c : Dev nD) (i : grid0.Coords) (arg1 : Memref sig .tc .vmem S512x1024 .f32) (harg1 : arg1.IsWhole) (arg2 : Memref sig .tc .vmem S1x1024x2304 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x768 .f32) (harg6 : arg6.IsWhole) (arg7 : Memref sig .tc .vmem S1024x2304 .bf16) (harg7 : arg7.IsWhole) (hc0 : ¬cond0_0 i)
    (x0 : Vec Ideal S512x1024 .f32) (x1 : Vec Ideal S1x1024x2304 .f32) (xs0 : Vec Ideal S1024x2304 .bf16) :
    out0_B_2 (F := Ideal) c i arg1 harg1 arg2 harg2 arg3 harg3 arg4 harg4 arg5 harg5 arg6 harg6 arg7 harg7 hc0 x0 x1 xs0 = k0_pay6 x0 (fun j => xs0 (qRect.idx j)) := by
  unfold out0_B_2 kernelRun0_B
  dsimp only
  sl_unfold_words
  exact (read_store _ _ zero2 _ _ []).trans (congrArg₂ (k0_pay6 (F := Ideal)) ((readAt_all _ _ zero2 _).trans (harg1.read_unread x0))
    (funext fun j => harg7.readAt_unread xs0 _ j))

/-- A later point's block of `k`. -/
theorem outB3 (c : Dev nD) (i : grid0.Coords) (arg1 : Memref sig .tc .vmem S512x1024 .f32) (harg1 : arg1.IsWhole) (arg2 : Memref sig .tc .vmem S1x1024x2304 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x768 .f32) (harg6 : arg6.IsWhole) (arg7 : Memref sig .tc .vmem S1024x2304 .bf16) (harg7 : arg7.IsWhole) (hc0 : ¬cond0_0 i)
    (x0 : Vec Ideal S512x1024 .f32) (x1 : Vec Ideal S1x1024x2304 .f32) (xs0 : Vec Ideal S1024x2304 .bf16) :
    out0_B_3 (F := Ideal) c i arg1 harg1 arg2 harg2 arg3 harg3 arg4 harg4 arg5 harg5 arg6 harg6 arg7 harg7 hc0 x0 x1 xs0 = k0_pay7 x0 (fun j => xs0 (kRect.idx j)) := by
  unfold out0_B_3 kernelRun0_B
  dsimp only
  sl_unfold_words
  exact (read_store _ _ zero2 _ _ []).trans (congrArg₂ (k0_pay7 (F := Ideal)) ((readAt_all _ _ zero2 _).trans (harg1.read_unread x0))
    (funext fun j => harg7.readAt_unread xs0 _ j))

/-- A later point's block of `v`. -/
theorem outB4 (c : Dev nD) (i : grid0.Coords) (arg1 : Memref sig .tc .vmem S512x1024 .f32) (harg1 : arg1.IsWhole) (arg2 : Memref sig .tc .vmem S1x1024x2304 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x768 .f32) (harg6 : arg6.IsWhole) (arg7 : Memref sig .tc .vmem S1024x2304 .bf16) (harg7 : arg7.IsWhole) (hc0 : ¬cond0_0 i)
    (x0 : Vec Ideal S512x1024 .f32) (x1 : Vec Ideal S1x1024x2304 .f32) (xs0 : Vec Ideal S1024x2304 .bf16) :
    out0_B_4 (F := Ideal) c i arg1 harg1 arg2 harg2 arg3 harg3 arg4 harg4 arg5 harg5 arg6 harg6 arg7 harg7 hc0 x0 x1 xs0 = k0_pay8 x0 (fun j => xs0 (vRect.idx j)) := by
  unfold out0_B_4 kernelRun0_B
  dsimp only
  sl_unfold_words
  exact (read_store _ _ zero2 _ _ []).trans (congrArg₂ (k0_pay8 (F := Ideal)) ((readAt_all _ _ zero2 _).trans (harg1.read_unread x0))
    (funext fun j => harg7.readAt_unread xs0 _ j))

/-- A later point's block of `rest`. -/
theorem outB5 (c : Dev nD) (i : grid0.Coords) (arg1 : Memref sig .tc .vmem S512x1024 .f32) (harg1 : arg1.IsWhole) (arg2 : Memref sig .tc .vmem S1x1024x2304 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x768 .f32) (harg6 : arg6.IsWhole) (arg7 : Memref sig .tc .vmem S1024x2304 .bf16) (harg7 : arg7.IsWhole) (hc0 : ¬cond0_0 i)
    (x0 : Vec Ideal S512x1024 .f32) (x1 : Vec Ideal S1x1024x2304 .f32) (xs0 : Vec Ideal S1024x2304 .bf16) :
    out0_B_5 (F := Ideal) c i arg1 harg1 arg2 harg2 arg3 harg3 arg4 harg4 arg5 harg5 arg6 harg6 arg7 harg7 hc0 x0 x1 xs0 = k0_pay9 x0 (fun j => xs0 (mRect.idx j)) := by
  unfold out0_B_5 kernelRun0_B
  dsimp only
  sl_unfold_words
  exact (read_store _ _ zero2 _ _ []).trans (congrArg₂ (k0_pay9 (F := Ideal)) ((readAt_all _ _ zero2 _).trans (harg1.read_unread x0))
    (funext fun j => harg7.readAt_unread xs0 _ j))

end Cert.InprojIdeal.Step

end
-- ==== Proof.InprojRefStages.lean ====
/-
  The input projection's reference by stages, and what each result is element by element: a row by a column of the layer's
  weights, the first 512 columns scaled.
-/
module

public import proofs.«01_k».proof.Proof.Gen.InprojRefIdeal.Run
public import Idealize.ShloMosaic.Lib.Pointwise

@[expose] public section

set_option maxRecDepth 16384

noncomputable section

namespace Cert.InprojRefIdeal.Stages

open Cert.InprojRefIdeal Cert.InprojRefIdeal.Gen
open Idealize.ShloMosaic Idealize.ShloMosaic.TcCoe Idealize.ShloMosaic.Tactic

section
variable {F : FTy → Type} [FloatOps F]

/-- The rows by the layer's matrix. -/
def hid (x : FVec F S16384x1024 .f32) (w : FVec F S4x1024x2304 .f32) : FVec F S16384x2304 .f32 :=
  Host.dotGeneral dot_S16384x1024_S1024x2304_S16384x2304_1_0_0_1_n_n none x (shapeCast _ (extractStridedSlice S1x1024x2304 ![0, 0, 0] w slices_S4x1024x2304_S1x1024x2304_0_0_0) shapeCasts_S1x1024x2304_S1024x2304)

/-- The queries, scaled. -/
def resQ (h : FVec F S16384x2304 .f32) : FVec F S16384x512 .bf16 :=
  truncf .bf16 (mulf (extractStridedSlice S16384x512 ![0, 0] h slices_S16384x2304_S16384x512_0_0) (broadcastInDim S16384x512 ![] bcast_S_S16384x512 (constant S_ .f32 0x3E000000#32))) bitsLt_bf16_f32

/-- The keys. -/
def resK (h : FVec F S16384x2304 .f32) : FVec F S16384x512 .bf16 :=
  truncf .bf16 (extractStridedSlice S16384x512 ![0, 512] h slices_S16384x2304_S16384x512_0_512) bitsLt_bf16_f32

/-- The values. -/
def resV (h : FVec F S16384x2304 .f32) : FVec F S16384x512 .bf16 :=
  truncf .bf16 (extractStridedSlice S16384x512 ![0, 1024] h slices_S16384x2304_S16384x512_0_1024) bitsLt_bf16_f32

/-- The remaining columns. -/
def resM (h : FVec F S16384x2304 .f32) : FVec F S16384x768 .f32 :=
  extractStridedSlice S16384x768 ![0, 1536] h slices_S16384x2304_S16384x768_0_1536

end

/-- A row by a column of the layer's weights. -/
def col (x : FVec Ideal S16384x1024 .f32) (w : FVec Ideal S4x1024x2304 .f32) (R : Fin 16384) (n : Fin 2304) : EReal :=
  ∑ k : Fin 1024, x (ix2 R k) * w (ix3 0 k n)

theorem hid_apply (x : FVec Ideal S16384x1024 .f32) (w : FVec Ideal S4x1024x2304 .f32) (R : Fin 16384) (n : Fin 2304) :
    hid x w (ix2 R n) = col x w R n := by
  pointwise [hid]
  rfl

/-- The results of the mathematics. -/
def specQ (x : FVec Ideal S16384x1024 .f32) (w : FVec Ideal S4x1024x2304 .f32) : FVec Ideal S16384x512 .bf16 := fun y =>
  col x w (y 0) ⟨0 + (y 1).val, by have h : (y 1).val < 512 := (y 1).isLt; omega⟩ * Ideal.ofBits .f32 0x3E000000#32
def specK (x : FVec Ideal S16384x1024 .f32) (w : FVec Ideal S4x1024x2304 .f32) : FVec Ideal S16384x512 .bf16 := fun y =>
  col x w (y 0) ⟨512 + (y 1).val, by have h : (y 1).val < 512 := (y 1).isLt; omega⟩
def specV (x : FVec Ideal S16384x1024 .f32) (w : FVec Ideal S4x1024x2304 .f32) : FVec Ideal S16384x512 .bf16 := fun y =>
  col x w (y 0) ⟨1024 + (y 1).val, by have h : (y 1).val < 512 := (y 1).isLt; omega⟩
def specM (x : FVec Ideal S16384x1024 .f32) (w : FVec Ideal S4x1024x2304 .f32) : FVec Ideal S16384x768 .f32 := fun y =>
  col x w (y 0) ⟨1536 + (y 1).val, by have h : (y 1).val < 768 := (y 1).isLt; omega⟩

theorem two {a b : ℕ} (y : (⟨2, ![a, b]⟩ : Shape).Idx) : ∃ (R : Fin a) (n : Fin b), y = ix2 R n :=
  ⟨y 0, y 1, funext fun i => match i with | ⟨0, _⟩ => rfl | ⟨1, _⟩ => rfl⟩

/-- The four results are the mathematics'. -/
theorem resQ_eq (x : FVec Ideal S16384x1024 .f32) (w : FVec Ideal S4x1024x2304 .f32) : resQ (hid x w) = specQ x w := by
  funext y
  obtain ⟨R, n, rfl⟩ := two y
  have h := hid_apply x w R ⟨0 + n.val, by omega⟩
  show _ = col x w R ⟨0 + n.val, _⟩ * _
  rw [← h]
  generalize hid x w = H
  pointwise [resQ]

theorem resK_eq (x : FVec Ideal S16384x1024 .f32) (w : FVec Ideal S4x1024x2304 .f32) : resK (hid x w) = specK x w := by
  funext y
  obtain ⟨R, n, rfl⟩ := two y
  have h := hid_apply x w R ⟨512 + n.val, by omega⟩
  show _ = col x w R ⟨512 + n.val, _⟩
  rw [← h]
  generalize hid x w = H
  pointwise [resK]

theorem resV_eq (x : FVec Ideal S16384x1024 .f32) (w : FVec Ideal S4x1024x2304 .f32) : resV (hid x w) = specV x w := by
  funext y
  obtain ⟨R, n, rfl⟩ := two y
  have h := hid_apply x w R ⟨1024 + n.val, by omega⟩
  show _ = col x w R ⟨1024 + n.val, _⟩
  rw [← h]
  generalize hid x w = H
  pointwise [resV]

theorem resM_eq (x : FVec Ideal S16384x1024 .f32) (w : FVec Ideal S4x1024x2304 .f32) : resM (hid x w) = specM x w := by
  funext y
  obtain ⟨R, n, rfl⟩ := two y
  have h := hid_apply x w R ⟨1536 + n.val, by omega⟩
  show _ = col x w R ⟨1536 + n.val, _⟩
  rw [← h]
  generalize hid x w = H
  pointwise [resM]

/-- The reference runs, ends with its four results, and leaves its arguments as they were. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = resQ (hid (m ((c.tc : Thread nD τ).loc main_arg0)) (m ((c.tc : Thread nD τ).loc main_arg1)))
      ∧ r.2.mem ((c.tc : Thread nD τ).loc main_v10) = resK (hid (m ((c.tc : Thread nD τ).loc main_arg0)) (m ((c.tc : Thread nD τ).loc main_arg1)))
      ∧ r.2.mem ((c.tc : Thread nD τ).loc main_v11) = resV (hid (m ((c.tc : Thread nD τ).loc main_arg0)) (m ((c.tc : Thread nD τ).loc main_arg1)))
      ∧ r.2.mem ((c.tc : Thread nD τ).loc main_v6) = resM (hid (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold resQ resK resV resM hid
  exact Cert.InprojRefIdeal.Value.run m ρ

end Cert.InprojRefIdeal.Stages

end
-- ==== Proof.InprojIdealValue.lean ====
/-
  What the input-projection kernel's run leaves: its four arrays, element by element.
-/
module

public import proofs.«01_k».proof.Proof.InprojIdealStep
public import proofs.«01_k».proof.Proof.InprojRefStages
public import Idealize.ShloMosaic.Lib.Pipeline.ValueKit

@[expose] public section

set_option maxRecDepth 16384

noncomputable section

namespace Cert.InprojIdeal.Val

open Cert.InprojIdeal Cert.InprojIdeal.Gen Cert.InprojIdeal.Step
open Cert.InprojRefIdeal.Stages (col specQ specK specV specM two)
open Idealize.ShloMosaic Idealize.ShloMosaic.TcCoe Idealize.ShloMosaic.Tactic

/-! ## The payloads at an index -/

theorem pay6_apply (x : Vec Ideal S512x1024 .f32) (w : Vec Ideal S1024x512 .bf16) (r n : Fin 512) :
    k0_pay6 x w (ix2 r n) = (∑ k : Fin 1024, x (ix2 r k) * w (ix2 k n)) * Ideal.ofBits .f32 0x3E000000#32 := by
  pointwise [k0_pay6, k0_pay5]

theorem pay7_apply (x : Vec Ideal S512x1024 .f32) (w : Vec Ideal S1024x512 .bf16) (r n : Fin 512) :
    k0_pay7 x w (ix2 r n) = ∑ k : Fin 1024, x (ix2 r k) * w (ix2 k n) := by
  pointwise [k0_pay7, k0_pay5]

theorem pay8_apply (x : Vec Ideal S512x1024 .f32) (w : Vec Ideal S1024x512 .bf16) (r n : Fin 512) :
    k0_pay8 x w (ix2 r n) = ∑ k : Fin 1024, x (ix2 r k) * w (ix2 k n) := by
  pointwise [k0_pay8, k0_pay5]

theorem pay9_apply (x : Vec Ideal S512x1024 .f32) (w : Vec Ideal S1024x768 .bf16) (r : Fin 512) (n : Fin 768) :
    k0_pay9 x w (ix2 r n) = ∑ k : Fin 1024, x (ix2 r k) * w (ix2 k n) := by
  pointwise [k0_pay9, k0_pay5]

/-! ## The blocks a point reads -/

variable (m : (ℓ : Loc nD τ sig) → Buf (Elt Ideal) ℓ)

/-- The arguments. -/
def aX (c : Dev nD) : S16384x1024.Idx → EReal := m ((c : Thread nD τ).loc main_arg0)
def aW (c : Dev nD) : S4x1024x2304.Idx → EReal := m ((c : Thread nD τ).loc main_arg1)

theorem crd : ∀ t : Fin cfg0.N, (grid0.coords t 0).val = t.val := (by decide +kernel : ∀ t : Fin grid0.N, (grid0.coords t 0).val = t.val)

theorem tr0 : ∀ i : grid0.Coords, cc0_transform_0 i = ![(i 0).val, 0] := by decide +kernel
theorem tr1 : ∀ i : grid0.Coords, cc0_transform_1 i = ![0, 0, 0] := by decide +kernel
theorem tr2 : ∀ i : grid0.Coords, cc0_transform_2 i = ![(i 0).val, 0] := by decide +kernel
theorem tr3 : ∀ i : grid0.Coords, cc0_transform_3 i = ![(i 0).val, 0] := by decide +kernel
theorem tr4 : ∀ i : grid0.Coords, cc0_transform_4 i = ![(i 0).val, 0] := by decide +kernel
theorem tr5 : ∀ i : grid0.Coords, cc0_transform_5 i = ![(i 0).val, 0] := by decide +kernel

theorem lt32 (t : Fin cfg0.N) : t.val < 32 := lt_of_lt_of_eq t.isLt (show cfg0.N = 32 from N_0)

/-- A block's row of the whole array. -/
def rowOf (t : Fin cfg0.N) (r : Fin 512) : Fin 16384 := ⟨t.val * 512 + r.val, by have := lt32 t; omega⟩

theorem iblk_0 (c : Dev nD) (t : Fin cfg0.N) (r : Fin 512) (k : Fin 1024) : iblk m c 0 t (ix2 r k) = aX m c (ix2 (rowOf t r) k) := by
  refine congrArg (aX m c) (funext fun a => Fin.ext ?_)
  match a with
  | ⟨0, _⟩ =>
    show cc0_transform_0 (grid0.coords t) 0 * 512 + 1 * r.val = t.val * 512 + r.val
    rw [tr0]; show (grid0.coords t 0).val * 512 + _ = _; rw [crd]; omega
  | ⟨1, _⟩ =>
    show cc0_transform_0 (grid0.coords t) 1 * 1024 + 1 * k.val = k.val
    rw [tr0]; show 0 * 1024 + _ = _; omega

/-- The layer's weights as the scratch holds them. -/
def wts (c : Dev nD) : Vec Ideal S1024x2304 .bf16 := fun y => aW m c (ix3 0 (y 0) (y 1))

theorem iblk_1 (c : Dev nD) (t : Fin cfg0.N) : cols (iblk m c 1 t) = wts m c := by
  funext y
  refine congrArg (aW m c) (funext fun a => Fin.ext ?_)
  match a with
  | ⟨0, _⟩ =>
    show cc0_transform_1 (grid0.coords t) 0 * 1 + 1 * 0 = 0
    rw [tr1]; rfl
  | ⟨1, _⟩ =>
    show cc0_transform_1 (grid0.coords t) 1 * 1024 + 1 * (y 0).val = (y 0).val
    rw [tr1]; show 0 * 1024 + _ = _; omega
  | ⟨2, _⟩ =>
    show cc0_transform_1 (grid0.coords t) 2 * 2304 + 1 * (y 1).val = (y 1).val
    rw [tr1]; show 0 * 2304 + _ = _; omega

/-! ## The sweep -/

/-- After every point the scratch holds the layer's weights. -/
theorem scratch (c : Dev nD) : ∀ (n : ℕ) (hn : n < cfg0.N), (outsAt0 m c n hn).2.2.2.2 = wts m c := by
  intro n
  induction n with
  | zero =>
    intro hn
    have st := outsAt0_A m c ⟨0, hn⟩ (Nat.zero_mod _)
    have s1 : (outsAt0 m c 0 hn).2.2.2.2 = _ := congrArg (fun s => s.2.2.2.2) st
    dsimp only at s1
    exact (s1.trans (scrA ..)).trans (iblk_1 m c _)
  | succ n ih =>
    intro hn
    by_cases h0 : (n + 1) % 32 = 0
    · have st := outsAt0_A m c ⟨n + 1, hn⟩ h0
      have s1 : (outsAt0 m c (n + 1) hn).2.2.2.2 = _ := congrArg (fun s => s.2.2.2.2) st
      dsimp only at s1
      exact (s1.trans (scrA ..)).trans (iblk_1 m c _)
    · have st := outsAt0_B m c ⟨n + 1, hn⟩ h0
      have s1 : (outsAt0 m c (n + 1) hn).2.2.2.2 = _ := congrArg (fun s => s.2.2.2.2) st
      exact s1.trans (ih (Nat.lt_of_succ_lt hn))

/-! ## Output window 2 -/

/-- What a point leaves in the output's block. -/
theorem block2 (c : Dev nD) (t : Fin cfg0.N) :
    (outsAt0 m c t.val t.isLt).1 = k0_pay6 (iblk m c 0 t) (fun j => wts m c (qRect.idx j)) := by
  by_cases h0 : t.val % 32 = 0
  · have st := outsAt0_A m c t h0
    have s1 : (outsAt0 m c t.val t.isLt).1 = _ := congrArg (fun s => s.1) st
    dsimp only at s1
    refine (s1.trans (outA2 ..)).trans ?_
    rw [iblk_1]
  · have st := outsAt0_B m c t h0
    have s1 : (outsAt0 m c t.val t.isLt).1 = _ := congrArg (fun s => s.1) st
    dsimp only at s1
    have hs := scratch m c (t.val - 1) (Nat.lt_of_le_of_lt (Nat.sub_le _ _) t.isLt)
    rw [hs] at s1
    exact s1.trans (outB2 ..)

/-- An element's place in the output's blocks. -/
theorem emb2 (t : Fin cfg0.N) (r : Fin 512) (n : Fin 512) : (((cfg0.win 2).blk t).view.emb (ix2 r n) : S16384x512.Idx) = ix2 (rowOf t r) n := by
  refine funext fun a => Fin.ext ?_
  match a with
  | ⟨0, _⟩ =>
    show cc0_transform_2 (grid0.coords t) 0 * 512 + 1 * r.val = t.val * 512 + r.val
    rw [tr2]; show (grid0.coords t 0).val * 512 + _ = _; rw [crd]; omega
  | ⟨1, _⟩ =>
    show cc0_transform_2 (grid0.coords t) 1 * 512 + 1 * n.val = n.val
    rw [tr2]; show 0 * 512 + _ = _; omega

theorem flush2 : ∀ t : Fin cfg0.N, (cfg0.win 2).flush t = true := (by decide +kernel : ∀ t : Fin grid0.N, win0_2.flush t = true)

/-- Every element lies in a block written back. -/
theorem cover2 (i : S16384x512.Idx) : ∃ t : Fin cfg0.N, (cfg0.win 2).flush t = true ∧ i ∈ ((cfg0.win 2).blk t).view.set := by
  obtain ⟨R, n, rfl⟩ := two i
  have hN : R.val / 512 < cfg0.N := lt_of_lt_of_eq (show R.val / 512 < 32 by omega) N_0.symm
  refine ⟨⟨R.val / 512, hN⟩, flush2 _, Finset.mem_map.2 ⟨ix2 ⟨R.val % 512, by omega⟩ n, Finset.mem_univ _, ?_⟩⟩
  refine (emb2 _ _ _).trans (congrArg (fun q : Fin 16384 => (ix2 q n : S16384x512.Idx)) (Fin.ext ?_))
  show R.val / 512 * 512 + R.val % 512 = R.val
  omega

/-- The array the run ends with is the mathematics'. -/
theorem final2 (c : Dev nD) : (dats m 0 c).arrAt 2 cfg0.N = specQ (aX m c) (aW m c) := by
  refine (dats m 0 c).arrAt_eq_of_emb 2 _ (fun t hf y => ?_) (cover2)
  obtain ⟨r, n, rfl⟩ := two y
  refine (congrFun (Cert.InprojIdeal.Value.flushed2 m c t) (ix2 r n)).trans ?_
  show (outsAt0 m c t.val t.isLt).1 (ix2 r n) = specQ (aX m c) (aW m c) (((cfg0.win 2).blk t).view.emb (ix2 r n))
  refine (congrFun (block2 m c t) (ix2 r n)).trans ((pay6_apply _ _ r n).trans ?_)
  refine Eq.trans ?_ (congrArg (specQ (aX m c) (aW m c)) (emb2 t r n)).symm
  show _ = col (aX m c) (aW m c) (rowOf t r) ⟨0 + n.val, _⟩ * Ideal.ofBits .f32 0x3E000000#32
  refine congrArg (· * Ideal.ofBits .f32 0x3E000000#32) (Finset.sum_congr rfl fun k _ => ?_)
  refine congrArg₂ (· * ·) (iblk_0 m c t r k) (congrArg (aW m c) (funext fun a => Fin.ext ?_))
  match a with
  | ⟨0, _⟩ => rfl
  | ⟨1, _⟩ => show 0 + 1 * k.val = k.val; omega
  | ⟨2, _⟩ => show 0 + 1 * n.val = 0 + n.val; omega

/-! ## Output window 3 -/

/-- What a point leaves in the output's block. -/
theorem block3 (c : Dev nD) (t : Fin cfg0.N) :
    (outsAt0 m c t.val t.isLt).2.1 = k0_pay7 (iblk m c 0 t) (fun j => wts m c (kRect.idx j)) := by
  by_cases h0 : t.val % 32 = 0
  · have st := outsAt0_A m c t h0
    have s1 : (outsAt0 m c t.val t.isLt).2.1 = _ := congrArg (fun s => s.2.1) st
    dsimp only at s1
    refine (s1.trans (outA3 ..)).trans ?_
    rw [iblk_1]
  · have st := outsAt0_B m c t h0
    have s1 : (outsAt0 m c t.val t.isLt).2.1 = _ := congrArg (fun s => s.2.1) st
    dsimp only at s1
    have hs := scratch m c (t.val - 1) (Nat.lt_of_le_of_lt (Nat.sub_le _ _) t.isLt)
    rw [hs] at s1
    exact s1.trans (outB3 ..)

/-- An element's place in the output's blocks. -/
theorem emb3 (t : Fin cfg0.N) (r : Fin 512) (n : Fin 512) : (((cfg0.win 3).blk t).view.emb (ix2 r n) : S16384x512.Idx) = ix2 (rowOf t r) n := by
  refine funext fun a => Fin.ext ?_
  match a with
  | ⟨0, _⟩ =>
    show cc0_transform_3 (grid0.coords t) 0 * 512 + 1 * r.val = t.val * 512 + r.val
    rw [tr3]; show (grid0.coords t 0).val * 512 + _ = _; rw [crd]; omega
  | ⟨1, _⟩ =>
    show cc0_transform_3 (grid0.coords t) 1 * 512 + 1 * n.val = n.val
    rw [tr3]; show 0 * 512 + _ = _; omega

theorem flush3 : ∀ t : Fin cfg0.N, (cfg0.win 3).flush t = true := (by decide +kernel : ∀ t : Fin grid0.N, win0_3.flush t = true)

/-- Every element lies in a block written back. -/
theorem cover3 (i : S16384x512.Idx) : ∃ t : Fin cfg0.N, (cfg0.win 3).flush t = true ∧ i ∈ ((cfg0.win 3).blk t).view.set := by
  obtain ⟨R, n, rfl⟩ := two i
  have hN : R.val / 512 < cfg0.N := lt_of_lt_of_eq (show R.val / 512 < 32 by omega) N_0.symm
  refine ⟨⟨R.val / 512, hN⟩, flush3 _, Finset.mem_map.2 ⟨ix2 ⟨R.val % 512, by omega⟩ n, Finset.mem_univ _, ?_⟩⟩
  refine (emb3 _ _ _).trans (congrArg (fun q : Fin 16384 => (ix2 q n : S16384x512.Idx)) (Fin.ext ?_))
  show R.val / 512 * 512 + R.val % 512 = R.val
  omega

/-- The array the run ends with is the mathematics'. -/
theorem final3 (c : Dev nD) : (dats m 0 c).arrAt 3 cfg0.N = specK (aX m c) (aW m c) := by
  refine (dats m 0 c).arrAt_eq_of_emb 3 _ (fun t hf y => ?_) (cover3)
  obtain ⟨r, n, rfl⟩ := two y
  refine (congrFun (Cert.InprojIdeal.Value.flushed3 m c t) (ix2 r n)).trans ?_
  show (outsAt0 m c t.val t.isLt).2.1 (ix2 r n) = specK (aX m c) (aW m c) (((cfg0.win 3).blk t).view.emb (ix2 r n))
  refine (congrFun (block3 m c t) (ix2 r n)).trans ((pay7_apply _ _ r n).trans ?_)
  refine Eq.trans ?_ (congrArg (specK (aX m c) (aW m c)) (emb3 t r n)).symm
  show _ = col (aX m c) (aW m c) (rowOf t r) ⟨512 + n.val, _⟩
  refine (Finset.sum_congr rfl fun k _ => ?_)
  refine congrArg₂ (· * ·) (iblk_0 m c t r k) (congrArg (aW m c) (funext fun a => Fin.ext ?_))
  match a with
  | ⟨0, _⟩ => rfl
  | ⟨1, _⟩ => show 0 + 1 * k.val = k.val; omega
  | ⟨2, _⟩ => show 512 + 1 * n.val = 512 + n.val; omega

/-! ## Output window 4 -/

/-- What a point leaves in the output's block. -/
theorem block4 (c : Dev nD) (t : Fin cfg0.N) :
    (outsAt0 m c t.val t.isLt).2.2.1 = k0_pay8 (iblk m c 0 t) (fun j => wts m c (vRect.idx j)) := by
  by_cases h0 : t.val % 32 = 0
  · have st := outsAt0_A m c t h0
    have s1 : (outsAt0 m c t.val t.isLt).2.2.1 = _ := congrArg (fun s => s.2.2.1) st
    dsimp only at s1
    refine (s1.trans (outA4 ..)).trans ?_
    rw [iblk_1]
  · have st := outsAt0_B m c t h0
    have s1 : (outsAt0 m c t.val t.isLt).2.2.1 = _ := congrArg (fun s => s.2.2.1) st
    dsimp only at s1
    have hs := scratch m c (t.val - 1) (Nat.lt_of_le_of_lt (Nat.sub_le _ _) t.isLt)
    rw [hs] at s1
    exact s1.trans (outB4 ..)

/-- An element's place in the output's blocks. -/
theorem emb4 (t : Fin cfg0.N) (r : Fin 512) (n : Fin 512) : (((cfg0.win 4).blk t).view.emb (ix2 r n) : S16384x512.Idx) = ix2 (rowOf t r) n := by
  refine funext fun a => Fin.ext ?_
  match a with
  | ⟨0, _⟩ =>
    show cc0_transform_4 (grid0.coords t) 0 * 512 + 1 * r.val = t.val * 512 + r.val
    rw [tr4]; show (grid0.coords t 0).val * 512 + _ = _; rw [crd]; omega
  | ⟨1, _⟩ =>
    show cc0_transform_4 (grid0.coords t) 1 * 512 + 1 * n.val = n.val
    rw [tr4]; show 0 * 512 + _ = _; omega

theorem flush4 : ∀ t : Fin cfg0.N, (cfg0.win 4).flush t = true := (by decide +kernel : ∀ t : Fin grid0.N, win0_4.flush t = true)

/-- Every element lies in a block written back. -/
theorem cover4 (i : S16384x512.Idx) : ∃ t : Fin cfg0.N, (cfg0.win 4).flush t = true ∧ i ∈ ((cfg0.win 4).blk t).view.set := by
  obtain ⟨R, n, rfl⟩ := two i
  have hN : R.val / 512 < cfg0.N := lt_of_lt_of_eq (show R.val / 512 < 32 by omega) N_0.symm
  refine ⟨⟨R.val / 512, hN⟩, flush4 _, Finset.mem_map.2 ⟨ix2 ⟨R.val % 512, by omega⟩ n, Finset.mem_univ _, ?_⟩⟩
  refine (emb4 _ _ _).trans (congrArg (fun q : Fin 16384 => (ix2 q n : S16384x512.Idx)) (Fin.ext ?_))
  show R.val / 512 * 512 + R.val % 512 = R.val
  omega

/-- The array the run ends with is the mathematics'. -/
theorem final4 (c : Dev nD) : (dats m 0 c).arrAt 4 cfg0.N = specV (aX m c) (aW m c) := by
  refine (dats m 0 c).arrAt_eq_of_emb 4 _ (fun t hf y => ?_) (cover4)
  obtain ⟨r, n, rfl⟩ := two y
  refine (congrFun (Cert.InprojIdeal.Value.flushed4 m c t) (ix2 r n)).trans ?_
  show (outsAt0 m c t.val t.isLt).2.2.1 (ix2 r n) = specV (aX m c) (aW m c) (((cfg0.win 4).blk t).view.emb (ix2 r n))
  refine (congrFun (block4 m c t) (ix2 r n)).trans ((pay8_apply _ _ r n).trans ?_)
  refine Eq.trans ?_ (congrArg (specV (aX m c) (aW m c)) (emb4 t r n)).symm
  show _ = col (aX m c) (aW m c) (rowOf t r) ⟨1024 + n.val, _⟩
  refine (Finset.sum_congr rfl fun k _ => ?_)
  refine congrArg₂ (· * ·) (iblk_0 m c t r k) (congrArg (aW m c) (funext fun a => Fin.ext ?_))
  match a with
  | ⟨0, _⟩ => rfl
  | ⟨1, _⟩ => show 0 + 1 * k.val = k.val; omega
  | ⟨2, _⟩ => show 1024 + 1 * n.val = 1024 + n.val; omega

/-! ## Output window 5 -/

/-- What a point leaves in the output's block. -/
theorem block5 (c : Dev nD) (t : Fin cfg0.N) :
    (outsAt0 m c t.val t.isLt).2.2.2.1 = k0_pay9 (iblk m c 0 t) (fun j => wts m c (mRect.idx j)) := by
  by_cases h0 : t.val % 32 = 0
  · have st := outsAt0_A m c t h0
    have s1 : (outsAt0 m c t.val t.isLt).2.2.2.1 = _ := congrArg (fun s => s.2.2.2.1) st
    dsimp only at s1
    refine (s1.trans (outA5 ..)).trans ?_
    rw [iblk_1]
  · have st := outsAt0_B m c t h0
    have s1 : (outsAt0 m c t.val t.isLt).2.2.2.1 = _ := congrArg (fun s => s.2.2.2.1) st
    dsimp only at s1
    have hs := scratch m c (t.val - 1) (Nat.lt_of_le_of_lt (Nat.sub_le _ _) t.isLt)
    rw [hs] at s1
    exact s1.trans (outB5 ..)

/-- An element's place in the output's blocks. -/
theorem emb5 (t : Fin cfg0.N) (r : Fin 512) (n : Fin 768) : (((cfg0.win 5).blk t).view.emb (ix2 r n) : S16384x768.Idx) = ix2 (rowOf t r) n := by
  refine funext fun a => Fin.ext ?_
  match a with
  | ⟨0, _⟩ =>
    show cc0_transform_5 (grid0.coords t) 0 * 512 + 1 * r.val = t.val * 512 + r.val
    rw [tr5]; show (grid0.coords t 0).val * 512 + _ = _; rw [crd]; omega
  | ⟨1, _⟩ =>
    show cc0_transform_5 (grid0.coords t) 1 * 768 + 1 * n.val = n.val
    rw [tr5]; show 0 * 768 + _ = _; omega

theorem flush5 : ∀ t : Fin cfg0.N, (cfg0.win 5).flush t = true := (by decide +kernel : ∀ t : Fin grid0.N, win0_5.flush t = true)

/-- Every element lies in a block written back. -/
theorem cover5 (i : S16384x768.Idx) : ∃ t : Fin cfg0.N, (cfg0.win 5).flush t = true ∧ i ∈ ((cfg0.win 5).blk t).view.set := by
  obtain ⟨R, n, rfl⟩ := two i
  have hN : R.val / 512 < cfg0.N := lt_of_lt_of_eq (show R.val / 512 < 32 by omega) N_0.symm
  refine ⟨⟨R.val / 512, hN⟩, flush5 _, Finset.mem_map.2 ⟨ix2 ⟨R.val % 512, by omega⟩ n, Finset.mem_univ _, ?_⟩⟩
  refine (emb5 _ _ _).trans (congrArg (fun q : Fin 16384 => (ix2 q n : S16384x768.Idx)) (Fin.ext ?_))
  show R.val / 512 * 512 + R.val % 512 = R.val
  omega

/-- The array the run ends with is the mathematics'. -/
theorem final5 (c : Dev nD) : (dats m 0 c).arrAt 5 cfg0.N = specM (aX m c) (aW m c) := by
  refine (dats m 0 c).arrAt_eq_of_emb 5 _ (fun t hf y => ?_) (cover5)
  obtain ⟨r, n, rfl⟩ := two y
  refine (congrFun (Cert.InprojIdeal.Value.flushed5 m c t) (ix2 r n)).trans ?_
  show (outsAt0 m c t.val t.isLt).2.2.2.1 (ix2 r n) = specM (aX m c) (aW m c) (((cfg0.win 5).blk t).view.emb (ix2 r n))
  refine (congrFun (block5 m c t) (ix2 r n)).trans ((pay9_apply _ _ r n).trans ?_)
  refine Eq.trans ?_ (congrArg (specM (aX m c) (aW m c)) (emb5 t r n)).symm
  show _ = col (aX m c) (aW m c) (rowOf t r) ⟨1536 + n.val, _⟩
  refine (Finset.sum_congr rfl fun k _ => ?_)
  refine congrArg₂ (· * ·) (iblk_0 m c t r k) (congrArg (aW m c) (funext fun a => Fin.ext ?_))
  match a with
  | ⟨0, _⟩ => rfl
  | ⟨1, _⟩ => show 0 + 1 * k.val = k.val; omega
  | ⟨2, _⟩ => show 1536 + 1 * n.val = 1536 + n.val; omega

end Cert.InprojIdeal.Val

end
-- ==== Proof.InprojClaims.lean ====
/-
  The claims about the first layer's input projection: the reference's frame and the equality of the four results.
-/
module

public import proofs.«01_k».proof.Defs
public import proofs.«01_k».proof.Proof.InprojIdealValue
public import Idealize.ShloMosaic.Adequacy
public import Idealize.ShloMosaic.Init

@[expose] public section

set_option maxRecDepth 16384

noncomputable section

namespace Cert.InprojClaims

open Idealize.ShloMosaic
open Idealize.ShloMosaic.TcCoe
open Cert.InprojIdeal Cert.InprojIdeal.Gen Cert.InprojIdeal.Val
open Cert.InprojRefIdeal.Stages (specQ specK specV specM)

/-- The reference runs and leaves its arguments and the counters as they were. -/
theorem reference_frame : Cert.quiescent_InprojRefIdeal := fun m ρ _ =>
  (θ_run _ _ _).mono (fun r h => ⟨fun c => (h c).2.2.2.2, Idealize.ShloMosaic.sem_eq_zero_of_no_sems (by decide) r.2⟩)
    (Cert.InprojRefIdeal.Stages.run (F := Ideal) m ρ)

/-- Kernel and reference end with equal results. -/
theorem algebraic : Cert.algebraic_InprojIdeal_InprojRefIdeal := by
  intro m g m' g' hp ha
  refine ⟨fun c => specQ (aX m c) (aW m c), fun c => specK (aX m c) (aW m c), fun c => specV (aX m c) (aW m c), fun c => specM (aX m c) (aW m c), ?_, ?_⟩
  · refine (θ_run _ _ _).mono (fun r h c => ?_) (Cert.InprojIdeal.Value.run_blocks m g)
    obtain ⟨h2, h3, h4, h5, h6⟩ := h c
    exact ⟨h2.trans (final2 m c), h3.trans (final3 m c), h4.trans (final4 m c), h5.trans (final5 m c), h6⟩
  · refine (θ_run _ _ _).mono (fun r h c => ?_) (Cert.InprojRefIdeal.Stages.run (F := Ideal) m' g')
    obtain ⟨h2, h3, h4, h5, h6⟩ := h c
    obtain ⟨a0, a1⟩ := ha c
    rw [a0, a1] at h2 h3 h4 h5
    exact ⟨h2.trans (Cert.InprojRefIdeal.Stages.resQ_eq _ _), h3.trans (Cert.InprojRefIdeal.Stages.resK_eq _ _),
      h4.trans (Cert.InprojRefIdeal.Stages.resV_eq _ _), h5.trans (Cert.InprojRefIdeal.Stages.resM_eq _ _), h6⟩

end Cert.InprojClaims

end
-- ==== Proof.OutprojIdealStep.lean ====
/-
  What one point of the output-projection kernel leaves: the scratch holding the layer's weights, and the block of
  layer-normed rows.
-/
module

public import proofs.«01_k».proof.Proof.Gen.OutprojIdeal.Value
public import proofs.«01_k».proof.Proof.WholeBlock
public import proofs.«01_k».proof.Proof.ColumnBlocks
public import Idealize.ShloMosaic.Lib.Pointwise
public import Idealize.ShloMosaic.Lib.WholeRead

@[expose] public section

set_option maxRecDepth 16384

noncomputable section

namespace Cert.OutprojIdeal.Step

open Cert.OutprojIdeal Cert.OutprojIdeal.Gen Cert.WholeBlock Cert.ColumnBlocks
open Idealize.ShloMosaic Idealize.ShloMosaic.TcCoe Idealize.ShloMosaic.Tactic

/-- The layer's weights as a matrix. -/
def cols (w : Vec Ideal S1x1024x1024 .f32) : Vec Ideal S1024x1024 .bf16 := fun y => w (ix3 0 (y 0) (y 1))

/-- The weights' upper half, met by the first 512 mixed columns, and the lower half, met by the others. -/
abbrev topRect : LoadRect S1024x1024 := (Rect.unit (s := S1024x1024) ![0, 0] S512x1024.size inb_S1024x1024_S512x1024_0_0).toLoadRect
abbrev botRect : LoadRect S1024x1024 := (Rect.unit (s := S1024x1024) ![512, 0] S512x1024.size inb_S1024x1024_S512x1024_512_0).toLoadRect

/-- A stored block of 256 columns holds the entries of the weights it is stored at. -/
theorem piece (o : ℕ) (i2 : ∀ a, (![0, o] : Fin 2 → ℕ) a + S1024x256.size a ≤ S1024x1024.size a)
    (i3 : ∀ a, (![0, 0, o] : Fin 3 → ℕ) a + S1x1024x256.size a ≤ S1x1024x1024.size a)
    (pay : Vec Ideal S1x1024x256 .f32 → FVec Ideal S1024x256 .bf16)
    (hp : ∀ v (k : Fin 1024) (h : Fin 256), pay v (ix2 k h) = v (ix3 0 k h))
    (arg4 : Memref sig .tc .vmem S1x1024x1024 .f32) (harg4 : arg4.IsWhole) (x3 : Vec Ideal S1x1024x1024 .f32)
    (x : (Rect.unit (s := S1024x1024) ![0, o] S1024x256.size i2).shape.Idx) :
    pay (View.readAt (Elt Ideal) arg4.view (Rect.unit (s := S1x1024x1024) ![0, 0, o] S1x1024x256.size i3).toLoadRect (harg4.unread x3)) x
      = cols x3 ((Rect.unit (s := S1024x1024) ![0, o] S1024x256.size i2).emb x) := by
  have e : (x : S1024x256.Idx) = ix2 (x 0) (x 1) := by
    funext a; fin_cases a <;> rfl
  refine (congrArg _ e).trans ((hp _ (x 0) (x 1)).trans ((harg4.readAt_unread x3 _ _).trans (congrArg x3 ?_)))
  funext a
  fin_cases a
  · rfl
  · rfl
  · rfl

theorem pay2_apply (v : Vec Ideal S1x1024x256 .f32) (k : Fin 1024) (h : Fin 256) : k0_pay2 v (ix2 k h) = v (ix3 0 k h) := by
  pointwise [k0_pay2]

theorem pay3_apply (v : Vec Ideal S1x1024x256 .f32) (k : Fin 1024) (h : Fin 256) : k0_pay3 v (ix2 k h) = v (ix3 0 k h) := by
  pointwise [k0_pay3]

theorem pay4_apply (v : Vec Ideal S1x1024x256 .f32) (k : Fin 1024) (h : Fin 256) : k0_pay4 v (ix2 k h) = v (ix3 0 k h) := by
  pointwise [k0_pay4]

theorem pay5_apply (v : Vec Ideal S1x1024x256 .f32) (k : Fin 1024) (h : Fin 256) : k0_pay5 v (ix2 k h) = v (ix3 0 k h) := by
  pointwise [k0_pay5]

/-- The block of layer-normed rows from the two mixed blocks, the weights' halves, the rows, and the norm's scale and shift. -/
def blk (ya ym : Vec Ideal S512x512 .bf16) (top bot : Vec Ideal S512x1024 .bf16) (x : Vec Ideal S512x1024 .f32) (g b : Vec Ideal S1x1024 .f32) : Vec Ideal S512x1024 .f32 :=
  k0_pay1 (k0_pay6 g) (k0_pay7 b) (k0_pay8 ya top ym bot x)

theorem blk_congr {ya ya' ym ym' : Vec Ideal S512x512 .bf16} {top top' bot bot' : Vec Ideal S512x1024 .bf16} {x x' : Vec Ideal S512x1024 .f32} {g g' b b' : Vec Ideal S1x1024 .f32}
    (h1 : ya = ya') (h2 : ym = ym') (h3 : top = top') (h4 : bot = bot') (h5 : x = x') (h6 : g = g') (h7 : b = b') :
    blk ya ym top bot x g b = blk ya' ym' top' bot' x' g' b' := by
  subst h1 h2 h3 h4 h5 h6 h7; rfl

/-- The first point's four stores into the scratch agree with the weights. -/
theorem agreeA (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .f32) (harg3 : arg3.IsWhole) (arg4 : Memref sig .tc .vmem S1x1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1024x1024 .bf16) (harg8 : arg8.IsWhole) (hc0 : cond0_0 i)
    (x0 : Vec Ideal S512x512 .bf16) (x1 : Vec Ideal S512x512 .bf16) (x2 : Vec Ideal S512x1024 .f32) (x3 : Vec Ideal S1x1024x1024 .f32) (x4 : Vec Ideal S1x1024 .f32) (x5 : Vec Ideal S1x1024 .f32) :
    Agree (kernelRun0_A (F := Ideal) c i arg1 harg1 arg2 harg2 arg3 harg3 arg4 harg4 arg5 harg5 arg6 harg6 arg7 harg7 arg8 harg8 hc0 x0 x1 x2 x3 x4 x5).2.1 (cols x3) := by
  unfold kernelRun0_A
  dsimp only
  sl_unfold_words
  refine agree_cons (piece 768 _ _ k0_pay5 pay5_apply arg4 harg4 x3) ?_
  refine agree_cons (piece 512 _ _ k0_pay4 pay4_apply arg4 harg4 x3) ?_
  refine agree_cons (piece 256 _ _ k0_pay3 pay3_apply arg4 harg4 x3) ?_
  exact agree_cons (piece 0 _ _ k0_pay2 pay2_apply arg4 harg4 x3) (agree_nil _)

/-- The first point fills the scratch with the weights. -/
theorem scrA (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .f32) (harg3 : arg3.IsWhole) (arg4 : Memref sig .tc .vmem S1x1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1024x1024 .bf16) (harg8 : arg8.IsWhole) (hc0 : cond0_0 i)
    (x0 : Vec Ideal S512x512 .bf16) (x1 : Vec Ideal S512x512 .bf16) (x2 : Vec Ideal S512x1024 .f32) (x3 : Vec Ideal S1x1024x1024 .f32) (x4 : Vec Ideal S1x1024 .f32) (x5 : Vec Ideal S1x1024 .f32) :
    sout0_A_0 (F := Ideal) c i arg1 harg1 arg2 harg2 arg3 harg3 arg4 harg4 arg5 harg5 arg6 harg6 arg7 harg7 arg8 harg8 hc0 x0 x1 x2 x3 x4 x5 = cols x3 :=
  read_all _ _ _ _ (agreeA c i arg1 harg1 arg2 harg2 arg3 harg3 arg4 harg4 arg5 harg5 arg6 harg6 arg7 harg7 arg8 harg8 hc0 x0 x1 x2 x3 x4 x5) (scover0_A_0 c i arg1 harg1 arg2 harg2 arg3 harg3 arg4 harg4 arg5 harg5 arg6 harg6 arg7 harg7 arg8 harg8 hc0 x0 x1 x2 x3 x4 x5)

/-- The first point's block of rows. -/
theorem outA (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .f32) (harg3 : arg3.IsWhole) (arg4 : Memref sig .tc .vmem S1x1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1024x1024 .bf16) (harg8 : arg8.IsWhole) (hc0 : cond0_0 i)
    (x0 : Vec Ideal S512x512 .bf16) (x1 : Vec Ideal S512x512 .bf16) (x2 : Vec Ideal S512x1024 .f32) (x3 : Vec Ideal S1x1024x1024 .f32) (x4 : Vec Ideal S1x1024 .f32) (x5 : Vec Ideal S1x1024 .f32) :
    out0_A_6 (F := Ideal) c i arg1 harg1 arg2 harg2 arg3 harg3 arg4 harg4 arg5 harg5 arg6 harg6 arg7 harg7 arg8 harg8 hc0 x0 x1 x2 x3 x4 x5 = blk x0 x1 (fun j => cols x3 (topRect.idx j)) (fun j => cols x3 (botRect.idx j)) x2 x4 x5 := by
  unfold out0_A_6 kernelRun0_A
  dsimp only
  sl_unfold_words
  exact (read_store _ _ zero2 _ _ []).trans (blk_congr ((readAt_all _ _ zero2 _).trans (harg1.read_unread x0)) ((readAt_all _ _ zero2 _).trans (harg2.read_unread x1))
    (readCov_all _ _ _ _ (agreeA c i arg1 harg1 arg2 harg2 arg3 harg3 arg4 harg4 arg5 harg5 arg6 harg6 arg7 harg7 arg8 harg8 hc0 x0 x1 x2 x3 x4 x5) (scover0_A_0 c i arg1 harg1 arg2 harg2 arg3 harg3 arg4 harg4 arg5 harg5 arg6 harg6 arg7 harg7 arg8 harg8 hc0 x0 x1 x2 x3 x4 x5))
    (readCov_all _ _ _ _ (agreeA c i arg1 harg1 arg2 harg2 arg3 harg3 arg4 harg4 arg5 harg5 arg6 harg6 arg7 harg7 arg8 harg8 hc0 x0 x1 x2 x3 x4 x5) (scover0_A_0 c i arg1 harg1 arg2 harg2 arg3 harg3 arg4 harg4 arg5 harg5 arg6 harg6 arg7 harg7 arg8 harg8 hc0 x0 x1 x2 x3 x4 x5))
    ((readAt_all _ _ zero2 _).trans (harg3.read_unread x2)) ((readAt_all _ _ zero2 _).trans (harg5.read_unread x4)) ((readAt_all _ _ zero2 _).trans (harg6.read_unread x5)))

/-- A later point's block of rows. -/
theorem outB (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .f32) (harg3 : arg3.IsWhole) (arg4 : Memref sig .tc .vmem S1x1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1024x1024 .bf16) (harg8 : arg8.IsWhole) (hc0 : ¬cond0_0 i)
    (x0 : Vec Ideal S512x512 .bf16) (x1 : Vec Ideal S512x512 .bf16) (x2 : Vec Ideal S512x1024 .f32) (x3 : Vec Ideal S1x1024x1024 .f32) (x4 : Vec Ideal S1x1024 .f32) (x5 : Vec Ideal S1x1024 .f32) (xs0 : Vec Ideal S1024x1024 .bf16) :
    out0_B_6 (F := Ideal) c i arg1 harg1 arg2 harg2 arg3 harg3 arg4 harg4 arg5 harg5 arg6 harg6 arg7 harg7 arg8 harg8 hc0 x0 x1 x2 x3 x4 x5 xs0 = blk x0 x1 (fun j => xs0 (topRect.idx j)) (fun j => xs0 (botRect.idx j)) x2 x4 x5 := by
  unfold out0_B_6 kernelRun0_B
  dsimp only
  sl_unfold_words
  exact (read_store _ _ zero2 _ _ []).trans (blk_congr ((readAt_all _ _ zero2 _).trans (harg1.read_unread x0)) ((readAt_all _ _ zero2 _).trans (harg2.read_unread x1))
    (funext fun j => harg8.readAt_unread xs0 _ j) (funext fun j => harg8.readAt_unread xs0 _ j)
    ((readAt_all _ _ zero2 _).trans (harg3.read_unread x2)) ((readAt_all _ _ zero2 _).trans (harg5.read_unread x4)) ((readAt_all _ _ zero2 _).trans (harg6.read_unread x5)))

end Cert.OutprojIdeal.Step

end
-- ==== Proof.DenseRefStages.lean ====
/-
  The dense feed-forward's reference by stages, and what it is element by element: the layer's SwiGLU of a row, added to the
  scaled row, layer-normed.
-/
module

public import proofs.«01_k».proof.Proof.Gen.DenseRefIdeal.Run
public import Idealize.ShloMosaic.Lib.Pointwise

@[expose] public section

set_option maxRecDepth 16384

noncomputable section

namespace Cert.DenseRefIdeal.Stages

open Cert.DenseRefIdeal Cert.DenseRefIdeal.Gen
open Idealize.ShloMosaic Idealize.ShloMosaic.TcCoe Idealize.ShloMosaic.Tactic

section
variable {F : FTy → Type} [FloatOps F]

/-- The layer's number as an index of the weights. -/
def pick (T : IVec S16 32) : IVec S1x1 32 :=
  broadcastInDim S1x1 ![0] bcast_S1_S1x1_0 (select (cmpi .slt (extractStridedSlice S1 ![0] T slices_S16_S1_0) (broadcastInDim S1 ![] bcast_S_S1 (constantI S_ 32 0#32))) (addi (extractStridedSlice S1 ![0] T slices_S16_S1_0) (broadcastInDim S1 ![] bcast_S_S1 (constantI S_ 32 2#32))) (extractStridedSlice S1 ![0] T slices_S16_S1_0))

/-- The rows by the layer's matrix. -/
def proj (x : FVec F S16384x1024 .f32) (w : FVec F S2x1024x2816 .f32) (p : IVec S1x1 32) : FVec F S16384x2816 .f32 :=
  Host.dotGeneral dot_S16384x1024_S1024x2816_S16384x2816_1_0_0_1_n_n none x (shapeCast _ (Host.gather gather_S2x1024x2816_S1x1_S1x1024x2816_12_0_n_n_0_1_110242816 w p) shapeCasts_S1x1024x2816_S1024x2816)

/-- The gated hidden values. -/
def hidden (g u : FVec F S16384x2816 .f32) : FVec F S16384x2816 .f32 :=
  mulf (mulf g (Host.divf (broadcastInDim S16384x2816 ![] bcast_S_S16384x2816 (constant S_ .f32 0x3F800000#32)) (addf (broadcastInDim S16384x2816 ![] bcast_S_S16384x2816 (constant S_ .f32 0x3F800000#32)) (Host.exp (Host.negf g))))) u

/-- The hidden values by the layer's last matrix. -/
def down (h : FVec F S16384x2816 .f32) (w : FVec F S2x2816x1024 .f32) (p : IVec S1x1 32) : FVec F S16384x1024 .f32 :=
  Host.dotGeneral dot_S16384x2816_S2816x1024_S16384x1024_1_0_0_1_n_n none h (shapeCast _ (Host.gather gather_S2x2816x1024_S1x1_S1x2816x1024_12_0_n_n_0_1_128161024 w p) shapeCasts_S1x2816x1024_S2816x1024)

/-- The scaled rows and the layer's output. -/
def resid (x f : FVec F S16384x1024 .f32) : FVec F S16384x1024 .f32 :=
  addf (mulf (broadcastInDim S16384x1024 ![] bcast_S_S16384x1024 (constant S_ .f32 0x3FD744FD#32)) x) f

/-- Each row's mean. -/
def mean (z : FVec F S16384x1024 .f32) : FVec F S16384x1 .f32 :=
  Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))

/-- The rows without their means. -/
def centred (z : FVec F S16384x1024 .f32) : FVec F S16384x1024 .f32 :=
  subf z (broadcastInDim S16384x1024 ![0, 1] bcast_S16384x1_S16384x1024_0_1 (mean z))

/-- The layer norm. -/
def norm (z : FVec F S16384x1024 .f32) (g b : FVec F S1x1024 .f32) : FVec F S16384x1024 .f32 :=
  addf (mulf (mulf (centred z) (broadcastInDim S16384x1024 ![0, 1] bcast_S16384x1_S16384x1024_0_1 (Host.rsqrt (addf (mean (mulf (centred z) (centred z))) (broadcastInDim S16384x1 ![] bcast_S_S16384x1 (constant S_ .f32 0x3727C5AC#32)))))) (broadcastInDim S16384x1024 ![0, 1] bcast_S1x1024_S16384x1024_0_1 g)) (broadcastInDim S16384x1024 ![0, 1] bcast_S1x1024_S16384x1024_0_1 b)

/-- The whole reference. -/
def whole (T : IVec S16 32) (x : FVec F S16384x1024 .f32) (wg wu : FVec F S2x1024x2816 .f32) (wd : FVec F S2x2816x1024 .f32) (g b : FVec F S1x1024 .f32) : FVec F S16384x1024 .f32 :=
  norm (resid x (down (hidden (proj x wg (pick T)) (proj x wu (pick T))) wd (pick T))) g b

end

/-! ## Each stage at an index -/

/-- The table of one layer's number names the layer. -/
theorem pick_apply (e : Fin 2) : pick (fun _ => BitVec.ofNat 32 e.val) (ix2 0 0) = BitVec.ofNat 32 e.val := by
  have k : ∀ e : Fin 2, Scalar.select (IntOp.cmpi .slt (BitVec.ofNat 32 e.val) 0#32) (IntOp.addi (BitVec.ofNat 32 e.val) 2#32) (BitVec.ofNat 32 e.val) = BitVec.ofNat 32 e.val := by decide
  pointwise [pick]
  exact k e

theorem gather_up (w : FVec Ideal S2x1024x2816 .f32) (p : IVec S1x1 32) (e : Fin 2) (h : p (ix2 0 0) = BitVec.ofNat 32 e.val) (k : Fin 1024) (f : Fin 2816) :
    Host.gather gather_S2x1024x2816_S1x1_S1x1024x2816_12_0_n_n_0_1_110242816 w p (ix3 0 k f) = w (ix3 e k f) := by
  have en : ∀ e : Fin 2, min (BitVec.ofNat 32 e.val).toInt.toNat 1 = e.val := by decide
  refine congrArg w (funext fun a => Fin.ext ?_)
  match a with
  | ⟨0, _⟩ =>
    refine (congrArg (fun q : BitVec 32 => min q.toInt.toNat 1) (?_ : (p _ : BitVec 32) = BitVec.ofNat 32 e.val)).trans (en e)
    refine Eq.trans (congrArg p (a₂ := ix2 0 0) (funext fun a => ?_)) h
    match a with | ⟨0, _⟩ => rfl | ⟨1, _⟩ => rfl
  | ⟨1, _⟩ => show 0 + 0 + k.val = k.val; omega
  | ⟨2, _⟩ => show 0 + 0 + f.val = f.val; omega

theorem gather_down (w : FVec Ideal S2x2816x1024 .f32) (p : IVec S1x1 32) (e : Fin 2) (h : p (ix2 0 0) = BitVec.ofNat 32 e.val) (f : Fin 2816) (n : Fin 1024) :
    Host.gather gather_S2x2816x1024_S1x1_S1x2816x1024_12_0_n_n_0_1_128161024 w p (ix3 0 f n) = w (ix3 e f n) := by
  have en : ∀ e : Fin 2, min (BitVec.ofNat 32 e.val).toInt.toNat 1 = e.val := by decide
  refine congrArg w (funext fun a => Fin.ext ?_)
  match a with
  | ⟨0, _⟩ =>
    refine (congrArg (fun q : BitVec 32 => min q.toInt.toNat 1) (?_ : (p _ : BitVec 32) = BitVec.ofNat 32 e.val)).trans (en e)
    refine Eq.trans (congrArg p (a₂ := ix2 0 0) (funext fun a => ?_)) h
    match a with | ⟨0, _⟩ => rfl | ⟨1, _⟩ => rfl
  | ⟨1, _⟩ => show 0 + 0 + f.val = f.val; omega
  | ⟨2, _⟩ => show 0 + 0 + n.val = n.val; omega

theorem proj_apply (x : FVec Ideal S16384x1024 .f32) (w : FVec Ideal S2x1024x2816 .f32) (p : IVec S1x1 32) (e : Fin 2) (h : p (ix2 0 0) = BitVec.ofNat 32 e.val) (r : Fin 16384) (f : Fin 2816) :
    proj x w p (ix2 r f) = ∑ k : Fin 1024, x (ix2 r k) * w (ix3 e k f) := by
  have g := gather_up w p e h
  generalize hG : Host.gather gather_S2x1024x2816_S1x1_S1x1024x2816_12_0_n_n_0_1_110242816 w p = G at g
  unfold proj
  rw [hG]
  pointwise []
  exact Finset.sum_congr rfl fun k _ => congrArg (_ * ·) (g k f)

theorem hidden_apply (g u : FVec Ideal S16384x2816 .f32) (r : Fin 16384) (f : Fin 2816) :
    hidden g u (ix2 r f) = g (ix2 r f) * Ideal.logistic (g (ix2 r f)) * u (ix2 r f) := by
  pointwise [hidden]
  rfl

theorem down_apply (x : FVec Ideal S16384x2816 .f32) (w : FVec Ideal S2x2816x1024 .f32) (p : IVec S1x1 32) (e : Fin 2) (h : p (ix2 0 0) = BitVec.ofNat 32 e.val) (r : Fin 16384) (n : Fin 1024) :
    down x w p (ix2 r n) = ∑ f : Fin 2816, x (ix2 r f) * w (ix3 e f n) := by
  have g := gather_down w p e h
  generalize hG : Host.gather gather_S2x2816x1024_S1x1_S1x2816x1024_12_0_n_n_0_1_128161024 w p = G at g
  unfold down
  rw [hG]
  pointwise []
  exact Finset.sum_congr rfl fun f _ => congrArg (_ * ·) (g f n)

theorem resid_apply (x f : FVec Ideal S16384x1024 .f32) (r : Fin 16384) (n : Fin 1024) :
    resid x f (ix2 r n) = Ideal.ofBits .f32 0x3FD744FD#32 * x (ix2 r n) + f (ix2 r n) := by
  pointwise [resid]

/-- The mean of 1024 values. -/
def mu (z : Fin 1024 → EReal) : EReal := Ideal.div (∑ k, z k) (Ideal.ofBits .f32 0x44800000#32)

/-- The layer norm of 1024 values, at one of them. -/
def lnorm (z : Fin 1024 → EReal) (g b : EReal) (n : Fin 1024) : EReal :=
  (z n - mu z) * Ideal.rsqrt (mu (fun k => (z k - mu z) * (z k - mu z)) + Ideal.ofBits .f32 0x3727C5AC#32) * g + b

theorem mean_apply (z : FVec Ideal S16384x1024 .f32) (r : Fin 16384) : mean z (ix2 r 0) = mu fun k => z (ix2 r k) := by
  pointwise [mean]
  rfl

theorem centred_apply (z : FVec Ideal S16384x1024 .f32) (r : Fin 16384) (n : Fin 1024) : centred z (ix2 r n) = z (ix2 r n) - mu fun k => z (ix2 r k) := by
  have h := mean_apply z r
  generalize hG : mean z = G at h
  unfold centred
  rw [hG]
  pointwise []
  rw [h]

theorem norm_apply (z : FVec Ideal S16384x1024 .f32) (g b : FVec Ideal S1x1024 .f32) (r : Fin 16384) (n : Fin 1024) :
    norm z g b (ix2 r n) = lnorm (fun k => z (ix2 r k)) (g (ix2 0 n)) (b (ix2 0 n)) n := by
  have hc := centred_apply z r
  have hm := mean_apply (mulf (centred z) (centred z)) r
  generalize hM : mean (mulf (centred z) (centred z)) = M at hm
  unfold norm
  rw [hM]
  generalize hG : centred z = G at hc hm
  pointwise []
  rw [hm, hc]
  unfold lnorm
  refine congrArg (fun q => (z (ix2 r n) - mu fun k => z (ix2 r k)) * Ideal.rsqrt (mu q + Ideal.ofBits .f32 0x3727C5AC#32) * g (ix2 0 n) + b (ix2 0 n)) (funext fun k => ?_)
  show G (ix2 r k) * G (ix2 r k) = _
  rw [hc]

/-- The mathematics: the layer's SwiGLU of each row, added to the scaled row, layer-normed. -/
def spec (e : Fin 2) (x : FVec Ideal S16384x1024 .f32) (wg wu : FVec Ideal S2x1024x2816 .f32) (wd : FVec Ideal S2x2816x1024 .f32) (g b : FVec Ideal S1x1024 .f32) : FVec Ideal S16384x1024 .f32 := fun y =>
  lnorm (fun n => Ideal.ofBits .f32 0x3FD744FD#32 * x (ix2 (y 0) n) + ∑ f : Fin 2816,
      (∑ k : Fin 1024, x (ix2 (y 0) k) * wg (ix3 e k f))
        * Ideal.logistic (∑ k : Fin 1024, x (ix2 (y 0) k) * wg (ix3 e k f))
        * (∑ k : Fin 1024, x (ix2 (y 0) k) * wu (ix3 e k f))
        * wd (ix3 e f n)) (g (ix2 0 (y 1))) (b (ix2 0 (y 1))) (y 1)

theorem whole_eq (e : Fin 2) (x : FVec Ideal S16384x1024 .f32) (wg wu : FVec Ideal S2x1024x2816 .f32) (wd : FVec Ideal S2x2816x1024 .f32) (g b : FVec Ideal S1x1024 .f32) :
    whole (fun _ => BitVec.ofNat 32 e.val) x wg wu wd g b = spec e x wg wu wd g b := by
  funext y
  obtain ⟨R, n, rfl⟩ : ∃ (R : Fin 16384) (n : Fin 1024), y = ix2 R n := ⟨y 0, y 1, funext fun a => match a with | ⟨0, _⟩ => rfl | ⟨1, _⟩ => rfl⟩
  have p := pick_apply e
  unfold whole
  rw [norm_apply]
  show _ = lnorm _ (g (ix2 0 n)) (b (ix2 0 n)) n
  refine congrArg (fun z => lnorm z (g (ix2 0 n)) (b (ix2 0 n)) n) (funext fun k => ?_)
  simp only [resid_apply, down_apply _ wd _ e p, hidden_apply, proj_apply x wg _ e p, proj_apply x wu _ e p]
  rfl

/-- The reference runs, ends with the whole of its arguments, and leaves them as they were. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = whole (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  unfold whole norm centred mean resid down hidden proj pick
  exact Cert.DenseRefIdeal.Value.run m ρ

end Cert.DenseRefIdeal.Stages

end
-- ==== Proof.OutprojRefStages.lean ====
/-
  The output projection's reference by stages, and what it is element by element: a row of the two mixed halves by the layer's
  weights, added to the scaled row, layer-normed. The layer norm is the one of the dense feed-forward's reference.
-/
module

public import proofs.«01_k».proof.Proof.Gen.OutprojRefIdeal.Run
public import proofs.«01_k».proof.Proof.DenseRefStages
public import Idealize.ShloMosaic.Lib.Pointwise

@[expose] public section

set_option maxRecDepth 16384

noncomputable section

namespace Cert.OutprojRefIdeal.Stages

open Cert.OutprojRefIdeal Cert.OutprojRefIdeal.Gen
open Cert.DenseRefIdeal.Stages (mu lnorm norm norm_apply resid resid_apply)
open Idealize.ShloMosaic Idealize.ShloMosaic.TcCoe Idealize.ShloMosaic.Tactic

section
variable {F : FTy → Type} [FloatOps F]

/-- The two mixed halves, side by side. -/
def cat (ya ym : FVec F S16384x512 .bf16) : FVec F S16384x1024 .f32 :=
  extf .f32 (concatenate S16384x1024 1 [⟨S16384x512, ya⟩, ⟨S16384x512, ym⟩] concatenates_S16384x512_S16384x512_S16384x1024_d1) bitsLt_bf16_f32

/-- The mixed rows by the layer's matrix. -/
def mix (z : FVec F S16384x1024 .f32) (w : FVec F S4x1024x1024 .f32) : FVec F S16384x1024 .f32 :=
  Host.dotGeneral dot_S16384x1024_S1024x1024_S16384x1024_1_0_0_1_n_n none z (shapeCast _ (extractStridedSlice S1x1024x1024 ![0, 0, 0] w slices_S4x1024x1024_S1x1024x1024_0_0_0) shapeCasts_S1x1024x1024_S1024x1024)

/-- A vector as one row. -/
def row (g : FVec F S1024 .f32) : FVec F S1x1024 .f32 := broadcastInDim S1x1024 ![1] bcast_S1024_S1x1024_1 g

/-- The whole reference. -/
def whole (ya ym : FVec F S16384x512 .bf16) (x : FVec F S16384x1024 .f32) (w : FVec F S4x1024x1024 .f32) (g b : FVec F S1024 .f32) : FVec F S16384x1024 .f32 :=
  norm (resid x (mix (cat ya ym) w)) (row g) (row b)

end

theorem row_apply (g : FVec Ideal S1024 .f32) (n : Fin 1024) : row g (ix2 0 n) = g (ix1 n) := by
  pointwise [row]

theorem cat_lo (ya ym : FVec Ideal S16384x512 .bf16) (R : Fin 16384) (i : Fin 512) : cat ya ym (ix2 R (Fin.castAdd 512 i)) = ya (ix2 R i) := by
  pointwise [cat]
  exact (dif_pos i.isLt).trans rfl

theorem cat_hi (ya ym : FVec Ideal S16384x512 .bf16) (R : Fin 16384) (i : Fin 512) : cat ya ym (ix2 R (Fin.natAdd 512 i)) = ym (ix2 R i) := by
  pointwise [cat]
  refine (dif_neg (by show ¬ 512 + i.val < 512; omega)).trans (congrArg (fun q : Fin 512 => ym (ix2 R q)) (Fin.ext ?_))
  show 512 + i.val - 512 = i.val
  omega

theorem mix_apply (z : FVec Ideal S16384x1024 .f32) (w : FVec Ideal S4x1024x1024 .f32) (R : Fin 16384) (n : Fin 1024) :
    mix z w (ix2 R n) = ∑ k : Fin (512 + 512), z (ix2 R k) * w (ix3 0 k n) := by
  pointwise [mix]

/-- The mathematics: each row of the two mixed halves by the layer's weights, added to the scaled row, layer-normed. -/
def spec (ya ym : FVec Ideal S16384x512 .bf16) (x : FVec Ideal S16384x1024 .f32) (w : FVec Ideal S4x1024x1024 .f32) (g b : FVec Ideal S1024 .f32) : FVec Ideal S16384x1024 .f32 := fun y =>
  lnorm (fun n => Ideal.ofBits .f32 0x3FD744FD#32 * x (ix2 (y 0) n)
      + (∑ i : Fin 512, ya (ix2 (y 0) i) * w (ix3 0 (Fin.castAdd 512 i : Fin 1024) n) + ∑ i : Fin 512, ym (ix2 (y 0) i) * w (ix3 0 (Fin.natAdd 512 i : Fin 1024) n)))
    (g (ix1 (y 1))) (b (ix1 (y 1))) (y 1)

theorem whole_eq (ya ym : FVec Ideal S16384x512 .bf16) (x : FVec Ideal S16384x1024 .f32) (w : FVec Ideal S4x1024x1024 .f32) (g b : FVec Ideal S1024 .f32) :
    whole ya ym x w g b = spec ya ym x w g b := by
  funext y
  obtain ⟨R, n, rfl⟩ : ∃ (R : Fin 16384) (n : Fin 1024), y = ix2 R n := ⟨y 0, y 1, funext fun a => match a with | ⟨0, _⟩ => rfl | ⟨1, _⟩ => rfl⟩
  refine (norm_apply _ _ _ R n).trans ?_
  rw [row_apply, row_apply]
  show _ = lnorm _ (g (ix1 n)) (b (ix1 n)) n
  refine congrArg (fun z => lnorm z (g (ix1 n)) (b (ix1 n)) n) (funext fun k => ?_)
  refine (resid_apply _ _ R k).trans (congrArg (fun q : EReal => Ideal.ofBits .f32 0x3FD744FD#32 * x (ix2 R k) + q) ?_)
  refine (mix_apply _ _ R k).trans ((Fin.sum_univ_add _).trans ?_)
  simp only [cat_lo, cat_hi]
  rfl

/-- The reference runs, ends with the whole of its arguments, and leaves them as they were. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  unfold whole Cert.DenseRefIdeal.Stages.norm Cert.DenseRefIdeal.Stages.centred Cert.DenseRefIdeal.Stages.mean resid mix cat row
  exact Cert.OutprojRefIdeal.Value.run m ρ

end Cert.OutprojRefIdeal.Stages

end
-- ==== Proof.OutprojIdealValue.lean ====
/-
  What the output-projection kernel's run leaves: its array, element by element.
-/
module

public import proofs.«01_k».proof.Proof.OutprojIdealStep
public import proofs.«01_k».proof.Proof.OutprojRefStages
public import Idealize.ShloMosaic.Lib.Pipeline.ValueKit

@[expose] public section

set_option maxRecDepth 16384

noncomputable section

namespace Cert.OutprojIdeal.Val

open Cert.OutprojIdeal Cert.OutprojIdeal.Gen Cert.OutprojIdeal.Step
open Cert.OutprojRefIdeal.Stages (spec)
open Cert.DenseRefIdeal.Stages (mu lnorm)
open Idealize.ShloMosaic Idealize.ShloMosaic.TcCoe Idealize.ShloMosaic.Tactic

theorem two {a b : ℕ} (y : (⟨2, ![a, b]⟩ : Shape).Idx) : ∃ (R : Fin a) (n : Fin b), y = ix2 R n :=
  ⟨y 0, y 1, funext fun i => match i with | ⟨0, _⟩ => rfl | ⟨1, _⟩ => rfl⟩

/-! ## The block at an index -/

theorem pay6 (g : Vec Ideal S1x1024 .f32) (n : Fin 1024) : k0_pay6 (F := Ideal) g (ix2 0 n) = g (ix2 0 n) := by
  pointwise [k0_pay6]

theorem pay7 (g : Vec Ideal S1x1024 .f32) (n : Fin 1024) : k0_pay7 (F := Ideal) g (ix2 0 n) = g (ix2 0 n) := by
  pointwise [k0_pay7]

theorem pay1 (g b : Vec Ideal S1x1024 .f32) (z : Vec Ideal S512x1024 .f32) (r : Fin 512) (n : Fin 1024) :
    k0_pay1 (F := Ideal) g b z (ix2 r n) = z (ix2 r n) * g (ix2 0 n) + b (ix2 0 n) := by
  pointwise [k0_pay1]

/-- A row of the mixed halves by the weights' halves, added to the scaled row. -/
def zrow (ya ym : Vec Ideal S512x512 .bf16) (top bot : Vec Ideal S512x1024 .bf16) (x : Vec Ideal S512x1024 .f32) (r : Fin 512) : Fin 1024 → EReal := fun n =>
  Ideal.ofBits .f32 0x3FD744FD#32 * x (ix2 r n) + (∑ i : Fin 512, ya (ix2 r i) * top (ix2 i n) + ∑ i : Fin 512, ym (ix2 r i) * bot (ix2 i n))

theorem pay8 (ya ym : Vec Ideal S512x512 .bf16) (top bot : Vec Ideal S512x1024 .bf16) (x : Vec Ideal S512x1024 .f32) (r : Fin 512) (n : Fin 1024) :
    k0_pay8 (F := Ideal) ya top ym bot x (ix2 r n)
      = (zrow ya ym top bot x r n - mu (zrow ya ym top bot x r)) * Ideal.rsqrt (mu (fun k => (zrow ya ym top bot x r k - mu (zrow ya ym top bot x r)) * (zrow ya ym top bot x r k - mu (zrow ya ym top bot x r))) + Ideal.ofBits .f32 0x3727C5AC#32) := by
  pointwise [k0_pay8]
  rfl

theorem blk_apply (ya ym : Vec Ideal S512x512 .bf16) (top bot : Vec Ideal S512x1024 .bf16) (x : Vec Ideal S512x1024 .f32) (g b : Vec Ideal S1x1024 .f32) (r : Fin 512) (n : Fin 1024) :
    blk ya ym top bot x g b (ix2 r n) = lnorm (zrow ya ym top bot x r) (g (ix2 0 n)) (b (ix2 0 n)) n := by
  unfold blk
  rw [pay1, pay6, pay7, pay8]
  rfl

/-! ## The blocks a point reads -/

variable (m : (ℓ : Loc nD τ sig) → Buf (Elt Ideal) ℓ)

/-- The arguments. -/
def aYa (c : Dev nD) : S16384x512.Idx → EReal := m ((c : Thread nD τ).loc main_arg0)
def aYm (c : Dev nD) : S16384x512.Idx → EReal := m ((c : Thread nD τ).loc main_arg1)
def aX (c : Dev nD) : S16384x1024.Idx → EReal := m ((c : Thread nD τ).loc main_arg2)
def aW (c : Dev nD) : S4x1024x1024.Idx → EReal := m ((c : Thread nD τ).loc main_arg3)
def aG (c : Dev nD) : S1024.Idx → EReal := m ((c : Thread nD τ).loc main_arg4)
def aB (c : Dev nD) : S1024.Idx → EReal := m ((c : Thread nD τ).loc main_arg5)

theorem crd : ∀ t : Fin cfg0.N, (grid0.coords t 0).val = t.val := (by decide +kernel : ∀ t : Fin grid0.N, (grid0.coords t 0).val = t.val)

theorem tr0 : ∀ i : grid0.Coords, cc0_transform_0 i = ![(i 0).val, 0] := by decide +kernel
theorem tr1 : ∀ i : grid0.Coords, cc0_transform_1 i = ![(i 0).val, 0] := by decide +kernel
theorem tr2 : ∀ i : grid0.Coords, cc0_transform_2 i = ![(i 0).val, 0] := by decide +kernel
theorem tr3 : ∀ i : grid0.Coords, cc0_transform_3 i = ![0, 0, 0] := by decide +kernel
theorem tr4 : ∀ i : grid0.Coords, cc0_transform_4 i = ![0, 0] := by decide +kernel
theorem tr5 : ∀ i : grid0.Coords, cc0_transform_5 i = ![0, 0] := by decide +kernel
theorem tr6 : ∀ i : grid0.Coords, cc0_transform_6 i = ![(i 0).val, 0] := by decide +kernel

theorem lt32 (t : Fin cfg0.N) : t.val < 32 := lt_of_lt_of_eq t.isLt (show cfg0.N = 32 from N_0)

/-- A block's row of the whole array. -/
def rowOf (t : Fin cfg0.N) (r : Fin 512) : Fin 16384 := ⟨t.val * 512 + r.val, by have := lt32 t; omega⟩

/-- The scale and the shift reach the region as one row each. -/
theorem V_v0 (c : Dev nD) : (V m c main_v0 : S1x1024.Idx → EReal) = shapeCast S1x1024 (aG m c) shapeCasts_S1024_S1x1024 := by
  show StableHlo.after _ _ _ = _
  after_results <;> rfl

theorem V_v1 (c : Dev nD) : (V m c main_v1 : S1x1024.Idx → EReal) = shapeCast S1x1024 (aB m c) shapeCasts_S1024_S1x1024 := by
  show StableHlo.after _ _ _ = _
  after_results <;> rfl

theorem cast_apply (g : FVec Ideal S1024 .f32) (n : Fin 1024) : shapeCast S1x1024 g shapeCasts_S1024_S1x1024 (ix2 0 n) = g (ix1 n) := by
  pointwise []

theorem iblk_0 (c : Dev nD) (t : Fin cfg0.N) (r : Fin 512) (k : Fin 512) : iblk m c 0 t (ix2 r k) = aYa m c (ix2 (rowOf t r) k) := by
  refine (congrFun (V_main_arg0 m c) _).trans (congrArg (aYa m c) (funext fun a => Fin.ext ?_))
  match a with
  | ⟨0, _⟩ =>
    show cc0_transform_0 (grid0.coords t) 0 * 512 + 1 * r.val = t.val * 512 + r.val
    rw [tr0]; show (grid0.coords t 0).val * 512 + _ = _; rw [crd]; omega
  | ⟨1, _⟩ =>
    show cc0_transform_0 (grid0.coords t) 1 * 512 + 1 * k.val = k.val
    rw [tr0]; show 0 * 512 + _ = _; omega

theorem iblk_1 (c : Dev nD) (t : Fin cfg0.N) (r : Fin 512) (k : Fin 512) : iblk m c 1 t (ix2 r k) = aYm m c (ix2 (rowOf t r) k) := by
  refine (congrFun (V_main_arg1 m c) _).trans (congrArg (aYm m c) (funext fun a => Fin.ext ?_))
  match a with
  | ⟨0, _⟩ =>
    show cc0_transform_1 (grid0.coords t) 0 * 512 + 1 * r.val = t.val * 512 + r.val
    rw [tr1]; show (grid0.coords t 0).val * 512 + _ = _; rw [crd]; omega
  | ⟨1, _⟩ =>
    show cc0_transform_1 (grid0.coords t) 1 * 512 + 1 * k.val = k.val
    rw [tr1]; show 0 * 512 + _ = _; omega

theorem iblk_2 (c : Dev nD) (t : Fin cfg0.N) (r : Fin 512) (k : Fin 1024) : iblk m c 2 t (ix2 r k) = aX m c (ix2 (rowOf t r) k) := by
  refine (congrFun (V_main_arg2 m c) _).trans (congrArg (aX m c) (funext fun a => Fin.ext ?_))
  match a with
  | ⟨0, _⟩ =>
    show cc0_transform_2 (grid0.coords t) 0 * 512 + 1 * r.val = t.val * 512 + r.val
    rw [tr2]; show (grid0.coords t 0).val * 512 + _ = _; rw [crd]; omega
  | ⟨1, _⟩ =>
    show cc0_transform_2 (grid0.coords t) 1 * 1024 + 1 * k.val = k.val
    rw [tr2]; show 0 * 1024 + _ = _; omega

theorem iblk_4 (c : Dev nD) (t : Fin cfg0.N) (n : Fin 1024) : iblk m c 4 t (ix2 0 n) = aG m c (ix1 n) := by
  refine ((congrFun (V_v0 m c) _).trans (congrArg (shapeCast S1x1024 (aG m c) shapeCasts_S1024_S1x1024) (a₂ := ix2 0 n) (funext fun a => Fin.ext ?_))).trans (cast_apply _ n)
  match a with
  | ⟨0, _⟩ =>
    show cc0_transform_4 (grid0.coords t) 0 * 1 + 1 * 0 = 0
    rw [tr4]; rfl
  | ⟨1, _⟩ =>
    show cc0_transform_4 (grid0.coords t) 1 * 1024 + 1 * n.val = n.val
    rw [tr4]; show 0 * 1024 + _ = _; omega

theorem iblk_5 (c : Dev nD) (t : Fin cfg0.N) (n : Fin 1024) : iblk m c 5 t (ix2 0 n) = aB m c (ix1 n) := by
  refine ((congrFun (V_v1 m c) _).trans (congrArg (shapeCast S1x1024 (aB m c) shapeCasts_S1024_S1x1024) (a₂ := ix2 0 n) (funext fun a => Fin.ext ?_))).trans (cast_apply _ n)
  match a with
  | ⟨0, _⟩ =>
    show cc0_transform_5 (grid0.coords t) 0 * 1 + 1 * 0 = 0
    rw [tr5]; rfl
  | ⟨1, _⟩ =>
    show cc0_transform_5 (grid0.coords t) 1 * 1024 + 1 * n.val = n.val
    rw [tr5]; show 0 * 1024 + _ = _; omega

/-- The layer's weights as the scratch holds them. -/
def wts (c : Dev nD) : Vec Ideal S1024x1024 .bf16 := fun y => aW m c (ix3 0 (y 0) (y 1))

theorem iblk_3 (c : Dev nD) (t : Fin cfg0.N) : cols (iblk m c 3 t) = wts m c := by
  funext y
  refine (congrFun (V_main_arg3 m c) _).trans (congrArg (aW m c) (funext fun a => Fin.ext ?_))
  match a with
  | ⟨0, _⟩ =>
    show cc0_transform_3 (grid0.coords t) 0 * 1 + 1 * 0 = 0
    rw [tr3]; rfl
  | ⟨1, _⟩ =>
    show cc0_transform_3 (grid0.coords t) 1 * 1024 + 1 * (y 0).val = (y 0).val
    rw [tr3]; show 0 * 1024 + _ = _; omega
  | ⟨2, _⟩ =>
    show cc0_transform_3 (grid0.coords t) 2 * 1024 + 1 * (y 1).val = (y 1).val
    rw [tr3]; show 0 * 1024 + _ = _; omega

/-! ## The sweep -/

/-- After every point the scratch holds the layer's weights. -/
theorem scratch (c : Dev nD) : ∀ (n : ℕ) (hn : n < cfg0.N), (outsAt0 m c n hn).2 = wts m c := by
  intro n
  induction n with
  | zero =>
    intro hn
    have st := outsAt0_A m c ⟨0, hn⟩ (Nat.zero_mod _)
    have s1 : (outsAt0 m c 0 hn).2 = _ := congrArg (fun s => s.2) st
    dsimp only at s1
    exact (s1.trans (scrA ..)).trans (iblk_3 m c _)
  | succ n ih =>
    intro hn
    by_cases h0 : (n + 1) % 32 = 0
    · have st := outsAt0_A m c ⟨n + 1, hn⟩ h0
      have s1 : (outsAt0 m c (n + 1) hn).2 = _ := congrArg (fun s => s.2) st
      dsimp only at s1
      exact (s1.trans (scrA ..)).trans (iblk_3 m c _)
    · have st := outsAt0_B m c ⟨n + 1, hn⟩ h0
      have s1 : (outsAt0 m c (n + 1) hn).2 = _ := congrArg (fun s => s.2) st
      exact s1.trans (ih (Nat.lt_of_succ_lt hn))

/-- What a point leaves in the output's block. -/
theorem block (c : Dev nD) (t : Fin cfg0.N) :
    (outsAt0 m c t.val t.isLt).1 = blk (iblk m c 0 t) (iblk m c 1 t) (fun j => wts m c (topRect.idx j)) (fun j => wts m c (botRect.idx j)) (iblk m c 2 t) (iblk m c 4 t) (iblk m c 5 t) := by
  by_cases h0 : t.val % 32 = 0
  · have st := outsAt0_A m c t h0
    have s1 : (outsAt0 m c t.val t.isLt).1 = _ := congrArg (fun s => s.1) st
    dsimp only at s1
    refine (s1.trans (outA ..)).trans ?_
    rw [iblk_3]
  · have st := outsAt0_B m c t h0
    have s1 : (outsAt0 m c t.val t.isLt).1 = _ := congrArg (fun s => s.1) st
    dsimp only at s1
    have hs := scratch m c (t.val - 1) (Nat.lt_of_le_of_lt (Nat.sub_le _ _) t.isLt)
    rw [hs] at s1
    exact s1.trans (outB ..)

/-- An element's place in the output's blocks. -/
theorem emb6 (t : Fin cfg0.N) (r : Fin 512) (n : Fin 1024) : (((cfg0.win 6).blk t).view.emb (ix2 r n) : S16384x1024.Idx) = ix2 (rowOf t r) n := by
  refine funext fun a => Fin.ext ?_
  match a with
  | ⟨0, _⟩ =>
    show cc0_transform_6 (grid0.coords t) 0 * 512 + 1 * r.val = t.val * 512 + r.val
    rw [tr6]; show (grid0.coords t 0).val * 512 + _ = _; rw [crd]; omega
  | ⟨1, _⟩ =>
    show cc0_transform_6 (grid0.coords t) 1 * 1024 + 1 * n.val = n.val
    rw [tr6]; show 0 * 1024 + _ = _; omega

theorem flush6 : ∀ t : Fin cfg0.N, (cfg0.win 6).flush t = true := (by decide +kernel : ∀ t : Fin grid0.N, win0_6.flush t = true)

/-- Every element lies in a block written back. -/
theorem cover6 (i : S16384x1024.Idx) : ∃ t : Fin cfg0.N, (cfg0.win 6).flush t = true ∧ i ∈ ((cfg0.win 6).blk t).view.set := by
  obtain ⟨R, n, rfl⟩ := two i
  have hN : R.val / 512 < cfg0.N := lt_of_lt_of_eq (show R.val / 512 < 32 by omega) N_0.symm
  refine ⟨⟨R.val / 512, hN⟩, flush6 _, Finset.mem_map.2 ⟨ix2 ⟨R.val % 512, by omega⟩ n, Finset.mem_univ _, ?_⟩⟩
  refine (emb6 _ _ _).trans (congrArg (fun q : Fin 16384 => (ix2 q n : S16384x1024.Idx)) (Fin.ext ?_))
  show R.val / 512 * 512 + R.val % 512 = R.val
  omega

/-- A row of a point's block before the norm. -/
theorem zrow_block (c : Dev nD) (t : Fin cfg0.N) (r : Fin 512) (n : Fin 1024) :
    zrow (iblk m c 0 t) (iblk m c 1 t) (fun j => wts m c (topRect.idx j)) (fun j => wts m c (botRect.idx j)) (iblk m c 2 t) r n
      = Ideal.ofBits .f32 0x3FD744FD#32 * aX m c (ix2 (rowOf t r) n)
        + (∑ i : Fin 512, aYa m c (ix2 (rowOf t r) i) * aW m c (ix3 0 (Fin.castAdd 512 i : Fin 1024) n) + ∑ i : Fin 512, aYm m c (ix2 (rowOf t r) i) * aW m c (ix3 0 (Fin.natAdd 512 i : Fin 1024) n)) := by
  refine congrArg₂ (· + ·) (congrArg (Ideal.ofBits .f32 0x3FD744FD#32 * ·) (iblk_2 m c t r n)) (congrArg₂ (· + ·) (Finset.sum_congr rfl fun i _ => ?_) (Finset.sum_congr rfl fun i _ => ?_))
  · refine congrArg₂ (· * ·) (iblk_0 m c t r i) (congrArg (aW m c) (funext fun a => Fin.ext ?_))
    match a with
    | ⟨0, _⟩ => rfl
    | ⟨1, _⟩ => show 0 + 1 * i.val = i.val; omega
    | ⟨2, _⟩ => show 0 + 1 * n.val = n.val; omega
  · refine congrArg₂ (· * ·) (iblk_1 m c t r i) (congrArg (aW m c) (funext fun a => Fin.ext ?_))
    match a with
    | ⟨0, _⟩ => rfl
    | ⟨1, _⟩ => show 512 + 1 * i.val = 512 + i.val; omega
    | ⟨2, _⟩ => show 0 + 1 * n.val = n.val; omega

/-- The array the run ends with is the mathematics'. -/
theorem final (c : Dev nD) : (dats m 0 c).arrAt 6 cfg0.N = spec (aYa m c) (aYm m c) (aX m c) (aW m c) (aG m c) (aB m c) := by
  refine (dats m 0 c).arrAt_eq_of_emb 6 _ (fun t hf y => ?_) cover6
  obtain ⟨r, n, rfl⟩ := two y
  refine (congrFun (Cert.OutprojIdeal.Value.flushed6 m c t) (ix2 r n)).trans ?_
  show (outsAt0 m c t.val t.isLt).1 (ix2 r n) = spec (aYa m c) (aYm m c) (aX m c) (aW m c) (aG m c) (aB m c) (((cfg0.win 6).blk t).view.emb (ix2 r n))
  refine (congrFun (block m c t) (ix2 r n)).trans ((blk_apply _ _ _ _ _ _ _ r n).trans ?_)
  refine Eq.trans ?_ (congrArg (spec (aYa m c) (aYm m c) (aX m c) (aW m c) (aG m c) (aB m c)) (emb6 t r n)).symm
  rw [iblk_4, iblk_5, funext (zrow_block m c t r)]
  rfl

end Cert.OutprojIdeal.Val

end
-- ==== Proof.OutprojClaims.lean ====
/-
  The claims about the first layer's output projection: the reference's frame and the equality of the two results.
-/
module

public import proofs.«01_k».proof.Defs
public import proofs.«01_k».proof.Proof.OutprojIdealValue
public import Idealize.ShloMosaic.Adequacy
public import Idealize.ShloMosaic.Init

@[expose] public section

set_option maxRecDepth 16384

noncomputable section

namespace Cert.OutprojClaims

open Idealize.ShloMosaic
open Idealize.ShloMosaic.TcCoe
open Cert.OutprojIdeal Cert.OutprojIdeal.Gen Cert.OutprojIdeal.Val
open Cert.OutprojRefIdeal.Stages (spec)

/-- The reference runs and leaves its arguments and the counters as they were. -/
theorem reference_frame : Cert.quiescent_OutprojRefIdeal := fun m ρ _ =>
  (θ_run _ _ _).mono (fun r h => ⟨fun c => (h c).2, Idealize.ShloMosaic.sem_eq_zero_of_no_sems (by decide) r.2⟩)
    (Cert.OutprojRefIdeal.Stages.run (F := Ideal) m ρ)

/-- Kernel and reference end with equal results. -/
theorem algebraic : Cert.algebraic_OutprojIdeal_OutprojRefIdeal := by
  intro m g m' g' hp ha
  refine ⟨fun c => spec (aYa m c) (aYm m c) (aX m c) (aW m c) (aG m c) (aB m c), ?_, ?_⟩
  · exact (θ_run _ _ _).mono (fun r h c => ⟨(h c).1.trans (final m c), (h c).2⟩) (Cert.OutprojIdeal.Value.run_blocks m g)
  · refine (θ_run _ _ _).mono (fun r h c => ⟨(h c).1.trans ?_, (h c).2⟩) (Cert.OutprojRefIdeal.Stages.run (F := Ideal) m' g')
    obtain ⟨a0, a1, a2, a3, a4, a5⟩ := ha c
    rw [a0, a1, a2, a3, a4, a5]
    exact Cert.OutprojRefIdeal.Stages.whole_eq _ _ _ _ _ _

end Cert.OutprojClaims

end
-- ==== Proof.DenseIdealPre.lean ====
/-
  The dense call at every admissible launch (exact values): what the precondition says of the two tables, and the frame.
-/
module

public import proofs.«01_k».proof.Defs
public import proofs.«01_k».proof.Proof.Gen.Pre_one_layer
public import proofs.«01_k».proof.Proof.Gen.DenseIdeal.Flash

@[expose] public section

set_option maxRecDepth 16384

noncomputable section

namespace Cert.DenseIdeal.Tables

open Cert.DenseIdeal Cert.DenseIdeal.Gen
open Idealize.ShloMosaic Idealize.ShloMosaic.TcCoe

/-- A word not negative and below two names one of two. -/
theorem lt_of_range (w : BitVec 32) (h0 : IntOp.cmpi .sge w 0#32 = 1#1) (h1 : IntOp.cmpi .slt w 2#32 = 1#1) : w.toNat < 2 := by
  have a : (0#32).sle w = true := by cases e : (0#32).sle w <;> simp [IntOp.cmpi, e] at h0 ⊢
  have b : w.slt 2#32 = true := by cases e : w.slt 2#32 <;> simp [IntOp.cmpi, e] at h1 ⊢
  simp only [BitVec.sle, BitVec.slt, decide_eq_true_eq, BitVec.toInt, BitVec.toNat_ofNat] at a b
  omega

/-- Words that compare equal are equal. -/
theorem eq_of_cmp (w v : BitVec 32) (h : IntOp.cmpi .eq w v = 1#1) : w = v := by
  by_contra n
  have e : IntOp.cmpi .eq w v = BitVec.ofBool (w == v) := rfl
  rw [e, beq_false_of_ne n] at h
  exact absurd h (by decide)

/-- Two ones make a one only. -/
theorem and_one (a b : BitVec 1) (h : IntOp.andi a b = 1#1) : a = 1#1 ∧ b = 1#1 := by
  revert a b; decide

/-- Tables whose words are all the same one of two, and sixteen, are a layer's. -/
theorem layer_of (A : S16.Idx → BitVec 32) (B s : S1.Idx → BitVec 32)
    (key : ∀ x : S16.Idx, ∃ y z : S1.Idx,
      IntOp.andi (IntOp.andi (IntOp.andi (IntOp.cmpi .sge (A x) 0#32) (IntOp.cmpi .slt (A x) 2#32)) (IntOp.cmpi .eq (A x) (s y)))
        (IntOp.cmpi .eq (B z) 16#32) = 1#1) : ∃ ch : Fin 2, A = pinT_0 ch ∧ B = pinT_1 ch := by
  have u1 : ∀ y z : S1.Idx, y = z := by decide
  obtain ⟨y, z, e⟩ := key (fun a => ⟨0, by fin_cases a; decide⟩)
  obtain ⟨e, e4⟩ := and_one _ _ e
  obtain ⟨e, e3⟩ := and_one _ _ e
  obtain ⟨e1, e2⟩ := and_one _ _ e
  have q3 := eq_of_cmp _ _ e3
  rw [q3] at e1 e2
  refine ⟨⟨(s y).toNat, lt_of_range _ e1 e2⟩, funext fun x => ?_, funext fun w => ?_⟩
  · obtain ⟨y', z', e'⟩ := key x
    have q' := eq_of_cmp _ _ (and_one _ _ (and_one _ _ e').1).2
    rw [u1 y' y] at q'
    exact q'.trans (BitVec.eq_of_toNat_eq ((Nat.mod_eq_of_lt (lt_trans (lt_of_range _ e1 e2) (by decide))).symm.trans (BitVec.toNat_ofNat _ _).symm))
  · rw [u1 w z]
    exact eq_of_cmp _ _ e4

/-- The precondition at a block of rows. -/
theorem at_block (A : S16.Idx → BitVec 32) (B : S1.Idx → BitVec 32) (x : FVec Ideal S16384x1024 .f32) (g u : FVec Ideal S2x1024x2816 .f32) (d : FVec Ideal S2x2816x1024 .f32) (p q : FVec Ideal S1x1024 .f32)
    (h : Cert.Pre_one_layer.fn (F := Ideal) A B x g u d p q = fun _ => 1#1) : ∃ s : S1.Idx → BitVec 32, ∀ i : S16.Idx, ∃ y z : S1.Idx,
      IntOp.andi (IntOp.andi (IntOp.andi (IntOp.cmpi .sge (A i) 0#32) (IntOp.cmpi .slt (A i) 2#32)) (IntOp.cmpi .eq (A i) (s y)))
        (IntOp.cmpi .eq (B z) 16#32) = 1#1 := by
  unfold Cert.Pre_one_layer.fn at h
  dsimp only at h
  generalize extractStridedSlice Cert.Pre_one_layer.S1 ![0] A Cert.Pre_one_layer.Facts.slices_S16_S1_0 = s at h
  exact ⟨s, fun i => ⟨_, _, congrFun h i⟩⟩

/-- The precondition, read: every word of the table is the same one of two layers, every block is used. -/
theorem layer_of_pre (m : (ℓ : Loc nD τ sig) → Buf (Elt Ideal) ℓ) (h : Cert.Pre_DenseIdeal m) (c : Dev nD) :
    ∃ ch : Fin 2, m ((c.tc : Thread nD τ).loc main_arg0) = pinT_0 ch ∧ m ((c.tc : Thread nD τ).loc main_arg1) = pinT_1 ch := by
  obtain ⟨s, hs⟩ := at_block (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (h c)
  exact layer_of (m ((c.tc : Thread nD τ).loc main_arg0)) (m ((c.tc : Thread nD τ).loc main_arg1)) s hs

/-- The launch memory holds one layer's tables on every device. -/
theorem pinned_of_pre (m : (ℓ : Loc nD τ sig) → Buf (Elt Ideal) ℓ) (h : Cert.Pre_DenseIdeal m) : ∃ ch : Fin 2, Pinned ch m := by
  obtain ⟨ch, h0, h1⟩ := layer_of_pre m h 0
  exact ⟨ch, fun c => by rw [Subsingleton.elim c 0]; exact h0, fun c => by rw [Subsingleton.elim c 0]; exact h1⟩

/-- The frame, under the precondition. -/
theorem claim_frame : Cert.quiescent_DenseIdeal := fun m ρ h =>
  let ⟨ch, hp⟩ := pinned_of_pre m h
  frame ch m ρ hp

end Cert.DenseIdeal.Tables

end
-- ==== Proof.DenseIdealStep.lean ====
/-
  What one grid point of the dense call leaves in the scratches and in the output block, as the payloads of its loads.
-/
module

public import proofs.«01_k».proof.Proof.Gen.DenseIdeal.Skeleton
public import proofs.«01_k».proof.Proof.Gen.DenseIdeal.Flash.Pins

public import proofs.«01_k».proof.Proof.Gen.DenseIdeal.Flash.Runs
public import proofs.«01_k».proof.Proof.WholeBlock

@[expose] public section

set_option maxRecDepth 16384

noncomputable section

namespace Cert.DenseIdeal.Step

open Cert.DenseIdeal.Gen
open Cert.WholeBlock
open Cert.DenseIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The first tile keeps the rows, rounded. -/
theorem runA_x (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (T0 : (S16.Idx → Elt Ideal .i32)) (T1 : (S1.Idx → Elt Ideal .i32))
     (x0 : (S1024x1024.Idx → Elt Ideal .f32)) (x1 : (S1x1024x256.Idx → Elt Ideal .f32)) (x2 : (S1x1024x256.Idx → Elt Ideal .f32)) (x3 : (S1x256x1024.Idx → Elt Ideal .f32)) (x4 : (S1x1024.Idx → Elt Ideal .f32)) (x5 : (S1x1024.Idx → Elt Ideal .f32)) (hc0 : (Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    (kernelRun0_A c i arg4 harg4 arg5 harg5 arg6 harg6 arg7 harg7 arg8 harg8 arg9 harg9 arg10 harg10 T0 T1 x0 x1 x2 x3 x4 x5 hc0 hc1 k0_h3 k0_h4).1 = k0_pay1 x0 := by
  unfold kernelRun0_A
  dsimp only
  sl_unfold_words
  rw [readAt_rep _ x0 zero2]
  exact writes_whole (Val := Elt Ideal) cc0_scratch0 _ (off := ![0, 0]) zero2 inb_S1024x1024_S1024x1024_0_0 _ _

/-- The first tile leaves its own product in the running sum. -/
theorem runA_acc (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (T0 : (S16.Idx → Elt Ideal .i32)) (T1 : (S1.Idx → Elt Ideal .i32))
     (x0 : (S1024x1024.Idx → Elt Ideal .f32)) (x1 : (S1x1024x256.Idx → Elt Ideal .f32)) (x2 : (S1x1024x256.Idx → Elt Ideal .f32)) (x3 : (S1x256x1024.Idx → Elt Ideal .f32)) (x4 : (S1x1024.Idx → Elt Ideal .f32)) (x5 : (S1x1024.Idx → Elt Ideal .f32)) (hc0 : (Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    (kernelRun0_A c i arg4 harg4 arg5 harg5 arg6 harg6 arg7 harg7 arg8 harg8 arg9 harg9 arg10 harg10 T0 T1 x0 x1 x2 x3 x4 x5 hc0 hc1 k0_h3 k0_h4).2.1 = k0_pay3 (F := Ideal) (k0_pay1 x0) x1 x2 (k0_pay2 (F := Ideal)) x3 := by
  unfold kernelRun0_A
  dsimp only
  sl_unfold_words
  rw [readAt_rep _ x1 zero3, readAt_rep _ x2 zero3, readAt_rep _ x3 zero3, readAt_rep _ x0 zero2, readCov_store _ zero2 zero2, readCov_store _ zero2 zero2]
  exact writes_whole (Val := Elt Ideal) cc0_scratch1 _ (off := ![0, 0]) zero2 inb_S1024x1024_S1024x1024_0_0 _ _

/-- A later tile adds its product to the running sum. -/
theorem runB_acc (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (T0 : (S16.Idx → Elt Ideal .i32)) (T1 : (S1.Idx → Elt Ideal .i32))
     (x0 : (S1024x1024.Idx → Elt Ideal .f32)) (x1 : (S1x1024x256.Idx → Elt Ideal .f32)) (x2 : (S1x1024x256.Idx → Elt Ideal .f32)) (x3 : (S1x256x1024.Idx → Elt Ideal .f32)) (x4 : (S1x1024.Idx → Elt Ideal .f32)) (x5 : (S1x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1)) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    (kernelRun0_B c i arg4 harg4 arg5 harg5 arg6 harg6 arg7 harg7 arg8 harg8 arg9 harg9 arg10 harg10 T0 T1 x0 x1 x2 x3 x4 x5 xa0 xa1 hc0 hc1 k0_h3 k0_h4).2.1 = k0_pay3 xa0 x1 x2 xa1 x3 := by
  unfold kernelRun0_B
  dsimp only
  sl_unfold_words
  rw [readAt_rep _ x1 zero3, readAt_rep _ x2 zero3, readAt_rep _ x3 zero3, readAt_all _ _ zero2, readAt_all _ _ zero2]
  exact writes_whole (Val := Elt Ideal) cc0_scratch1 _ (off := ![0, 0]) zero2 inb_S1024x1024_S1024x1024_0_0 _ _

/-- A later tile leaves the rows it was given. -/
theorem runB_x (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (T0 : (S16.Idx → Elt Ideal .i32)) (T1 : (S1.Idx → Elt Ideal .i32))
     (x0 : (S1024x1024.Idx → Elt Ideal .f32)) (x1 : (S1x1024x256.Idx → Elt Ideal .f32)) (x2 : (S1x1024x256.Idx → Elt Ideal .f32)) (x3 : (S1x256x1024.Idx → Elt Ideal .f32)) (x4 : (S1x1024.Idx → Elt Ideal .f32)) (x5 : (S1x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1)) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    (kernelRun0_B c i arg4 harg4 arg5 harg5 arg6 harg6 arg7 harg7 arg8 harg8 arg9 harg9 arg10 harg10 T0 T1 x0 x1 x2 x3 x4 x5 xa0 xa1 hc0 hc1 k0_h3 k0_h4).1 = xa0 := by
  unfold kernelRun0_B
  dsimp only

/-- The last tile writes the layer norm of the rows and the running sum, its own product added. -/
theorem runC_out (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (T0 : (S16.Idx → Elt Ideal .i32)) (T1 : (S1.Idx → Elt Ideal .i32))
     (x0 : (S1024x1024.Idx → Elt Ideal .f32)) (x1 : (S1x1024x256.Idx → Elt Ideal .f32)) (x2 : (S1x1024x256.Idx → Elt Ideal .f32)) (x3 : (S1x256x1024.Idx → Elt Ideal .f32)) (x4 : (S1x1024.Idx → Elt Ideal .f32)) (x5 : (S1x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1)) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : k0_cond3 i (View.readAt (Elt Ideal) (tbM0_1).view (Rect.unit (s := S1) ![0] S1.size inb_S1_S1_0).toLoadRect T1 (Shape.Idx.first (numel1_S1.symm ▸ Nat.one_pos))) = 1#1) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    out0_C_6 c i arg4 harg4 arg5 harg5 arg6 harg6 arg7 harg7 arg8 harg8 arg9 harg9 arg10 harg10 T0 T1 x0 x1 x2 x3 x4 x5 xa0 xa1 hc0 hc1 k0_h3 k0_h4 = k0_pay4 x0 (k0_pay3 xa0 x1 x2 xa1 x3) x4 x5 := by
  unfold out0_C_6
  unfold kernelRun0_C
  dsimp only
  sl_unfold_words
  rw [readAt_rep _ x1 zero3, readAt_rep _ x2 zero3, readAt_rep _ x3 zero3, readAt_rep _ x0 zero2, readAt_rep _ x4 zero2, readAt_rep _ x5 zero2, readAt_all _ _ zero2, readAt_all _ _ zero2, readCov_store _ zero2 zero2]
  exact read_store _ _ zero2 _ _ _

end Cert.DenseIdeal.Step

end
-- ==== Proof.DenseIdealValue.lean ====
/-
  What the dense call computes at exact values: the running sum at every grid point, the array the run ends with, and
  that it is the mathematics' — each block of rows through the layer's SwiGLU, added to the scaled rows, layer-normed.
-/
module

public import proofs.«01_k».proof.Proof.DenseRefStages
public import proofs.«01_k».proof.Proof.DenseIdealStep
public import proofs.«01_k».proof.Proof.Gen.DenseIdeal.Flash
public import Idealize.ShloMosaic.Lib.Pipeline.ValueKit
public import Idealize.ShloMosaic.Lib.Pointwise

@[expose] public section

set_option maxRecDepth 16384

noncomputable section

namespace Cert.DenseIdeal.Tables

open Cert.DenseIdeal
open Cert.DenseIdeal.Gen
open Idealize.ShloMosaic
open Idealize.ShloMosaic.TcCoe Idealize.ShloMosaic.Tactic
open Idealize.ShloMosaic.Pipeline (Dat Cfg Window)
open Cert.DenseIdeal.Step
open Cert.DenseRefIdeal.Stages (mu lnorm)

/-! ## The payloads at an index -/

theorem two (y : S1024x1024.Idx) : ∃ r n : Fin 1024, y = ix2 r n := ⟨y 0, y 1, funext fun a => match a with | ⟨0, _⟩ => rfl | ⟨1, _⟩ => rfl⟩

theorem pay1 (x : Vec Ideal S1024x1024 .f32) : k0_pay1 (F := Ideal) x = x := by
  funext y
  obtain ⟨r, n, rfl⟩ := two y
  pointwise [k0_pay1]

theorem pay2 (r n : Fin 1024) : k0_pay2 (F := Ideal) (ix2 r n) = 0 := by
  pointwise [k0_pay2]

theorem pay3 (x : Vec Ideal S1024x1024 .bf16) (g u : Vec Ideal S1x1024x256 .f32) (a : Vec Ideal S1024x1024 .f32) (d : Vec Ideal S1x256x1024 .f32) (r n : Fin 1024) :
    k0_pay3 (F := Ideal) x g u a d (ix2 r n) = a (ix2 r n) + ∑ h : Fin 256,
      (∑ k : Fin 1024, x (ix2 r k) * g (ix3 0 k h)) * Ideal.logistic (∑ k : Fin 1024, x (ix2 r k) * g (ix3 0 k h))
        * (∑ k : Fin 1024, x (ix2 r k) * u (ix3 0 k h)) * d (ix3 0 h n) := by
  pointwise [k0_pay3]

theorem pay4 (x a : Vec Ideal S1024x1024 .f32) (g b : Vec Ideal S1x1024 .f32) (r n : Fin 1024) :
    k0_pay4 (F := Ideal) x a g b (ix2 r n) = lnorm (fun k => Ideal.ofBits .f32 0x3FD744FD#32 * x (ix2 r k) + a (ix2 r k)) (g (ix2 0 n)) (b (ix2 0 n)) n := by
  pointwise [k0_pay4]
  rfl

/-! ## A sum by tiles -/

/-- A sum of 256 terms at a time. -/
theorem sum_tiles (T : ℕ → EReal) (a : ℕ) : ∑ f ∈ Finset.range (256 * a), T f = ∑ j ∈ Finset.range a, ∑ h : Fin 256, T (256 * j + h.val) := by
  induction a with
  | zero => rfl
  | succ a ih =>
    rw [Finset.sum_range_succ (fun j => ∑ h : Fin 256, T (256 * j + h.val)) a, Nat.mul_succ, Finset.sum_range_add, ih, Finset.sum_range (fun x => T (256 * a + x))]

/-! ## The path of a grid point, and the blocks there -/

variable (ch : Fin 2) (m : (ℓ : Loc nD τ sig) → Buf (Elt Ideal) ℓ) (ρ : Dev nD → PrngReg)

/-- A grid point's block of rows and tile. -/
theorem crd_eq : ∀ t : Fin grid0.N, (grid0.coords t 0).val = t.val / 11 ∧ (grid0.coords t 1).val = t.val % 11 := by
  decide +kernel

/-- The output's block is written back exactly at a block of rows' last tile. -/
theorem flush_eq (t : Fin (cfgA ch).N) : ((cfgA ch).win (6 : Fin 7)).flush t = decide (t.val % 11 = 10) :=
  (show ((cfgA ch).win (6 : Fin 7)).flush t = Pipeline.Window.flushOf grid0 true cc0_transform_6 t from rfl).trans ((by decide +kernel : ∀ t : Fin grid0.N, Pipeline.Window.flushOf grid0 true cc0_transform_6 t = decide (t.val % 11 = 10)) t)

/-- Every block of rows is used. -/
theorem slt_eq : ∀ i : Fin 16, Scalar.cmpi .slt (BitVec.ofNat 32 i.val) 16#32 = 1#1 := by decide +kernel
/-- A tile is the first one. -/
theorem eq0_eq : ∀ j : Fin 11, Scalar.cmpi .eq (BitVec.ofNat 32 j.val) 0#32 = BitVec.ofBool (decide (j.val = 0)) := by decide +kernel
/-- A tile is the last one. -/
theorem eq10_eq : ∀ j : Fin 11, Scalar.cmpi .eq (BitVec.ofNat 32 j.val) 10#32 = BitVec.ofBool (decide (j.val = 10)) := by decide +kernel

theorem word_eq : View.readAt (Elt Ideal) (tbM0_1).view (Rect.unit (s := S1) ![0] S1.size inb_S1_S1_0).toLoadRect (pinT_1 ch) (Shape.Idx.first (numel1_S1.symm ▸ Nat.one_pos)) = 16#32 := rfl

theorem P0_0_iff (t : Fin (cfgA ch).N) : P0_0 ch t ↔ t.val % 11 = 0 := by
  have ht : t.val < 176 := lt_of_lt_of_eq t.isLt (by decide +kernel : grid0.N = 176)
  obtain ⟨h0, h1⟩ := crd_eq t
  unfold P0_0; rw [word_eq ch]; rw [show ((crd ch t) 0).val = t.val / 11 from h0, show ((crd ch t) 1).val = t.val % 11 from h1, slt_eq ⟨t.val / 11, by omega⟩, eq0_eq ⟨t.val % 11, by omega⟩]
  by_cases b : t.val % 11 = 0 <;> simp [b] <;> decide

theorem P0_1_iff (t : Fin (cfgA ch).N) : P0_1 ch t ↔ t.val % 11 = 10 := by
  have ht : t.val < 176 := lt_of_lt_of_eq t.isLt (by decide +kernel : grid0.N = 176)
  obtain ⟨h0, h1⟩ := crd_eq t
  unfold P0_1 k0_cond3; rw [word_eq ch]; dsimp only; rw [show ((crd ch t) 0).val = t.val / 11 from h0, show ((crd ch t) 1).val = t.val % 11 from h1, slt_eq ⟨t.val / 11, by omega⟩, eq10_eq ⟨t.val % 11, by omega⟩]
  by_cases b : t.val % 11 = 10 <;> simp [b] <;> decide

/-! The blocks the index maps name. -/

theorem tr0 : ∀ i : grid0.Coords, cc0_transform_0 i = ![(i 0).val, 0] := by decide +kernel
theorem tr4 : ∀ i : grid0.Coords, cc0_transform_4 i = ![0, 0] := by decide +kernel
theorem tr5 : ∀ i : grid0.Coords, cc0_transform_5 i = ![0, 0] := by decide +kernel
theorem tr6 : ∀ i : grid0.Coords, cc0_transform_6 i = ![(i 0).val, 0] := by decide +kernel

/-- The weights' index maps name the layer and the tile. -/
theorem tr1 : ∀ (ch : Fin 2) (i : grid0.Coords),
    cc0_transform_1 k0_off1_inb numel1_S1 inb_S1_S1_0 (pfN ch) i = ![ch.val, 0, (i 1).val]
    ∧ cc0_transform_2 k0_off1_inb numel1_S1 inb_S1_S1_0 (pfN ch) i = ![ch.val, 0, (i 1).val]
    ∧ cc0_transform_3 k0_off1_inb numel1_S1 inb_S1_S1_0 (pfN ch) i = ![ch.val, (i 1).val, 0] := by decide +kernel

/-- The array's row that a block's row is. -/
def rowOf (b : Fin 16) (r : Fin 1024) : Fin 16384 := ⟨b.val * 1024 + r.val, by omega⟩
/-- The hidden column that a tile's column is. -/
def colOf (j : Fin 11) (h : Fin 256) : Fin 2816 := ⟨j.val * 256 + h.val, by omega⟩

/-- An argument of the run. -/
abbrev aX (c : Dev nD) : FVec Ideal S16384x1024 .f32 := m ((c : Thread nD τ).loc main_arg2)
/-- An argument of the run. -/
abbrev aG (c : Dev nD) : FVec Ideal S2x1024x2816 .f32 := m ((c : Thread nD τ).loc main_arg3)
/-- An argument of the run. -/
abbrev aU (c : Dev nD) : FVec Ideal S2x1024x2816 .f32 := m ((c : Thread nD τ).loc main_arg4)
/-- An argument of the run. -/
abbrev aP (c : Dev nD) : FVec Ideal S1x1024 .f32 := m ((c : Thread nD τ).loc main_arg6)
/-- An argument of the run. -/
abbrev aQ (c : Dev nD) : FVec Ideal S1x1024 .f32 := m ((c : Thread nD τ).loc main_arg7)
/-- An argument of the run. -/
abbrev aD (c : Dev nD) : FVec Ideal S2x2816x1024 .f32 := m ((c : Thread nD τ).loc main_arg5)

/-- The block of rows. -/
def xb (c : Dev nD) (b : Fin 16) : S1024x1024.Idx → EReal := fun y => aX m c (ix2 (rowOf b (y 0)) (y 1))

theorem iblk_0 (c : Dev nD) (t : Fin (cfgA ch).N) : iblk ch m ρ c (0 : Fin 7) t = xb m c (crd ch t 0) := by
  funext y
  refine congrArg (aX m c) (funext fun a => Fin.ext ?_)
  match a with
  | ⟨0, _⟩ =>
    show cc0_transform_0 (crd ch t) 0 * 1024 + 1 * (y 0).val = (crd ch t 0).val * 1024 + (y 0).val
    rw [tr0]; show (crd ch t 0).val * 1024 + _ = _; omega
  | ⟨1, _⟩ =>
    show cc0_transform_0 (crd ch t) 1 * 1024 + 1 * (y 1).val = (y 1).val
    rw [tr0]; show 0 * 1024 + _ = _; omega

theorem iblk_4 (c : Dev nD) (t : Fin (cfgA ch).N) : iblk ch m ρ c (4 : Fin 7) t = aP m c := by
  funext y
  refine congrArg (aP m c) (funext fun a => Fin.ext ?_)
  match a with
  | ⟨0, _⟩ =>
    show cc0_transform_4 (crd ch t) 0 * 1 + 1 * (y 0).val = (y 0).val
    rw [tr4]; show 0 * 1 + _ = _; omega
  | ⟨1, _⟩ =>
    show cc0_transform_4 (crd ch t) 1 * 1024 + 1 * (y 1).val = (y 1).val
    rw [tr4]; show 0 * 1024 + _ = _; omega

theorem iblk_5 (c : Dev nD) (t : Fin (cfgA ch).N) : iblk ch m ρ c (5 : Fin 7) t = aQ m c := by
  funext y
  refine congrArg (aQ m c) (funext fun a => Fin.ext ?_)
  match a with
  | ⟨0, _⟩ =>
    show cc0_transform_5 (crd ch t) 0 * 1 + 1 * (y 0).val = (y 0).val
    rw [tr5]; show 0 * 1 + _ = _; omega
  | ⟨1, _⟩ =>
    show cc0_transform_5 (crd ch t) 1 * 1024 + 1 * (y 1).val = (y 1).val
    rw [tr5]; show 0 * 1024 + _ = _; omega

theorem iblk_1 (c : Dev nD) (t : Fin (cfgA ch).N) (k : Fin 1024) (h : Fin 256) :
    iblk ch m ρ c (1 : Fin 7) t (ix3 0 k h) = aG m c (ix3 ch k (colOf (crd ch t 1) h)) := by
  have E := (tr1 ch (crd ch t)).1
  refine congrArg (aG m c) (funext fun a => Fin.ext ?_)
  match a with
  | ⟨0, _⟩ => show cc0_transform_1 k0_off1_inb numel1_S1 inb_S1_S1_0 (pfN ch) (crd ch t) 0 * 1 + 1 * 0 = ch.val; rw [E]; show ch.val * 1 + 1 * 0 = _; omega
  | ⟨1, _⟩ => show cc0_transform_1 k0_off1_inb numel1_S1 inb_S1_S1_0 (pfN ch) (crd ch t) 1 * 1024 + 1 * k.val = k.val; rw [E]; show 0 * 1024 + 1 * k.val = _; omega
  | ⟨2, _⟩ => show cc0_transform_1 k0_off1_inb numel1_S1 inb_S1_S1_0 (pfN ch) (crd ch t) 2 * 256 + 1 * h.val = (crd ch t 1).val * 256 + h.val; rw [E]; show (crd ch t 1).val * 256 + 1 * h.val = _; omega

theorem iblk_2 (c : Dev nD) (t : Fin (cfgA ch).N) (k : Fin 1024) (h : Fin 256) :
    iblk ch m ρ c (2 : Fin 7) t (ix3 0 k h) = aU m c (ix3 ch k (colOf (crd ch t 1) h)) := by
  have E := (tr1 ch (crd ch t)).2.1
  refine congrArg (aU m c) (funext fun a => Fin.ext ?_)
  match a with
  | ⟨0, _⟩ => show cc0_transform_2 k0_off1_inb numel1_S1 inb_S1_S1_0 (pfN ch) (crd ch t) 0 * 1 + 1 * 0 = ch.val; rw [E]; show ch.val * 1 + 1 * 0 = _; omega
  | ⟨1, _⟩ => show cc0_transform_2 k0_off1_inb numel1_S1 inb_S1_S1_0 (pfN ch) (crd ch t) 1 * 1024 + 1 * k.val = k.val; rw [E]; show 0 * 1024 + 1 * k.val = _; omega
  | ⟨2, _⟩ => show cc0_transform_2 k0_off1_inb numel1_S1 inb_S1_S1_0 (pfN ch) (crd ch t) 2 * 256 + 1 * h.val = (crd ch t 1).val * 256 + h.val; rw [E]; show (crd ch t 1).val * 256 + 1 * h.val = _; omega

theorem iblk_3 (c : Dev nD) (t : Fin (cfgA ch).N) (h : Fin 256) (k : Fin 1024) :
    iblk ch m ρ c (3 : Fin 7) t (ix3 0 h k) = aD m c (ix3 ch (colOf (crd ch t 1) h) k) := by
  have E := (tr1 ch (crd ch t)).2.2
  refine congrArg (aD m c) (funext fun a => Fin.ext ?_)
  match a with
  | ⟨0, _⟩ => show cc0_transform_3 k0_off1_inb numel1_S1 inb_S1_S1_0 (pfN ch) (crd ch t) 0 * 1 + 1 * 0 = ch.val; rw [E]; show ch.val * 1 + 1 * 0 = _; omega
  | ⟨1, _⟩ => show cc0_transform_3 k0_off1_inb numel1_S1 inb_S1_S1_0 (pfN ch) (crd ch t) 1 * 256 + 1 * h.val = (crd ch t 1).val * 256 + h.val; rw [E]; show (crd ch t 1).val * 256 + 1 * h.val = _; omega
  | ⟨2, _⟩ => show cc0_transform_3 k0_off1_inb numel1_S1 inb_S1_S1_0 (pfN ch) (crd ch t) 2 * 1024 + 1 * k.val = k.val; rw [E]; show 0 * 1024 + 1 * k.val = _; omega

/-! ## The running sum -/

/-- One hidden column's part of one value of block `b`'s rows. -/
def term (c : Dev nD) (b : Fin 16) (r k : Fin 1024) (f : Fin 2816) : EReal :=
  (∑ i : Fin 1024, aX m c (ix2 (rowOf b r) i) * aG m c (ix3 ch i f))
    * Ideal.logistic (∑ i : Fin 1024, aX m c (ix2 (rowOf b r) i) * aG m c (ix3 ch i f))
    * (∑ i : Fin 1024, aX m c (ix2 (rowOf b r) i) * aU m c (ix3 ch i f))
    * aD m c (ix3 ch f k)

/-- The same at any number, nothing past the last column. -/
def termN (c : Dev nD) (b : Fin 16) (r k : Fin 1024) (f : ℕ) : EReal := if h : f < 2816 then term ch m c b r k ⟨f, h⟩ else 0

/-- A grid point adds its tile's columns. -/
theorem add_tile (c : Dev nD) (t : Fin (cfgA ch).N) (a : Vec Ideal S1024x1024 .f32) (r k : Fin 1024) :
    k0_pay3 (F := Ideal) (xb m c (crd ch t 0)) (iblk ch m ρ c (1 : Fin 7) t) (iblk ch m ρ c (2 : Fin 7) t) a (iblk ch m ρ c (3 : Fin 7) t) (ix2 r k)
      = a (ix2 r k) + ∑ h : Fin 256, termN ch m c (crd ch t 0) r k (256 * (crd ch t 1).val + h.val) := by
  rw [pay3]
  refine congrArg (a (ix2 r k) + ·) (Finset.sum_congr rfl fun h _ => ?_)
  have hc : 256 * (crd ch t 1).val + h.val < 2816 := by have : (crd ch t 1).val < 11 := (crd ch t 1).isLt; omega
  have hcol : (⟨256 * (crd ch t 1).val + h.val, hc⟩ : Fin 2816) = colOf (crd ch t 1) h := Fin.ext (by simp only [colOf]; omega)
  have g1 := fun i => iblk_1 ch m ρ c t i h
  have g2 := fun i => iblk_2 ch m ρ c t i h
  have g3 := iblk_3 ch m ρ c t h k
  unfold termN
  rw [dif_pos hc, hcol]
  unfold term
  simp only [g1, g2, g3]
  rfl

theorem crd0 (t : Fin (cfgA ch).N) : (crd ch t 0).val = t.val / 11 := (crd_eq t).1
theorem crd1 (t : Fin (cfgA ch).N) : (crd ch t 1).val = t.val % 11 := (crd_eq t).2

/-- What the output block and the scratches hold at a point. -/
abbrev St (c : Dev nD) : Type := (S1024x1024.Idx → Elt Ideal .f32) × Buf (Elt Ideal) ((c : Thread nD τ).loc cc0_scratch0) × Buf (Elt Ideal) ((c : Thread nD τ).loc cc0_scratch1)

/-- The running sum at an element. -/
abbrev acc {c : Dev nD} (s : St c) (r k : Fin 1024) : EReal := s.2.2 (ix2 r k)

/-- A block's first tile. -/
theorem first (c : Dev nD) (t : Fin (cfgA ch).N) (prev : St c) (hj : t.val % 11 = 0) :
    (step0 ch m ρ c t prev).2.1 = xb m c (crd ch t 0)
    ∧ ∀ r k : Fin 1024, acc (step0 ch m ρ c t prev) r k = ∑ h : Fin 256, termN ch m c (crd ch t 0) r k (256 * (t.val % 11) + h.val) := by
  have q0 : P0_0 ch t := (P0_0_iff ch t).2 hj
  have ex : k0_pay1 (F := Ideal) (iblk ch m ρ c (0 : Fin 7) t) = xb m c (crd ch t 0) := (pay1 _).trans (iblk_0 ch m ρ c t)
  have ea := congrArg (fun z => k0_pay3 (F := Ideal) z (iblk ch m ρ c (1 : Fin 7) t) (iblk ch m ρ c (2 : Fin 7) t) (k0_pay2 (F := Ideal)) (iblk ch m ρ c (3 : Fin 7) t)) ex
  have st := step0_A ch m ρ c t prev q0
  have s1 : (step0 ch m ρ c t prev).2.1 = _ := congrArg (fun s : St c => s.2.1) st
  dsimp only at s1
  have s2 : (step0 ch m ρ c t prev).2.2 = _ := congrArg (fun s : St c => s.2.2) st
  dsimp only at s2
  refine ⟨(s1.trans (runA_x ..)).trans ex, fun r k => (congrFun ((s2.trans (runA_acc ..)).trans ea) (ix2 r k)).trans ?_⟩
  beta_reduce
  rw [add_tile ch m ρ c t, pay2, zero_add, crd1]

/-- A block's later tile but the last. -/
theorem later (c : Dev nD) (t : Fin (cfgA ch).N) (prev : St c) (hj : t.val % 11 ≠ 0) (hl : t.val % 11 ≠ 10) (hx : prev.2.1 = xb m c (crd ch t 0)) :
    (step0 ch m ρ c t prev).2.1 = xb m c (crd ch t 0)
    ∧ ∀ r k : Fin 1024, acc (step0 ch m ρ c t prev) r k = acc prev r k + ∑ h : Fin 256, termN ch m c (crd ch t 0) r k (256 * (t.val % 11) + h.val) := by
  have q0 : ¬ P0_0 ch t := fun h => hj ((P0_0_iff ch t).1 h)
  have q1 : ¬ P0_1 ch t := fun h => hl ((P0_1_iff ch t).1 h)
  have ea := congrArg (fun z => k0_pay3 (F := Ideal) z (iblk ch m ρ c (1 : Fin 7) t) (iblk ch m ρ c (2 : Fin 7) t) prev.2.2 (iblk ch m ρ c (3 : Fin 7) t)) hx
  have st := step0_B ch m ρ c t prev q0 q1
  have s1 : (step0 ch m ρ c t prev).2.1 = _ := congrArg (fun s : St c => s.2.1) st
  dsimp only at s1
  have s2 : (step0 ch m ρ c t prev).2.2 = _ := congrArg (fun s : St c => s.2.2) st
  dsimp only at s2
  refine ⟨(s1.trans (runB_x ..)).trans hx, fun r k => (congrFun ((s2.trans (runB_acc ..)).trans ea) (ix2 r k)).trans ?_⟩
  beta_reduce
  rw [add_tile ch m ρ c t, crd1]

/-- A block's rows, scaled, and their running sum. -/
def zrow (c : Dev nD) (b : Fin 16) (T : Fin 1024 → EReal) (r : Fin 1024) : Fin 1024 → EReal := fun k => Ideal.ofBits .f32 0x3FD744FD#32 * aX m c (ix2 (rowOf b r) k) + T k

/-- A block's last tile. -/
theorem last (c : Dev nD) (t : Fin (cfgA ch).N) (prev : St c) (hl : t.val % 11 = 10) (hx : prev.2.1 = xb m c (crd ch t 0)) (r k : Fin 1024) :
    (step0 ch m ρ c t prev).1 (ix2 r k) = lnorm (zrow m c (crd ch t 0) (fun k => acc prev r k + ∑ h : Fin 256, termN ch m c (crd ch t 0) r k (256 * (t.val % 11) + h.val)) r) (aP m c (ix2 0 k)) (aQ m c (ix2 0 k)) k := by
  have q0 : ¬ P0_0 ch t := fun h => by have := (P0_0_iff ch t).1 h; omega
  have q1 : P0_1 ch t := (P0_1_iff ch t).2 hl
  have ea := congrArg (fun z => k0_pay4 (F := Ideal) (iblk ch m ρ c (0 : Fin 7) t) (k0_pay3 (F := Ideal) z (iblk ch m ρ c (1 : Fin 7) t) (iblk ch m ρ c (2 : Fin 7) t) prev.2.2 (iblk ch m ρ c (3 : Fin 7) t)) (iblk ch m ρ c (4 : Fin 7) t) (iblk ch m ρ c (5 : Fin 7) t)) hx
  have st := step0_C ch m ρ c t prev q0 q1
  have s1 : (step0 ch m ρ c t prev).1 = _ := congrArg (fun s : St c => s.1) st
  dsimp only at s1
  refine (congrFun ((s1.trans (runC_out ..)).trans ea) (ix2 r k)).trans ?_
  beta_reduce
  rw [pay4, iblk_4, iblk_5, iblk_0]
  refine congrArg (fun z => lnorm z (aP m c (ix2 0 k)) (aQ m c (ix2 0 k)) k) (funext fun i => ?_)
  rw [add_tile ch m ρ c t, crd1]
  rfl

theorem crd_same (q : ℕ) (hq : q + 1 < (cfgA ch).N) (h : (q + 1) % 11 ≠ 0) : crd ch ⟨q + 1, hq⟩ 0 = crd ch ⟨q, Nat.lt_of_succ_lt hq⟩ 0 :=
  Fin.ext (by rw [crd0, crd0]; show (q + 1) / 11 = q / 11; omega)

/-- Up to a block's last tile but one, the first scratch holds the rows and the second the sum of the tiles so far. -/
theorem running (c : Dev nD) : ∀ (q : ℕ) (hq : q < (cfgA ch).N), q % 11 ≤ 9 →
    (traj0 ch m ρ c q hq).2.1 = xb m c (crd ch ⟨q, hq⟩ 0)
    ∧ ∀ r k : Fin 1024, acc (traj0 ch m ρ c q hq) r k = ∑ j ∈ Finset.range (q % 11 + 1), ∑ h : Fin 256, termN ch m c (crd ch ⟨q, hq⟩ 0) r k (256 * j + h.val) := by
  intro q
  induction q with
  | zero =>
    intro hq hj
    obtain ⟨f1, f2⟩ := first ch m ρ c ⟨0, hq⟩ (default, default, default) rfl
    refine ⟨f1, fun r k => (f2 r k).trans ?_⟩
    exact (Finset.sum_range_one fun j => ∑ h : Fin 256, termN ch m c (crd ch ⟨0, hq⟩ 0) r k (256 * j + h.val)).symm
  | succ q ih =>
    intro hq hj
    by_cases hz : (q + 1) % 11 = 0
    · obtain ⟨f1, f2⟩ := first ch m ρ c ⟨q + 1, hq⟩ (traj0 ch m ρ c q (Nat.lt_of_succ_lt hq)) hz
      refine ⟨f1, fun r k => (f2 r k).trans ?_⟩
      show ∑ h : Fin 256, termN ch m c (crd ch ⟨q + 1, hq⟩ 0) r k (256 * ((q + 1) % 11) + h.val) = _
      rw [hz]
      exact (Finset.sum_range_one fun j => ∑ h : Fin 256, termN ch m c (crd ch ⟨q + 1, hq⟩ 0) r k (256 * j + h.val)).symm
    · obtain ⟨g1, g2⟩ := ih (Nat.lt_of_succ_lt hq) (by omega)
      rw [← crd_same ch q hq hz] at g1 g2
      obtain ⟨f1, f2⟩ := later ch m ρ c ⟨q + 1, hq⟩ (traj0 ch m ρ c q (Nat.lt_of_succ_lt hq)) hz (by show (q + 1) % 11 ≠ 10; omega) g1
      refine ⟨f1, fun r k => (f2 r k).trans ?_⟩
      rw [g2]
      show _ + ∑ h : Fin 256, termN ch m c (crd ch ⟨q + 1, hq⟩ 0) r k (256 * ((q + 1) % 11) + h.val) = _
      have hs : (q + 1) % 11 = q % 11 + 1 := by omega
      rw [hs]
      exact (Finset.sum_range_succ (fun j => ∑ h : Fin 256, termN ch m c (crd ch ⟨q + 1, hq⟩ 0) r k (256 * j + h.val)) (q % 11 + 1)).symm

/-- A block's output: the layer norm of the scaled rows and the sum over every hidden column. -/
theorem out (c : Dev nD) (q : ℕ) (hq : q < (cfgA ch).N) (hl : q % 11 = 10) (r k : Fin 1024) :
    (traj0 ch m ρ c q hq).1 (ix2 r k) = lnorm (zrow m c (crd ch ⟨q, hq⟩ 0) (fun k => ∑ f : Fin 2816, term ch m c (crd ch ⟨q, hq⟩ 0) r k f) r) (aP m c (ix2 0 k)) (aQ m c (ix2 0 k)) k := by
  obtain ⟨p, rfl⟩ : ∃ p, q = p + 1 := ⟨q - 1, by omega⟩
  obtain ⟨g1, g2⟩ := running ch m ρ c p (Nat.lt_of_succ_lt hq) (by omega)
  rw [← crd_same ch p hq (by omega)] at g1 g2
  refine (last ch m ρ c ⟨p + 1, hq⟩ (traj0 ch m ρ c p (Nat.lt_of_succ_lt hq)) hl g1 r k).trans ?_
  refine congrArg (fun T => lnorm (zrow m c (crd ch ⟨p + 1, hq⟩ 0) T r) (aP m c (ix2 0 k)) (aQ m c (ix2 0 k)) k) (funext fun i => ?_)
  rw [g2]
  show _ + ∑ h : Fin 256, termN ch m c (crd ch ⟨p + 1, hq⟩ 0) r i (256 * ((p + 1) % 11) + h.val) = _
  have hs : p % 11 = 9 := by omega
  rw [hl, hs]
  refine (Finset.sum_range_succ (fun j => ∑ h : Fin 256, termN ch m c (crd ch ⟨p + 1, hq⟩ 0) r i (256 * j + h.val)) 10).symm.trans ?_
  refine (sum_tiles (termN ch m c (crd ch ⟨p + 1, hq⟩ 0) r i) 11).symm.trans ?_
  rw [show 256 * 11 = 2816 from rfl, Finset.sum_range]
  exact Finset.sum_congr rfl fun f _ => dif_pos f.isLt

/-! ## The array -/

/-- An element's place in the output's blocks. -/
theorem emb6 (t : Fin (cfgA ch).N) (r k : Fin 1024) : ((((cfgA ch).win (6 : Fin 7)).blk t).view.emb (ix2 r k) : S16384x1024.Idx) = ix2 (rowOf (crd ch t 0) r) k := by
  refine funext fun a => Fin.ext ?_
  match a with
  | ⟨0, _⟩ =>
    show cc0_transform_6 (crd ch t) 0 * 1024 + 1 * r.val = (crd ch t 0).val * 1024 + r.val
    rw [tr6]; show (crd ch t 0).val * 1024 + _ = _; omega
  | ⟨1, _⟩ =>
    show cc0_transform_6 (crd ch t) 1 * 1024 + 1 * k.val = k.val
    rw [tr6]; show 0 * 1024 + _ = _; omega

/-- Every element lies in a block written back. -/
theorem cover (i : S16384x1024.Idx) : ∃ t : Fin (cfgA ch).N, ((cfgA ch).win (6 : Fin 7)).flush t = true ∧ i ∈ (((cfgA ch).win (6 : Fin 7)).blk t).view.set := by
  obtain ⟨R, k, rfl⟩ : ∃ (R : Fin 16384) (k : Fin 1024), i = ix2 R k := ⟨i 0, i 1, funext fun a => match a with | ⟨0, _⟩ => rfl | ⟨1, _⟩ => rfl⟩
  have hN : 11 * (R.val / 1024) + 10 < (cfgA ch).N := lt_of_lt_of_eq (show 11 * (R.val / 1024) + 10 < 176 by omega) (by decide +kernel : 176 = grid0.N)
  refine ⟨⟨11 * (R.val / 1024) + 10, hN⟩, ?_, Finset.mem_map.2 ⟨ix2 ⟨R.val % 1024, by omega⟩ k, Finset.mem_univ _, ?_⟩⟩
  · rw [flush_eq]; exact decide_eq_true (by show (11 * (R.val / 1024) + 10) % 11 = 10; omega)
  · rw [emb6]
    refine congrArg (fun q : Fin 16384 => (ix2 q k : S16384x1024.Idx)) (Fin.ext ?_)
    show (crd ch _ 0).val * 1024 + R.val % 1024 = R.val
    rw [crd0]
    show (11 * (R.val / 1024) + 10) / 11 * 1024 + R.val % 1024 = R.val
    omega

/-- The array the run ends with is the mathematics'. -/
theorem final (c : Dev nD) : (dats ch m ρ 0 c).arrAt (6 : Fin 7) (cfgA ch).N = Cert.DenseRefIdeal.Stages.spec ch (aX m c) (aG m c) (aU m c) (aD m c) (aP m c) (aQ m c) := by
  refine (dats ch m ρ 0 c).arrAt_eq_of_emb (6 : Fin 7) _ (fun t hf y => ?_) fun i => ?_
  · obtain ⟨r, k, rfl⟩ := two y
    have hl : t.val % 11 = 10 := of_decide_eq_true ((flush_eq ch t).symm.trans hf)
    show (traj0 ch m ρ c t.val t.isLt).1 (ix2 r k) = Cert.DenseRefIdeal.Stages.spec ch (aX m c) (aG m c) (aU m c) (aD m c) (aP m c) (aQ m c) (((cfgA ch).win (6 : Fin 7)).blk t |>.view.emb (ix2 r k))
    rw [emb6]
    exact out ch m ρ c t.val t.isLt hl r k
  · exact cover ch i

end Cert.DenseIdeal.Tables

end
-- ==== Proof.DenseClaims.lean ====
/-
  The claims about the dense feed-forward layer: the reference's frame and the equality of the two results.
-/
module

public import proofs.«01_k».proof.Proof.DenseIdealPre
public import proofs.«01_k».proof.Proof.DenseIdealValue
public import proofs.«01_k».proof.Proof.DenseRefStages
public import Idealize.ShloMosaic.Adequacy
public import Idealize.ShloMosaic.Init

@[expose] public section

set_option maxRecDepth 16384

noncomputable section

namespace Cert.DenseClaims

open Idealize.ShloMosaic
open Idealize.ShloMosaic.TcCoe
open Cert.DenseIdeal Cert.DenseIdeal.Gen Cert.DenseIdeal.Tables

/-- The reference runs and leaves its arguments and the counters as they were. -/
theorem reference_frame : Cert.quiescent_DenseRefIdeal := fun m ρ _ =>
  (θ_run _ _ _).mono (fun r h => ⟨fun c => (h c).2, Idealize.ShloMosaic.sem_eq_zero_of_no_sems (by decide) r.2⟩)
    (Cert.DenseRefIdeal.Stages.run (F := Ideal) m ρ)

/-- Kernel and reference end with equal results. -/
theorem algebraic : Cert.algebraic_DenseIdeal_DenseRefIdeal := by
  intro m g m' g' hp ha
  obtain ⟨ch, hch⟩ := pinned_of_pre m hp
  refine ⟨fun c => Cert.DenseRefIdeal.Stages.spec ch (aX m c) (aG m c) (aU m c) (aD m c) (aP m c) (aQ m c), ?_, ?_⟩
  · refine (θ_run _ _ _).mono (fun r h c => ⟨?_, h.2.1 c⟩) (θ_run_and (run_main ch m g hch) (claim_frame m g hp))
    exact ((h.1 c).1 6).trans (final ch m g c)
  · refine (θ_run _ _ _).mono (fun r h c => ⟨(h c).1.trans ?_, (h c).2⟩) (Cert.DenseRefIdeal.Stages.run (F := Ideal) m' g')
    obtain ⟨a0, a1, a2, a3, a4, a5, a6, a7⟩ := ha c
    have t0 : (m ((c.tc : Thread nD τ).loc main_arg0) : S16.Idx → BitVec 32) = fun _ => BitVec.ofNat 32 ch.val := hch.1 c
    rw [a0, a2, a3, a4, a5, a6, a7, t0]
    exact Cert.DenseRefIdeal.Stages.whole_eq ch _ _ _ _ _ _

end Cert.DenseClaims

end
-- ==== Proof.ExpertsTables.lean ====
/-
  The run of the experts' call for EVERY table of experts and every number of used blocks (bit-exact instance): the
  schedule's facts proved of the words instead of decided at one table, then the invariant, the body's obligation point
  by point, the launch and the frame, laid out as the generated certificate of one table lays them out.
-/
module

public import proofs.«01_k».proof.Proof.Gen.Experts.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Experts.Tables

open Cert.Experts
open Cert.Experts.Gen hiding pinT_0 pinT_1 pfN Pinned okcons
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Propositions on the machine's state. -/
local notation "𝕄" => MT nD τ sig Unit (Elt Bits) ℕ (UR sig nD τ) ℕ

/-- The tables a launch may hand over: every block of rows at an expert there is, from 1 to 40 blocks used. -/
abbrev Tab := {T : (pcfg0 (F := Bits)).Adm // ∃ n : Fin 40, T.1 1 = fun _ => BitVec.ofNat 32 (n.val + 1)}

variable (ch : Tab)

/-- The table of experts. -/
def pinT_0 (ch : Tab) : S40.Idx → BitVec 32 := ch.1.1 0

/-- The number of used blocks, a one-entry table. -/
def pinT_1 (ch : Tab) : S1.Idx → BitVec 32 := ch.1.1 1

/-- The launch memory holds these tables. -/
def Pinned (m : (ℓ : Loc nD τ sig) → Buf (Elt Bits) ℓ) : Prop :=
  (∀ c : Dev nD, m ((c : Thread nD τ).loc main_arg0) = pinT_0 ch)
  ∧ (∀ c : Dev nD, m ((c : Thread nD τ).loc main_arg1) = pinT_1 ch)

/-- The admissible contents, the pipeline at them (`cfgA ch`: member `ch`'s grid, 440 points), as @main's one. -/
def adm : (pcfg0 (F := Bits)).Adm := ch.1
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1024x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x256x1024 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S1024x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1
abbrev P0_1 (t : Fin (cfgA ch).N) : Prop := (Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1
abbrev P0_2 (t : Fin (cfgA ch).N) : Prop := k0_cond3 (crd ch t) (View.readAt (Elt Bits) (tbM0_1).view (Rect.unit (s := S1) ![0] S1.size inb_S1_S1_0).toLoadRect (pinT_1 ch) (Shape.Idx.first (numel1_S1.symm ▸ Nat.one_pos))) = 1#1
abbrev P0_3 (t : Fin (cfgA ch).N) : Prop := k0_cond4 (crd ch t) (View.readAt (Elt Bits) (tbM0_1).view (Rect.unit (s := S1) ![0] S1.size inb_S1_S1_0).toLoadRect (pinT_1 ch) (Shape.Idx.first (numel1_S1.symm ▸ Nat.one_pos))) = 1#1

/-- Whether scratch 0 (`cc0_scratch0`) holds nothing a point has determined, before position `n`: until a path that stores it
    whole first (A) has run. -/
def sfresh0_0 : ℕ → Bool
  | 0 => true
  | n + 1 => if h : n < (cfgA ch).N then (if P0_0 ch ⟨n, h⟩ then false else (if P0_1 ch ⟨n, h⟩ then (if P0_2 ch ⟨n, h⟩ then sfresh0_0 n else sfresh0_0 n) else (if P0_3 ch ⟨n, h⟩ then sfresh0_0 n else sfresh0_0 n))) else true

/-- Its CLOSED FORM: fresh before position `n` iff no point below `n` covers it — `n` at most member `ch`'s first covering
    point (read off the walk; the recursion's step is decided against it point by point, the recursion never run). -/
def sfirst0_0 (ch : Tab) : ℕ := 0
def sfrTab0_0 : ℕ → Bool := fun n => decide (n ≤ sfirst0_0 ch)

/-- Whether scratch 1 (`cc0_scratch1`) holds nothing a point has determined, before position `n`: until a path that stores it
    whole first (A) has run. -/
def sfresh0_1 : ℕ → Bool
  | 0 => true
  | n + 1 => if h : n < (cfgA ch).N then (if P0_0 ch ⟨n, h⟩ then false else (if P0_1 ch ⟨n, h⟩ then (if P0_2 ch ⟨n, h⟩ then sfresh0_1 n else sfresh0_1 n) else (if P0_3 ch ⟨n, h⟩ then sfresh0_1 n else sfresh0_1 n))) else true

/-- Its CLOSED FORM: fresh before position `n` iff no point below `n` covers it — `n` at most member `ch`'s first covering
    point (read off the walk; the recursion's step is decided against it point by point, the recursion never run). -/
def sfirst0_1 (ch : Tab) : ℕ := 0
def sfrTab0_1 : ℕ → Bool := fun n => decide (n ≤ sfirst0_1 ch)

/-- Whether output 4 holds nothing a point has stored since its last write-back, before each position: only a block of
    rows past the used ones stores it (zeros, at its first tile) before its last tile. -/
def frTab0_4 (ch : Tab) : ℕ → Bool
  | 0 => true
  | n + 1 => !decide ((n + 1) % 11 ≠ 0 ∧ (pinT_1 ch (Shape.Idx.first (numel1_S1.symm ▸ Nat.one_pos))).toNat ≤ (n + 1) / 11)

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Tab) (t : Fin (cfgA ch).N) : Prop :=
  -- sfrTab0_0_step, sfrTab0_1_step, frTab0_4_step, hyps0_A, sched0_A, hyps0_B, sched0_B, hyps0_C, sched0_C, hyps0_D, sched0_D, hyps0_E, sched0_E
  (sfrTab0_0 ch (t.val + 1) = (if P0_0 ch t then false else (if P0_1 ch t then (if P0_2 ch t then sfrTab0_0 ch t.val else sfrTab0_0 ch t.val) else (if P0_3 ch t then sfrTab0_0 ch t.val else sfrTab0_0 ch t.val))))
  ∧ (sfrTab0_1 ch (t.val + 1) = (if P0_0 ch t then false else (if P0_1 ch t then (if P0_2 ch t then sfrTab0_1 ch t.val else sfrTab0_1 ch t.val) else (if P0_3 ch t then sfrTab0_1 ch t.val else sfrTab0_1 ch t.val))))
  ∧ (frTab0_4 ch (t.val + 1) = (((cfgA ch).win (4 : Fin 5)).flush t || ((cfgA ch).idle (4 : Fin 5) ((cfgA ch).grid.coords t) && frTab0_4 ch t.val)))
  ∧ (P0_0 ch t → ((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1) ∧ (((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))
  ∧ (P0_0 ch t → (cfgA ch).idle (4 : Fin 5) ((cfgA ch).grid.coords t) = true ∧ ((cfgA ch).win (4 : Fin 5)).flush t = false ∧ frTab0_4 ch t.val = true ∧ sfrTab0_0 ch (t.val + 1) = false ∧ sfrTab0_1 ch (t.val + 1) = false)
  ∧ (¬P0_0 ch t → P0_1 ch t → ¬P0_2 ch t → (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))
  ∧ (¬P0_0 ch t → P0_1 ch t → ¬P0_2 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → P0_1 ch t → P0_2 ch t → (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))
  ∧ (¬P0_0 ch t → P0_1 ch t → P0_2 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → ¬P0_1 ch t → P0_3 ch t → (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond4 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True)))))
  ∧ (¬P0_0 ch t → ¬P0_1 ch t → P0_3 ch t → (cfgA ch).idle (4 : Fin 5) ((cfgA ch).grid.coords t) = false ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → ¬P0_1 ch t → ¬P0_3 ch t → (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))))
  ∧ (¬P0_0 ch t → ¬P0_1 ch t → ¬P0_3 ch t → (cfgA ch).idle (4 : Fin 5) ((cfgA ch).grid.coords t) = true ∧ frTab0_4 ch t.val = false ∧ sfrTab0_0 ch t.val = false ∧ sfrTab0_0 ch (t.val + 1) = false ∧ sfrTab0_1 ch t.val = false ∧ sfrTab0_1 ch (t.val + 1) = false)

/-- The proof's resource algebra: the rounds library's, for the pipeline's staging cells, embedded whole. -/
abbrev EP : Emb (UR sig nD τ) 𝕄 := emb₁

/-! ## The schedule, for every table -/

/-- Point `t`'s coordinates: the block of rows `t / 11` and the tile of hidden columns `t % 11`. -/
theorem crd_eq : ∀ t : Fin grid0.N, (grid0.coords t 0).val = t.val / 11 ∧ (grid0.coords t 1).val = t.val % 11 := by
  decide +kernel

/-- The output's block is written back exactly at a block of rows' last tile. -/
theorem flush_eq : ∀ (ch : Tab) (t : Fin (cfgA ch).N), ((cfgA ch).win (4 : Fin 5)).flush t = decide (t.val % 11 = 10) := by
  intro ch t
  exact (show ((cfgA ch).win (4 : Fin 5)).flush t = Pipeline.Window.flushOf grid0 true cc0_transform_4 t from rfl).trans ((by decide +kernel : ∀ t : Fin grid0.N, Pipeline.Window.flushOf grid0 true cc0_transform_4 t = decide (t.val % 11 = 10)) t)

/-- A block of rows comes before the number of used ones: the machine's comparison of the words is the numbers'. -/
theorem slt_eq : ∀ (i n : Fin 40), Scalar.cmpi .slt (BitVec.ofNat 32 i.val) (BitVec.ofNat 32 (n.val + 1)) = BitVec.ofBool (decide (i.val ≤ n.val)) := by
  decide +kernel

/-- A tile is the first one. -/
theorem eq0_eq : ∀ j : Fin 11, Scalar.cmpi .eq (BitVec.ofNat 32 j.val) 0#32 = BitVec.ofBool (decide (j.val = 0)) := by
  decide +kernel

/-- A tile is the last one. -/
theorem eq10_eq : ∀ j : Fin 11, Scalar.cmpi .eq (BitVec.ofNat 32 j.val) 10#32 = BitVec.ofBool (decide (j.val = 10)) := by
  decide +kernel

/-- Every fact of the schedule, at every point, for every table. -/
theorem allFacts (ch : Tab) (t : Fin (cfgA ch).N) : FactsAt ch t := by
  obtain ⟨n, hn⟩ := ch.2
  have hw : View.readAt (Elt Bits) (tbM0_1).view (Rect.unit (s := S1) ![0] S1.size inb_S1_S1_0).toLoadRect (pinT_1 ch) (Shape.Idx.first (numel1_S1.symm ▸ Nat.one_pos)) = BitVec.ofNat 32 (n.val + 1) := by
    show pinT_1 ch _ = _
    exact congrFun hn _
  have ht : t.val < 440 := lt_of_lt_of_eq t.isLt (by decide +kernel : grid0.N = 440)
  obtain ⟨h0, h1⟩ := crd_eq t
  have s := slt_eq ⟨t.val / 11, by omega⟩ n
  have z := eq0_eq ⟨t.val % 11, by omega⟩
  have l := eq10_eq ⟨t.val % 11, by omega⟩
  have hA : P0_0 ch t ↔ (t.val / 11 ≤ n.val ∧ t.val % 11 = 0) := by
    unfold P0_0; rw [hw]; rw [show ((crd ch t) 0).val = t.val / 11 from h0, show ((crd ch t) 1).val = t.val % 11 from h1, s, z]
    by_cases a : t.val / 11 ≤ n.val <;> by_cases b : t.val % 11 = 0 <;> simp [a, b] <;> decide
  have hB : P0_1 ch t ↔ t.val / 11 ≤ n.val := by
    unfold P0_1; rw [hw]; rw [show ((crd ch t) 0).val = t.val / 11 from h0, s]
    by_cases a : t.val / 11 ≤ n.val <;> simp [a] <;> decide
  have hC : P0_2 ch t ↔ (t.val / 11 ≤ n.val ∧ t.val % 11 = 10) := by
    unfold P0_2 k0_cond3; rw [hw]; dsimp only; rw [show ((crd ch t) 0).val = t.val / 11 from h0, show ((crd ch t) 1).val = t.val % 11 from h1, s, l]
    by_cases a : t.val / 11 ≤ n.val <;> by_cases b : t.val % 11 = 10 <;> simp [a, b] <;> decide
  have hD : P0_3 ch t ↔ (¬ t.val / 11 ≤ n.val ∧ t.val % 11 = 0) := by
    unfold P0_3 k0_cond4; rw [hw]; dsimp only; rw [show ((crd ch t) 0).val = t.val / 11 from h0, show ((crd ch t) 1).val = t.val % 11 from h1, s, z]
    by_cases a : t.val / 11 ≤ n.val <;> by_cases b : t.val % 11 = 0 <;> simp [a, b] <;> decide
  have hI : (cfgA ch).idle (4 : Fin 5) ((cfgA ch).grid.coords t) = (!decide (P0_2 ch t) && !decide (P0_3 ch t)) := rfl
  have dC : decide (P0_2 ch t) = decide (t.val / 11 ≤ n.val ∧ t.val % 11 = 10) := decide_eq_decide.2 hC
  have dD : decide (P0_3 ch t) = decide (¬ t.val / 11 ≤ n.val ∧ t.val % 11 = 0) := decide_eq_decide.2 hD
  rw [dC, dD] at hI
  have hF := flush_eq ch t
  have hfr : frTab0_4 ch t.val = !decide (t.val % 11 ≠ 0 ∧ n.val + 1 ≤ t.val / 11) := by
    rcases t with ⟨_ | k, hk⟩
    · simp [frTab0_4]
    · have e : pinT_1 ch (Shape.Idx.first (numel1_S1.symm ▸ Nat.one_pos)) = BitVec.ofNat 32 (n.val + 1) := congrFun hn _
      have e2 : (BitVec.ofNat 32 (n.val + 1)).toNat = n.val + 1 := by simp; omega
      simp only [frTab0_4, e, e2]
  have hfr' : frTab0_4 ch (t.val + 1) = !decide ((t.val + 1) % 11 ≠ 0 ∧ n.val + 1 ≤ (t.val + 1) / 11) := by
    have e : pinT_1 ch (Shape.Idx.first (numel1_S1.symm ▸ Nat.one_pos)) = BitVec.ofNat 32 (n.val + 1) := congrFun hn _
    have e2 : (BitVec.ofNat 32 (n.val + 1)).toNat = n.val + 1 := by simp; omega
    simp only [frTab0_4, e, e2]
  have hs : ∀ k, sfrTab0_0 ch k = decide (k = 0) := fun k => by simp [sfrTab0_0, sfirst0_0]
  have hs' : ∀ k, sfrTab0_1 ch k = decide (k = 0) := fun k => by simp [sfrTab0_1, sfirst0_1]

  refine ⟨?_, ?_, ?_, ?_, ?_, ?_, ?_, ?_, ?_, ?_, ?_, ?_, ?_⟩
  · rw [hs, hs]; by_cases a : P0_0 ch t
    · rw [if_pos a]; simp
    · have : t.val ≠ 0 := fun h => a (hA.2 (by rw [h]; exact ⟨Nat.zero_le _, rfl⟩))
      rw [if_neg a]; simp only [ite_self]; simp [this]
  · rw [hs', hs']; by_cases a : P0_0 ch t
    · rw [if_pos a]; simp
    · have : t.val ≠ 0 := fun h => a (hA.2 (by rw [h]; exact ⟨Nat.zero_le _, rfl⟩))
      rw [if_neg a]; simp only [ite_self]; simp [this]
  · rw [hI, hF, hfr, hfr']
    rw [Bool.eq_iff_iff]; simp; omega
  · intro a; refine ⟨a, ?_, ?_, ?_, trivial⟩
    · exact hB.2 (hA.1 a).1
    · exact fun c => by have := hA.1 a; have := hC.1 c; omega
    · exact fun c => by have := hA.1 a; have := hD.1 c; omega
  · intro a; rw [hI, hF, hfr, hs, hs']; have := hA.1 a; simp; omega
  · intro a b c; refine ⟨a, b, c, ?_, trivial⟩
    exact fun d => by have := hB.1 b; have := hD.1 d; omega
  · intro a b c; rw [hI, hF, hfr, hs, hs', hs, hs']; rw [hA] at a; rw [hB] at b; rw [hC] at c
    have : t.val ≠ 0 := by omega
    simp; omega
  · intro a b c; refine ⟨a, b, c, ?_, trivial⟩
    exact fun d => by have := hB.1 b; have := hD.1 d; omega
  · intro a b c; rw [hI, hF, hfr, hs, hs', hs, hs']; rw [hA] at a; rw [hB] at b; rw [hC] at c
    have : t.val ≠ 0 := by omega
    simp; omega
  · intro a b d; refine ⟨a, b, ?_, d, trivial⟩
    exact fun c => by have := hC.1 c; rw [hB] at b; omega
  · intro a b d; rw [hI, hF, hfr, hs, hs', hs, hs']; rw [hA] at a; rw [hB] at b; rw [hD] at d
    have : t.val ≠ 0 := by omega
    simp; omega
  · intro a b d; refine ⟨a, b, ?_, d, trivial⟩
    exact fun c => by have := hC.1 c; rw [hB] at b; omega
  · intro a b d; rw [hI, hfr, hs, hs', hs, hs']; rw [hA] at a; rw [hB] at b; rw [hD] at d
    have : t.val ≠ 0 := by omega
    simp; omega

/-! ## The named facts — the freshness tables' steps, each path's hypotheses and schedule —: its projections -/

theorem sfrTab0_0_step : ∀ (ch : Tab) (t : Fin (cfgA ch).N), sfrTab0_0 ch (t.val + 1) = (if P0_0 ch t then false else (if P0_1 ch t then (if P0_2 ch t then sfrTab0_0 ch t.val else sfrTab0_0 ch t.val) else (if P0_3 ch t then sfrTab0_0 ch t.val else sfrTab0_0 ch t.val))) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Tab) (t : Fin (cfgA ch).N), sfrTab0_1 ch (t.val + 1) = (if P0_0 ch t then false else (if P0_1 ch t then (if P0_2 ch t then sfrTab0_1 ch t.val else sfrTab0_1 ch t.val) else (if P0_3 ch t then sfrTab0_1 ch t.val else sfrTab0_1 ch t.val))) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem frTab0_4_step : ∀ (ch : Tab) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.2.1
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Tab) (t : Fin (cfgA ch).N), P0_0 ch t →
    ((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1) ∧ (((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))) := fun ch t => (allFacts ch t).2.2.2.1

theorem hypsR0_A : ∀ (ch : Tab) (t : Fin (cfgA ch).N), P0_0 ch t →
    ((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1) ∧ (((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))) := hyps0_A

/-- At a point of path A: the idle table, the write-backs and which buffers hold junk (decided over the
    freshness tables `frTab`/`sfrTab`, restated over `Cfg.fresh`/`sfresh` by their agreement). -/
theorem sched0_A : ∀ (ch : Tab) (t : Fin (cfgA ch).N), P0_0 ch t →
    (cfgA ch).idle (4 : Fin 5) ((cfgA ch).grid.coords t) = true ∧ ((cfgA ch).win (4 : Fin 5)).flush t = false ∧ (cfgA ch).fresh (4 : Fin 5) t.val = true ∧ sfresh0_0 ch (t.val + 1) = false ∧ sfresh0_1 ch (t.val + 1) = false := by
  intro ch t; rw [freshF0_4 ch t, sfreshS0_0 ch t, sfreshS0_1 ch t]; exact (fun ch t => (allFacts ch t).2.2.2.2.1) ch t

/-- At a point of path B, the path's hypotheses hold of the words the body reads there (the pinned tables read,
    a pinned window's word AS the word `pinBlk ch t (r.idx x)`; the checks among them cited from `ChecksAt`). -/
theorem hyps0_B : ∀ (ch : Tab) (t : Fin (cfgA ch).N), ¬P0_0 ch t → P0_1 ch t → ¬P0_2 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))) := fun ch t => (allFacts ch t).2.2.2.2.2.1

theorem hypsR0_B : ∀ (ch : Tab) (t : Fin (cfgA ch).N), ¬P0_0 ch t → P0_1 ch t → ¬P0_2 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))) := hyps0_B

/-- At a point of path B: the idle table, the write-backs and which buffers hold junk (decided over the
    freshness tables `frTab`/`sfrTab`, restated over `Cfg.fresh`/`sfresh` by their agreement). -/
theorem sched0_B : ∀ (ch : Tab) (t : Fin (cfgA ch).N), ¬P0_0 ch t → P0_1 ch t → ¬P0_2 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Tab) (t : Fin (cfgA ch).N), ¬P0_0 ch t → P0_1 ch t → P0_2 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))) := fun ch t => (allFacts ch t).2.2.2.2.2.2.2.1

theorem hypsR0_C : ∀ (ch : Tab) (t : Fin (cfgA ch).N), ¬P0_0 ch t → P0_1 ch t → P0_2 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1) ∧ ((k0_cond3 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))) := hyps0_C

/-- At a point of path C: the idle table, the write-backs and which buffers hold junk (decided over the
    freshness tables `frTab`/`sfrTab`, restated over `Cfg.fresh`/`sfresh` by their agreement). -/
theorem sched0_C : ∀ (ch : Tab) (t : Fin (cfgA ch).N), ¬P0_0 ch t → P0_1 ch t → P0_2 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Tab) (t : Fin (cfgA ch).N), ¬P0_0 ch t → ¬P0_1 ch t → P0_3 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond4 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True)))) := fun ch t => (allFacts ch t).2.2.2.2.2.2.2.2.2.1

theorem hypsR0_D : ∀ (ch : Tab) (t : Fin (cfgA ch).N), ¬P0_0 ch t → ¬P0_1 ch t → P0_3 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond4 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True)))) := hyps0_D

/-- At a point of path D: the idle table, the write-backs and which buffers hold junk (decided over the
    freshness tables `frTab`/`sfrTab`, restated over `Cfg.fresh`/`sfresh` by their agreement). -/
theorem sched0_D : ∀ (ch : Tab) (t : Fin (cfgA ch).N), ¬P0_0 ch t → ¬P0_1 ch t → P0_3 ch t →
    (cfgA ch).idle (4 : Fin 5) ((cfgA ch).grid.coords t) = false ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.2.2.1) ch t

/-- At a point of path E, the path's hypotheses hold of the words the body reads there (the pinned tables read,
    a pinned window's word AS the word `pinBlk ch t (r.idx x)`; the checks among them cited from `ChecksAt`). -/
theorem hyps0_E : ∀ (ch : Tab) (t : Fin (cfgA ch).N), ¬P0_0 ch t → ¬P0_1 ch t → ¬P0_3 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))) := fun ch t => (allFacts ch t).2.2.2.2.2.2.2.2.2.2.2.1

theorem hypsR0_E : ∀ (ch : Tab) (t : Fin (cfgA ch).N), ¬P0_0 ch t → ¬P0_1 ch t → ¬P0_3 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True)))) := hyps0_E

/-- At a point of path E: the idle table, the write-backs and which buffers hold junk (decided over the
    freshness tables `frTab`/`sfrTab`, restated over `Cfg.fresh`/`sfresh` by their agreement). -/
theorem sched0_E : ∀ (ch : Tab) (t : Fin (cfgA ch).N), ¬P0_0 ch t → ¬P0_1 ch t → ¬P0_3 ch t →
    (cfgA ch).idle (4 : Fin 5) ((cfgA ch).grid.coords t) = true ∧ (cfgA ch).fresh (4 : Fin 5) t.val = false ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.2.2.2.2) ch t

/-! ## What the outputs and scratches hold after each point -/

/-- ONE STEP of the trajectory: what the outputs' current buffers and the scratches hold after the body at point `t`
    (output 4, scratch 0, scratch 1), from what they held before (`prev`): the path the decisions select at `t`, its
    run's contents; an output the path leaves idle keeps what it held (junk — `default`, named by nothing — where fresh). -/
def step0 (c : Dev nD) (t : Fin (cfgA ch).N) (prev : (S1024x1024.Idx → Elt Bits .f32) × Buf (Elt Bits) ((c : Thread nD τ).loc cc0_scratch0) × Buf (Elt Bits) ((c : Thread nD τ).loc cc0_scratch1)) : (S1024x1024.Idx → Elt Bits .f32) × Buf (Elt Bits) ((c : Thread nD τ).loc cc0_scratch0) × Buf (Elt Bits) ((c : Thread nD τ).loc cc0_scratch1) :=
  if q0 : P0_0 ch t then
    ((if (cfgA ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).2.1)
  else
    if q1 : P0_1 ch t then
      if q2 : P0_2 ch t then
        (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.2.1)
      else
        ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).2.1)
    else
      if q2 : P0_3 ch t then
        (out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.2.1)
      else
        ((if (cfgA ch).fresh (4 : Fin 5) t.val then default else prev.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1 q2).1 (hypsR0_E ch t q0 q1 q2).2.1 (hypsR0_E ch t q0 q1 q2).2.2.1 (hypsR0_E ch t q0 q1 q2).2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1 q2).1 (hypsR0_E ch t q0 q1 q2).2.1 (hypsR0_E ch t q0 q1 q2).2.2.1 (hypsR0_E ch t q0 q1 q2).2.2.2.1).2.1)

/-- THE TRAJECTORY: after position `n`. -/
def traj0 (c : Dev nD) : (n : ℕ) → n < (cfgA ch).N → (S1024x1024.Idx → Elt Bits .f32) × Buf (Elt Bits) ((c : Thread nD τ).loc cc0_scratch0) × Buf (Elt Bits) ((c : Thread nD τ).loc cc0_scratch1)
  | 0, h => step0 ch m ρ c ⟨0, h⟩ (default, default, default)
  | n + 1, h => step0 ch m ρ c ⟨n + 1, h⟩ (traj0 c n (Nat.lt_of_succ_lt h))

/-- What they held BEFORE point `t` (junk before the first). -/
def prev0 (c : Dev nD) (t : Fin (cfgA ch).N) : (S1024x1024.Idx → Elt Bits .f32) × Buf (Elt Bits) ((c : Thread nD τ).loc cc0_scratch0) × Buf (Elt Bits) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1024x1024.Idx → Elt Bits .f32) × Buf (Elt Bits) ((c : Thread nD τ).loc cc0_scratch0) × Buf (Elt Bits) ((c : Thread nD τ).loc cc0_scratch1)) (q0 : P0_0 ch t) :
    step0 ch m ρ c t prev = ((if (cfgA ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).2.1) := by
  unfold step0; simp only [dif_pos q0]

/-- `step0` at a point of path B. -/
theorem step0_B (c : Dev nD) (t : Fin (cfgA ch).N) (prev : (S1024x1024.Idx → Elt Bits .f32) × Buf (Elt Bits) ((c : Thread nD τ).loc cc0_scratch0) × Buf (Elt Bits) ((c : Thread nD τ).loc cc0_scratch1)) (q0 : ¬P0_0 ch t) (q1 : P0_1 ch t) (q2 : ¬P0_2 ch t) :
    step0 ch m ρ c t prev = ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).2.1) := by
  unfold step0; simp only [dif_neg q0, dif_pos q1, dif_neg q2]

/-- `step0` at a point of path C. -/
theorem step0_C (c : Dev nD) (t : Fin (cfgA ch).N) (prev : (S1024x1024.Idx → Elt Bits .f32) × Buf (Elt Bits) ((c : Thread nD τ).loc cc0_scratch0) × Buf (Elt Bits) ((c : Thread nD τ).loc cc0_scratch1)) (q0 : ¬P0_0 ch t) (q1 : P0_1 ch t) (q2 : P0_2 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.2.1) := by
  unfold step0; simp only [dif_neg q0, dif_pos q1, dif_pos q2]

/-- `step0` at a point of path D. -/
theorem step0_D (c : Dev nD) (t : Fin (cfgA ch).N) (prev : (S1024x1024.Idx → Elt Bits .f32) × Buf (Elt Bits) ((c : Thread nD τ).loc cc0_scratch0) × Buf (Elt Bits) ((c : Thread nD τ).loc cc0_scratch1)) (q0 : ¬P0_0 ch t) (q1 : ¬P0_1 ch t) (q2 : P0_3 ch t) :
    step0 ch m ρ c t prev = (out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.2.1) := by
  unfold step0; simp only [dif_neg q0, dif_neg q1, dif_pos q2]

/-- `step0` at a point of path E. -/
theorem step0_E (c : Dev nD) (t : Fin (cfgA ch).N) (prev : (S1024x1024.Idx → Elt Bits .f32) × Buf (Elt Bits) ((c : Thread nD τ).loc cc0_scratch0) × Buf (Elt Bits) ((c : Thread nD τ).loc cc0_scratch1)) (q0 : ¬P0_0 ch t) (q1 : ¬P0_1 ch t) (q2 : ¬P0_3 ch t) :
    step0 ch m ρ c t prev = ((if (cfgA ch).fresh (4 : Fin 5) t.val then default else prev.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1 q2).1 (hypsR0_E ch t q0 q1 q2).2.1 (hypsR0_E ch t q0 q1 q2).2.2.1 (hypsR0_E ch t q0 q1 q2).2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1 q2).1 (hypsR0_E ch t q0 q1 q2).2.1 (hypsR0_E ch t q0 q1 q2).2.2.1 (hypsR0_E ch t q0 q1 q2).2.2.2.1).2.1) := by
  unfold step0; simp only [dif_neg q0, dif_neg q1, dif_neg q2]

/-! ## The pipeline's proof data -/

/-- What the tracked buffers held before position `t` of `Fin (N+1)` (the invariant's index). -/
def prev0T (c : Dev nD) (t : Fin ((cfgA ch).N + 1)) : (S1024x1024.Idx → Elt Bits .f32) × Buf (Elt Bits) ((c : Thread nD τ).loc cc0_scratch0) × Buf (Elt Bits) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2⌝ ∗ (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · rw [step0_A ch m ρ c t _ q0]
    simp only [hf, Bool.false_eq_true, ↓reduceIte]
    unfold prev0; rw [dif_neg ht]
  · by_cases q1 : P0_1 ch t
    · by_cases q2 : P0_2 ch t
      · obtain ⟨i4, -, -, -, -, -, -⟩ := sched0_C ch t q0 q1 q2
        rw [i4] at hi; exact absurd hi (by decide)
      · rw [step0_B ch m ρ c t _ q0 q1 q2]
        simp only [hf, Bool.false_eq_true, ↓reduceIte]
        unfold prev0; rw [dif_neg ht]
    · by_cases q2 : P0_3 ch t
      · obtain ⟨i4, -, -, -, -, -, -⟩ := sched0_D ch t q0 q1 q2
        rw [i4] at hi; exact absurd hi (by decide)
      · rw [step0_E ch m ρ c t _ q0 q1 q2]
        simp only [hf, Bool.false_eq_true, ↓reduceIte]
        unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_swiglu_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4, sfn0, sfn1⟩ := sched0_A ch t q0
    have F0 := hypsR0_A ch t q0
    have hc0 := F0.1; have F1 := F0.2
    have hc1 := F1.1; have F2 := F1.2
    have k0_h3 := F2.1; have F3 := F2.2
    have k0_h4 := F3.1; have F4 := F3.2
    clear F0 F1 F2 F3 F4
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 hc1 k0_h3 k0_h4).2.2 _ a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    isplitl [HS1]; · iexact HS1
    iintro ⟨H0, H1, H2, H3, HT0, HT1, H4, HS0, HS1⟩
    isplitl [HS0 HS1 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    first | (iexists d4; iexact H4) | iexact H4
  · by_cases q1 : P0_1 ch t
    · by_cases q2 : P0_2 ch t
      · obtain ⟨i4, f4, fr4, sf0, sfn0, sf1, sfn1⟩ := sched0_C ch t q0 q1 q2
        have F0 := hypsR0_C ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3 k0_h4).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_C_4 c _ _ _ _ _ _ _ _ _ _ _ _ _ _ _ _ _ _ _ _ _ _ _)
      · obtain ⟨i4, f4, fr4, sf0, sfn0, sf1, sfn1⟩ := sched0_B ch t q0 q1 q2
        have F0 := hypsR0_B ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3 k0_h4).2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
    · by_cases q2 : P0_3 ch t
      · obtain ⟨i4, f4, fr4, sf0, sfn0, sf1, sfn1⟩ := sched0_D ch t q0 q1 q2
        have F0 := hypsR0_D ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1 q2]
        unfold Phi; simp only [prev0T_castSucc, prev0T_succ, traj0_eq, step0_D ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3 k0_h4).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_D_4 c _ _ _ _ _ _ _ _ _ _ _ _ _ _ _ _ _ _ _ _ _ _ _)
      · obtain ⟨i4, fr4, sf0, sfn0, sf1, sfn1⟩ := sched0_E ch t q0 q1 q2
        have F0 := hypsR0_E ch t q0 q1 q2
        have hc0 := F0.1; have F1 := F0.2
        have hc1 := F1.1; have F2 := F1.2
        have k0_h3 := F2.1; have F3 := F2.2
        have k0_h4 := F3.1; have F4 := F3.2
        clear F0 F1 F2 F3 F4
        cases f4 : ((cfgA ch).win (4 : Fin 5)).flush t
        · rewrite [i4]
          simp only [before0_0, before0_1, before0_2, before0_3, before0_4, after0_0, after0_1, after0_2, after0_3, after0_4, f4]
          simp only [fr4, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_E ch m ρ c t _ q0 q1 q2]
          unfold Phi; simp only [prev0T_castSucc, prev0T_succ, traj0_eq, step0_E ch m ρ c t _ q0 q1 q2, Fin.val_castSucc, Fin.val_succ]
          simp only [exists_held sf0, exists_held sf1]
          iintro ⟨⟨HS0, HS1, HT0, HT1⟩, Ho, ⟨%d0, H0⟩, ⟨%d1, H1⟩, ⟨%d2, H2⟩, ⟨%d3, H3⟩, ⟨%d4, H4⟩⟩
          iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3 k0_h4).2.2 _ _)
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [HT1]; · iexact HT1
          isplitl [H4]; · iexact H4
          isplitl [HS0]; · iexact HS0
          isplitl [HS1]; · iexact HS1
          iintro ⟨H0, H1, H2, H3, HT0, HT1, H4, HS0, HS1⟩
          isplitl [HS0 HS1 HT0 HT1]
          · isplitl [HS0]
            · iexists _; isplitr; swap
              · iexact HS0
              · ipureintro; intro hn; first | rfl | exact absurd hn (by first | (rw [sfn0]; decide) | decide)
            isplitl [HS1]
            · iexists _; isplitr; swap
              · iexact HS1
              · ipureintro; intro hn; first | rfl | exact absurd hn (by first | (rw [sfn1]; decide) | decide)
            isplitl [HT0]
            · iexact HT0
            iexact HT1
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          first | (iexists d4; iexact H4) | iexact H4
        · rewrite [i4]
          simp only [before0_0, before0_1, before0_2, before0_3, before0_4, after0_0, after0_1, after0_2, after0_3, after0_4, f4]
          simp only [fr4, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_E ch m ρ c t _ q0 q1 q2]
          unfold Phi; simp only [prev0T_castSucc, prev0T_succ, traj0_eq, step0_E ch m ρ c t _ q0 q1 q2, Fin.val_castSucc, Fin.val_succ, fr4, Bool.false_eq_true, ↓reduceIte]
          simp only [exists_held sf0, exists_held sf1]
          iintro ⟨⟨HS0, HS1, HT0, HT1⟩, Ho, ⟨%d0, H0⟩, ⟨%d1, H1⟩, ⟨%d2, H2⟩, ⟨%d3, H3⟩, ⟨%d4, H4⟩⟩
          iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3 k0_h4).2.2 _ _)
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [HT1]; · iexact HT1
          isplitl [H4]; · iexact H4
          isplitl [HS0]; · iexact HS0
          isplitl [HS1]; · iexact HS1
          iintro ⟨H0, H1, H2, H3, HT0, HT1, H4, HS0, HS1⟩
          isplitl [HS0 HS1 HT0 HT1]
          · isplitl [HS0]
            · iexists _; isplitr; swap
              · iexact HS0
              · ipureintro; intro hn; first | rfl | exact absurd hn (by first | (rw [sfn0]; decide) | decide)
            isplitl [HS1]
            · iexists _; isplitr; swap
              · iexact HS1
              · ipureintro; intro hn; first | rfl | exact absurd hn (by first | (rw [sfn1]; decide) | decide)
            isplitl [HT0]
            · iexact HT0
            iexact HT1
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          first | (iexists d4; iexact H4) | iexact H4

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_Experts`'s post. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Experts.Tables

end
-- ==== Proof.ExpertsIdealTables.lean ====
/-
  The run of the experts' call for EVERY table of experts and every number of used blocks (exact instance): the
  schedule's facts proved of the words instead of decided at one table, then the invariant, the body's obligation point
  by point, the launch and the frame, laid out as the generated certificate of one table lays them out.
-/
module

public import proofs.«01_k».proof.Proof.Gen.ExpertsIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsIdeal.Tables

open Cert.ExpertsIdeal
open Cert.ExpertsIdeal.Gen hiding pinT_0 pinT_1 pfN Pinned okcons
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Propositions on the machine's state. -/
local notation "𝕄" => MT nD τ sig Unit (Elt Ideal) ℕ (UR sig nD τ) ℕ

/-- The tables a launch may hand over: every block of rows at an expert there is, from 1 to 40 blocks used. -/
abbrev Tab := {T : (pcfg0 (F := Ideal)).Adm // ∃ n : Fin 40, T.1 1 = fun _ => BitVec.ofNat 32 (n.val + 1)}

variable (ch : Tab)

/-- The table of experts. -/
def pinT_0 (ch : Tab) : S40.Idx → BitVec 32 := ch.1.1 0

/-- The number of used blocks, a one-entry table. -/
def pinT_1 (ch : Tab) : S1.Idx → BitVec 32 := ch.1.1 1

/-- The launch memory holds these tables. -/
def Pinned (m : (ℓ : Loc nD τ sig) → Buf (Elt Ideal) ℓ) : Prop :=
  (∀ c : Dev nD, m ((c : Thread nD τ).loc main_arg0) = pinT_0 ch)
  ∧ (∀ c : Dev nD, m ((c : Thread nD τ).loc main_arg1) = pinT_1 ch)

/-- The admissible contents, the pipeline at them (`cfgA ch`: member `ch`'s grid, 440 points), as @main's one. -/
def adm : (pcfg0 (F := Ideal)).Adm := ch.1
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1024x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x256x1024 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S1024x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1
abbrev P0_1 (t : Fin (cfgA ch).N) : Prop := (Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1
abbrev P0_2 (t : Fin (cfgA ch).N) : Prop := k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1
abbrev P0_3 (t : Fin (cfgA ch).N) : Prop := k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1

/-- Whether scratch 0 (`cc0_scratch0`) holds nothing a point has determined, before position `n`: until a path that stores it
    whole first (A) has run. -/
def sfresh0_0 : ℕ → Bool
  | 0 => true
  | n + 1 => if h : n < (cfgA ch).N then (if P0_0 ch ⟨n, h⟩ then false else (if P0_1 ch ⟨n, h⟩ then (if P0_2 ch ⟨n, h⟩ then sfresh0_0 n else sfresh0_0 n) else (if P0_3 ch ⟨n, h⟩ then sfresh0_0 n else sfresh0_0 n))) else true

/-- Its CLOSED FORM: fresh before position `n` iff no point below `n` covers it — `n` at most member `ch`'s first covering
    point (read off the walk; the recursion's step is decided against it point by point, the recursion never run). -/
def sfirst0_0 (ch : Tab) : ℕ := 0
def sfrTab0_0 : ℕ → Bool := fun n => decide (n ≤ sfirst0_0 ch)

/-- Whether scratch 1 (`cc0_scratch1`) holds nothing a point has determined, before position `n`: until a path that stores it
    whole first (A) has run. -/
def sfresh0_1 : ℕ → Bool
  | 0 => true
  | n + 1 => if h : n < (cfgA ch).N then (if P0_0 ch ⟨n, h⟩ then false else (if P0_1 ch ⟨n, h⟩ then (if P0_2 ch ⟨n, h⟩ then sfresh0_1 n else sfresh0_1 n) else (if P0_3 ch ⟨n, h⟩ then sfresh0_1 n else sfresh0_1 n))) else true

/-- Its CLOSED FORM: fresh before position `n` iff no point below `n` covers it — `n` at most member `ch`'s first covering
    point (read off the walk; the recursion's step is decided against it point by point, the recursion never run). -/
def sfirst0_1 (ch : Tab) : ℕ := 0
def sfrTab0_1 : ℕ → Bool := fun n => decide (n ≤ sfirst0_1 ch)

/-- Whether output 4 holds nothing a point has stored since its last write-back, before each position: only a block of
    rows past the used ones stores it (zeros, at its first tile) before its last tile. -/
def frTab0_4 (ch : Tab) : ℕ → Bool
  | 0 => true
  | n + 1 => !decide ((n + 1) % 11 ≠ 0 ∧ (pinT_1 ch (Shape.Idx.first (numel1_S1.symm ▸ Nat.one_pos))).toNat ≤ (n + 1) / 11)

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Tab) (t : Fin (cfgA ch).N) : Prop :=
  -- sfrTab0_0_step, sfrTab0_1_step, frTab0_4_step, hyps0_A, sched0_A, hyps0_B, sched0_B, hyps0_C, sched0_C, hyps0_D, sched0_D, hyps0_E, sched0_E
  (sfrTab0_0 ch (t.val + 1) = (if P0_0 ch t then false else (if P0_1 ch t then (if P0_2 ch t then sfrTab0_0 ch t.val else sfrTab0_0 ch t.val) else (if P0_3 ch t then sfrTab0_0 ch t.val else sfrTab0_0 ch t.val))))
  ∧ (sfrTab0_1 ch (t.val + 1) = (if P0_0 ch t then false else (if P0_1 ch t then (if P0_2 ch t then sfrTab0_1 ch t.val else sfrTab0_1 ch t.val) else (if P0_3 ch t then sfrTab0_1 ch t.val else sfrTab0_1 ch t.val))))
  ∧ (frTab0_4 ch (t.val + 1) = (((cfgA ch).win (4 : Fin 5)).flush t || ((cfgA ch).idle (4 : Fin 5) ((cfgA ch).grid.coords t) && frTab0_4 ch t.val)))
  ∧ (P0_0 ch t → ((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1) ∧ (((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))
  ∧ (P0_0 ch t → (cfgA ch).idle (4 : Fin 5) ((cfgA ch).grid.coords t) = true ∧ ((cfgA ch).win (4 : Fin 5)).flush t = false ∧ frTab0_4 ch t.val = true ∧ sfrTab0_0 ch (t.val + 1) = false ∧ sfrTab0_1 ch (t.val + 1) = false)
  ∧ (¬P0_0 ch t → P0_1 ch t → ¬P0_2 ch t → (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))
  ∧ (¬P0_0 ch t → P0_1 ch t → ¬P0_2 ch t → (cfgA ch).idle (4 : Fin 5) ((cfgA ch).grid.coords t) = true ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → P0_1 ch t → P0_2 ch t → (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))
  ∧ (¬P0_0 ch t → P0_1 ch t → P0_2 ch t → (cfgA ch).idle (4 : Fin 5) ((cfgA ch).grid.coords t) = false ∧ ((cfgA ch).win (4 : Fin 5)).flush t = true ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → ¬P0_1 ch t → P0_3 ch t → (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)))))
  ∧ (¬P0_0 ch t → ¬P0_1 ch t → P0_3 ch t → (cfgA ch).idle (4 : Fin 5) ((cfgA ch).grid.coords t) = false ∧ ((cfgA ch).win (4 : Fin 5)).flush t = false ∧ frTab0_4 ch t.val = true ∧ sfrTab0_0 ch t.val = false ∧ sfrTab0_0 ch (t.val + 1) = false ∧ sfrTab0_1 ch t.val = false ∧ sfrTab0_1 ch (t.val + 1) = false)
  ∧ (¬P0_0 ch t → ¬P0_1 ch t → ¬P0_3 ch t → (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))))
  ∧ (¬P0_0 ch t → ¬P0_1 ch t → ¬P0_3 ch t → (cfgA ch).idle (4 : Fin 5) ((cfgA ch).grid.coords t) = true ∧ frTab0_4 ch t.val = false ∧ sfrTab0_0 ch t.val = false ∧ sfrTab0_0 ch (t.val + 1) = false ∧ sfrTab0_1 ch t.val = false ∧ sfrTab0_1 ch (t.val + 1) = false)

/-- The proof's resource algebra: the rounds library's, for the pipeline's staging cells, embedded whole. -/
abbrev EP : Emb (UR sig nD τ) 𝕄 := emb₁

/-! ## The schedule, for every table -/

/-- Point `t`'s coordinates: the block of rows `t / 11` and the tile of hidden columns `t % 11`. -/
theorem crd_eq : ∀ t : Fin grid0.N, (grid0.coords t 0).val = t.val / 11 ∧ (grid0.coords t 1).val = t.val % 11 := by
  decide +kernel

/-- The output's block is written back exactly at a block of rows' last tile. -/
theorem flush_eq : ∀ (ch : Tab) (t : Fin (cfgA ch).N), ((cfgA ch).win (4 : Fin 5)).flush t = decide (t.val % 11 = 10) := by
  intro ch t
  exact (show ((cfgA ch).win (4 : Fin 5)).flush t = Pipeline.Window.flushOf grid0 true cc0_transform_4 t from rfl).trans ((by decide +kernel : ∀ t : Fin grid0.N, Pipeline.Window.flushOf grid0 true cc0_transform_4 t = decide (t.val % 11 = 10)) t)

/-- A block of rows comes before the number of used ones: the machine's comparison of the words is the numbers'. -/
theorem slt_eq : ∀ (i n : Fin 40), Scalar.cmpi .slt (BitVec.ofNat 32 i.val) (BitVec.ofNat 32 (n.val + 1)) = BitVec.ofBool (decide (i.val ≤ n.val)) := by
  decide +kernel

/-- A tile is the first one. -/
theorem eq0_eq : ∀ j : Fin 11, Scalar.cmpi .eq (BitVec.ofNat 32 j.val) 0#32 = BitVec.ofBool (decide (j.val = 0)) := by
  decide +kernel

/-- A tile is the last one. -/
theorem eq10_eq : ∀ j : Fin 11, Scalar.cmpi .eq (BitVec.ofNat 32 j.val) 10#32 = BitVec.ofBool (decide (j.val = 10)) := by
  decide +kernel

/-- Every fact of the schedule, at every point, for every table. -/
theorem allFacts (ch : Tab) (t : Fin (cfgA ch).N) : FactsAt ch t := by
  obtain ⟨n, hn⟩ := ch.2
  have hw : View.readAt (Elt Ideal) (tbM0_1).view (Rect.unit (s := S1) ![0] S1.size inb_S1_S1_0).toLoadRect (pinT_1 ch) (Shape.Idx.first (numel1_S1.symm ▸ Nat.one_pos)) = BitVec.ofNat 32 (n.val + 1) := by
    show pinT_1 ch _ = _
    exact congrFun hn _
  have ht : t.val < 440 := lt_of_lt_of_eq t.isLt (by decide +kernel : grid0.N = 440)
  obtain ⟨h0, h1⟩ := crd_eq t
  have s := slt_eq ⟨t.val / 11, by omega⟩ n
  have z := eq0_eq ⟨t.val % 11, by omega⟩
  have l := eq10_eq ⟨t.val % 11, by omega⟩
  have hA : P0_0 ch t ↔ (t.val / 11 ≤ n.val ∧ t.val % 11 = 0) := by
    unfold P0_0; rw [hw]; rw [show ((crd ch t) 0).val = t.val / 11 from h0, show ((crd ch t) 1).val = t.val % 11 from h1, s, z]
    by_cases a : t.val / 11 ≤ n.val <;> by_cases b : t.val % 11 = 0 <;> simp [a, b] <;> decide
  have hB : P0_1 ch t ↔ t.val / 11 ≤ n.val := by
    unfold P0_1; rw [hw]; rw [show ((crd ch t) 0).val = t.val / 11 from h0, s]
    by_cases a : t.val / 11 ≤ n.val <;> simp [a] <;> decide
  have hC : P0_2 ch t ↔ (t.val / 11 ≤ n.val ∧ t.val % 11 = 10) := by
    unfold P0_2 k0_cond3; rw [hw]; dsimp only; rw [show ((crd ch t) 0).val = t.val / 11 from h0, show ((crd ch t) 1).val = t.val % 11 from h1, s, l]
    by_cases a : t.val / 11 ≤ n.val <;> by_cases b : t.val % 11 = 10 <;> simp [a, b] <;> decide
  have hD : P0_3 ch t ↔ (¬ t.val / 11 ≤ n.val ∧ t.val % 11 = 0) := by
    unfold P0_3 k0_cond4; rw [hw]; dsimp only; rw [show ((crd ch t) 0).val = t.val / 11 from h0, show ((crd ch t) 1).val = t.val % 11 from h1, s, z]
    by_cases a : t.val / 11 ≤ n.val <;> by_cases b : t.val % 11 = 0 <;> simp [a, b] <;> decide
  have hI : (cfgA ch).idle (4 : Fin 5) ((cfgA ch).grid.coords t) = (!decide (P0_2 ch t) && !decide (P0_3 ch t)) := rfl
  have dC : decide (P0_2 ch t) = decide (t.val / 11 ≤ n.val ∧ t.val % 11 = 10) := decide_eq_decide.2 hC
  have dD : decide (P0_3 ch t) = decide (¬ t.val / 11 ≤ n.val ∧ t.val % 11 = 0) := decide_eq_decide.2 hD
  rw [dC, dD] at hI
  have hF := flush_eq ch t
  have hfr : frTab0_4 ch t.val = !decide (t.val % 11 ≠ 0 ∧ n.val + 1 ≤ t.val / 11) := by
    rcases t with ⟨_ | k, hk⟩
    · simp [frTab0_4]
    · have e : pinT_1 ch (Shape.Idx.first (numel1_S1.symm ▸ Nat.one_pos)) = BitVec.ofNat 32 (n.val + 1) := congrFun hn _
      have e2 : (BitVec.ofNat 32 (n.val + 1)).toNat = n.val + 1 := by simp; omega
      simp only [frTab0_4, e, e2]
  have hfr' : frTab0_4 ch (t.val + 1) = !decide ((t.val + 1) % 11 ≠ 0 ∧ n.val + 1 ≤ (t.val + 1) / 11) := by
    have e : pinT_1 ch (Shape.Idx.first (numel1_S1.symm ▸ Nat.one_pos)) = BitVec.ofNat 32 (n.val + 1) := congrFun hn _
    have e2 : (BitVec.ofNat 32 (n.val + 1)).toNat = n.val + 1 := by simp; omega
    simp only [frTab0_4, e, e2]
  have hs : ∀ k, sfrTab0_0 ch k = decide (k = 0) := fun k => by simp [sfrTab0_0, sfirst0_0]
  have hs' : ∀ k, sfrTab0_1 ch k = decide (k = 0) := fun k => by simp [sfrTab0_1, sfirst0_1]

  refine ⟨?_, ?_, ?_, ?_, ?_, ?_, ?_, ?_, ?_, ?_, ?_, ?_, ?_⟩
  · rw [hs, hs]; by_cases a : P0_0 ch t
    · rw [if_pos a]; simp
    · have : t.val ≠ 0 := fun h => a (hA.2 (by rw [h]; exact ⟨Nat.zero_le _, rfl⟩))
      rw [if_neg a]; simp only [ite_self]; simp [this]
  · rw [hs', hs']; by_cases a : P0_0 ch t
    · rw [if_pos a]; simp
    · have : t.val ≠ 0 := fun h => a (hA.2 (by rw [h]; exact ⟨Nat.zero_le _, rfl⟩))
      rw [if_neg a]; simp only [ite_self]; simp [this]
  · rw [hI, hF, hfr, hfr']
    rw [Bool.eq_iff_iff]; simp; omega
  · intro a; refine ⟨a, ?_, ?_, ?_, trivial⟩
    · exact hB.2 (hA.1 a).1
    · exact fun c => by have := hA.1 a; have := hC.1 c; omega
    · exact fun c => by have := hA.1 a; have := hD.1 c; omega
  · intro a; rw [hI, hF, hfr, hs, hs']; have := hA.1 a; simp; omega
  · intro a b c; refine ⟨a, b, c, ?_, trivial⟩
    exact fun d => by have := hB.1 b; have := hD.1 d; omega
  · intro a b c; rw [hI, hF, hfr, hs, hs', hs, hs']; rw [hA] at a; rw [hB] at b; rw [hC] at c
    have : t.val ≠ 0 := by omega
    simp; omega
  · intro a b c; refine ⟨a, b, c, ?_, trivial⟩
    exact fun d => by have := hB.1 b; have := hD.1 d; omega
  · intro a b c; rw [hI, hF, hfr, hs, hs', hs, hs']; rw [hA] at a; rw [hB] at b; rw [hC] at c
    have : t.val ≠ 0 := by omega
    simp; omega
  · intro a b d; refine ⟨a, b, ?_, d, trivial⟩
    exact fun c => by have := hC.1 c; rw [hB] at b; omega
  · intro a b d; rw [hI, hF, hfr, hs, hs', hs, hs']; rw [hA] at a; rw [hB] at b; rw [hD] at d
    have : t.val ≠ 0 := by omega
    simp; omega
  · intro a b d; refine ⟨a, b, ?_, d, trivial⟩
    exact fun c => by have := hC.1 c; rw [hB] at b; omega
  · intro a b d; rw [hI, hfr, hs, hs', hs, hs']; rw [hA] at a; rw [hB] at b; rw [hD] at d
    have : t.val ≠ 0 := by omega
    simp; omega

/-! ## The named facts — the freshness tables' steps, each path's hypotheses and schedule —: its projections -/

theorem sfrTab0_0_step : ∀ (ch : Tab) (t : Fin (cfgA ch).N), sfrTab0_0 ch (t.val + 1) = (if P0_0 ch t then false else (if P0_1 ch t then (if P0_2 ch t then sfrTab0_0 ch t.val else sfrTab0_0 ch t.val) else (if P0_3 ch t then sfrTab0_0 ch t.val else sfrTab0_0 ch t.val))) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Tab) (t : Fin (cfgA ch).N), sfrTab0_1 ch (t.val + 1) = (if P0_0 ch t then false else (if P0_1 ch t then (if P0_2 ch t then sfrTab0_1 ch t.val else sfrTab0_1 ch t.val) else (if P0_3 ch t then sfrTab0_1 ch t.val else sfrTab0_1 ch t.val))) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem frTab0_4_step : ∀ (ch : Tab) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.2.1
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Tab) (t : Fin (cfgA ch).N), P0_0 ch t →
    ((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1) ∧ (((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))) := fun ch t => (allFacts ch t).2.2.2.1

theorem hypsR0_A : ∀ (ch : Tab) (t : Fin (cfgA ch).N), P0_0 ch t →
    ((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1) ∧ (((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))) := hyps0_A

/-- At a point of path A: the idle table, the write-backs and which buffers hold junk (decided over the
    freshness tables `frTab`/`sfrTab`, restated over `Cfg.fresh`/`sfresh` by their agreement). -/
theorem sched0_A : ∀ (ch : Tab) (t : Fin (cfgA ch).N), P0_0 ch t →
    (cfgA ch).idle (4 : Fin 5) ((cfgA ch).grid.coords t) = true ∧ ((cfgA ch).win (4 : Fin 5)).flush t = false ∧ (cfgA ch).fresh (4 : Fin 5) t.val = true ∧ sfresh0_0 ch (t.val + 1) = false ∧ sfresh0_1 ch (t.val + 1) = false := by
  intro ch t; rw [freshF0_4 ch t, sfreshS0_0 ch t, sfreshS0_1 ch t]; exact (fun ch t => (allFacts ch t).2.2.2.2.1) ch t

/-- At a point of path B, the path's hypotheses hold of the words the body reads there (the pinned tables read,
    a pinned window's word AS the word `pinBlk ch t (r.idx x)`; the checks among them cited from `ChecksAt`). -/
theorem hyps0_B : ∀ (ch : Tab) (t : Fin (cfgA ch).N), ¬P0_0 ch t → P0_1 ch t → ¬P0_2 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))) := fun ch t => (allFacts ch t).2.2.2.2.2.1

theorem hypsR0_B : ∀ (ch : Tab) (t : Fin (cfgA ch).N), ¬P0_0 ch t → P0_1 ch t → ¬P0_2 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))) := hyps0_B

/-- At a point of path B: the idle table, the write-backs and which buffers hold junk (decided over the
    freshness tables `frTab`/`sfrTab`, restated over `Cfg.fresh`/`sfresh` by their agreement). -/
theorem sched0_B : ∀ (ch : Tab) (t : Fin (cfgA ch).N), ¬P0_0 ch t → P0_1 ch t → ¬P0_2 ch t →
    (cfgA ch).idle (4 : Fin 5) ((cfgA ch).grid.coords t) = true ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Tab) (t : Fin (cfgA ch).N), ¬P0_0 ch t → P0_1 ch t → P0_2 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))) := fun ch t => (allFacts ch t).2.2.2.2.2.2.2.1

theorem hypsR0_C : ∀ (ch : Tab) (t : Fin (cfgA ch).N), ¬P0_0 ch t → P0_1 ch t → P0_2 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ (((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1) ∧ ((k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))) := hyps0_C

/-- At a point of path C: the idle table, the write-backs and which buffers hold junk (decided over the
    freshness tables `frTab`/`sfrTab`, restated over `Cfg.fresh`/`sfresh` by their agreement). -/
theorem sched0_C : ∀ (ch : Tab) (t : Fin (cfgA ch).N), ¬P0_0 ch t → P0_1 ch t → P0_2 ch t →
    (cfgA ch).idle (4 : Fin 5) ((cfgA ch).grid.coords t) = false ∧ ((cfgA ch).win (4 : Fin 5)).flush t = true ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Tab) (t : Fin (cfgA ch).N), ¬P0_0 ch t → ¬P0_1 ch t → P0_3 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)))) := fun ch t => (allFacts ch t).2.2.2.2.2.2.2.2.2.1

theorem hypsR0_D : ∀ (ch : Tab) (t : Fin (cfgA ch).N), ¬P0_0 ch t → ¬P0_1 ch t → P0_3 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True)))) := hyps0_D

/-- At a point of path D: the idle table, the write-backs and which buffers hold junk (decided over the
    freshness tables `frTab`/`sfrTab`, restated over `Cfg.fresh`/`sfresh` by their agreement). -/
theorem sched0_D : ∀ (ch : Tab) (t : Fin (cfgA ch).N), ¬P0_0 ch t → ¬P0_1 ch t → P0_3 ch t →
    (cfgA ch).idle (4 : Fin 5) ((cfgA ch).grid.coords t) = false ∧ ((cfgA ch).win (4 : Fin 5)).flush t = false ∧ (cfgA ch).fresh (4 : Fin 5) t.val = true ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.2.2.1) ch t

/-- At a point of path E, the path's hypotheses hold of the words the body reads there (the pinned tables read,
    a pinned window's word AS the word `pinBlk ch t (r.idx x)`; the checks among them cited from `ChecksAt`). -/
theorem hyps0_E : ∀ (ch : Tab) (t : Fin (cfgA ch).N), ¬P0_0 ch t → ¬P0_1 ch t → ¬P0_3 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))) := fun ch t => (allFacts ch t).2.2.2.2.2.2.2.2.2.2.2.1

theorem hypsR0_E : ∀ (ch : Tab) (t : Fin (cfgA ch).N), ¬P0_0 ch t → ¬P0_1 ch t → ¬P0_3 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬((Scalar.cmpi .ne (Scalar.extui (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos))))) 0#32) = 1#1)) ∧ ((¬(k0_cond3 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond4 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True)))) := hyps0_E

/-- At a point of path E: the idle table, the write-backs and which buffers hold junk (decided over the
    freshness tables `frTab`/`sfrTab`, restated over `Cfg.fresh`/`sfresh` by their agreement). -/
theorem sched0_E : ∀ (ch : Tab) (t : Fin (cfgA ch).N), ¬P0_0 ch t → ¬P0_1 ch t → ¬P0_3 ch t →
    (cfgA ch).idle (4 : Fin 5) ((cfgA ch).grid.coords t) = true ∧ (cfgA ch).fresh (4 : Fin 5) t.val = false ∧ sfresh0_0 ch t.val = false ∧ sfresh0_0 ch (t.val + 1) = false ∧ sfresh0_1 ch t.val = false ∧ sfresh0_1 ch (t.val + 1) = false := by
  intro ch t; rw [freshF0_4 ch t, sfreshF0_0 ch t, sfreshS0_0 ch t, sfreshF0_1 ch t, sfreshS0_1 ch t]; exact (fun ch t => (allFacts ch t).2.2.2.2.2.2.2.2.2.2.2.2) ch t

/-! ## What the outputs and scratches hold after each point -/

/-- ONE STEP of the trajectory: what the outputs' current buffers and the scratches hold after the body at point `t`
    (output 4, scratch 0, scratch 1), from what they held before (`prev`): the path the decisions select at `t`, its
    run's contents; an output the path leaves idle keeps what it held (junk — `default`, named by nothing — where fresh). -/
def step0 (c : Dev nD) (t : Fin (cfgA ch).N) (prev : (S1024x1024.Idx → Elt Ideal .f32) × Buf (Elt Ideal) ((c : Thread nD τ).loc cc0_scratch0) × Buf (Elt Ideal) ((c : Thread nD τ).loc cc0_scratch1)) : (S1024x1024.Idx → Elt Ideal .f32) × Buf (Elt Ideal) ((c : Thread nD τ).loc cc0_scratch0) × Buf (Elt Ideal) ((c : Thread nD τ).loc cc0_scratch1) :=
  if q0 : P0_0 ch t then
    ((if (cfgA ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).2.1)
  else
    if q1 : P0_1 ch t then
      if q2 : P0_2 ch t then
        (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.2.1)
      else
        ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).2.1)
    else
      if q2 : P0_3 ch t then
        (out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.2.1)
      else
        ((if (cfgA ch).fresh (4 : Fin 5) t.val then default else prev.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1 q2).1 (hypsR0_E ch t q0 q1 q2).2.1 (hypsR0_E ch t q0 q1 q2).2.2.1 (hypsR0_E ch t q0 q1 q2).2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1 q2).1 (hypsR0_E ch t q0 q1 q2).2.1 (hypsR0_E ch t q0 q1 q2).2.2.1 (hypsR0_E ch t q0 q1 q2).2.2.2.1).2.1)

/-- THE TRAJECTORY: after position `n`. -/
def traj0 (c : Dev nD) : (n : ℕ) → n < (cfgA ch).N → (S1024x1024.Idx → Elt Ideal .f32) × Buf (Elt Ideal) ((c : Thread nD τ).loc cc0_scratch0) × Buf (Elt Ideal) ((c : Thread nD τ).loc cc0_scratch1)
  | 0, h => step0 ch m ρ c ⟨0, h⟩ (default, default, default)
  | n + 1, h => step0 ch m ρ c ⟨n + 1, h⟩ (traj0 c n (Nat.lt_of_succ_lt h))

/-- What they held BEFORE point `t` (junk before the first). -/
def prev0 (c : Dev nD) (t : Fin (cfgA ch).N) : (S1024x1024.Idx → Elt Ideal .f32) × Buf (Elt Ideal) ((c : Thread nD τ).loc cc0_scratch0) × Buf (Elt Ideal) ((c : Thread nD τ).loc cc0_scratch1) :=
  if h : t.val = 0 then (default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1024x1024.Idx → Elt Ideal .f32) × Buf (Elt Ideal) ((c : Thread nD τ).loc cc0_scratch0) × Buf (Elt Ideal) ((c : Thread nD τ).loc cc0_scratch1)) (q0 : P0_0 ch t) :
    step0 ch m ρ c t prev = ((if (cfgA ch).fresh (4 : Fin 5) t.val then default else prev.1), (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1).2.1) := by
  unfold step0; simp only [dif_pos q0]

/-- `step0` at a point of path B. -/
theorem step0_B (c : Dev nD) (t : Fin (cfgA ch).N) (prev : (S1024x1024.Idx → Elt Ideal .f32) × Buf (Elt Ideal) ((c : Thread nD τ).loc cc0_scratch0) × Buf (Elt Ideal) ((c : Thread nD τ).loc cc0_scratch1)) (q0 : ¬P0_0 ch t) (q1 : P0_1 ch t) (q2 : ¬P0_2 ch t) :
    step0 ch m ρ c t prev = ((if (cfgA ch).fresh (4 : Fin 5) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_B ch t q0 q1 q2).1 (hypsR0_B ch t q0 q1 q2).2.1 (hypsR0_B ch t q0 q1 q2).2.2.1 (hypsR0_B ch t q0 q1 q2).2.2.2.1).2.1) := by
  unfold step0; simp only [dif_neg q0, dif_pos q1, dif_neg q2]

/-- `step0` at a point of path C. -/
theorem step0_C (c : Dev nD) (t : Fin (cfgA ch).N) (prev : (S1024x1024.Idx → Elt Ideal .f32) × Buf (Elt Ideal) ((c : Thread nD τ).loc cc0_scratch0) × Buf (Elt Ideal) ((c : Thread nD τ).loc cc0_scratch1)) (q0 : ¬P0_0 ch t) (q1 : P0_1 ch t) (q2 : P0_2 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_C ch t q0 q1 q2).1 (hypsR0_C ch t q0 q1 q2).2.1 (hypsR0_C ch t q0 q1 q2).2.2.1 (hypsR0_C ch t q0 q1 q2).2.2.2.1).2.2.1) := by
  unfold step0; simp only [dif_neg q0, dif_pos q1, dif_pos q2]

/-- `step0` at a point of path D. -/
theorem step0_D (c : Dev nD) (t : Fin (cfgA ch).N) (prev : (S1024x1024.Idx → Elt Ideal .f32) × Buf (Elt Ideal) ((c : Thread nD τ).loc cc0_scratch0) × Buf (Elt Ideal) ((c : Thread nD τ).loc cc0_scratch1)) (q0 : ¬P0_0 ch t) (q1 : ¬P0_1 ch t) (q2 : P0_3 ch t) :
    step0 ch m ρ c t prev = (out0_D_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1).2.2.1) := by
  unfold step0; simp only [dif_neg q0, dif_neg q1, dif_pos q2]

/-- `step0` at a point of path E. -/
theorem step0_E (c : Dev nD) (t : Fin (cfgA ch).N) (prev : (S1024x1024.Idx → Elt Ideal .f32) × Buf (Elt Ideal) ((c : Thread nD τ).loc cc0_scratch0) × Buf (Elt Ideal) ((c : Thread nD τ).loc cc0_scratch1)) (q0 : ¬P0_0 ch t) (q1 : ¬P0_1 ch t) (q2 : ¬P0_3 ch t) :
    step0 ch m ρ c t prev = ((if (cfgA ch).fresh (4 : Fin 5) t.val then default else prev.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1 q2).1 (hypsR0_E ch t q0 q1 q2).2.1 (hypsR0_E ch t q0 q1 q2).2.2.1 (hypsR0_E ch t q0 q1 q2).2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_E ch t q0 q1 q2).1 (hypsR0_E ch t q0 q1 q2).2.1 (hypsR0_E ch t q0 q1 q2).2.2.1 (hypsR0_E ch t q0 q1 q2).2.2.2.1).2.1) := by
  unfold step0; simp only [dif_neg q0, dif_neg q1, dif_neg q2]

/-! ## The pipeline's proof data -/

/-- What the tracked buffers held before position `t` of `Fin (N+1)` (the invariant's index). -/
def prev0T (c : Dev nD) (t : Fin ((cfgA ch).N + 1)) : (S1024x1024.Idx → Elt Ideal .f32) × Buf (Elt Ideal) ((c : Thread nD τ).loc cc0_scratch0) × Buf (Elt Ideal) ((c : Thread nD τ).loc cc0_scratch1) :=
  if h : t.val = 0 then (default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2⌝ ∗ (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · rw [step0_A ch m ρ c t _ q0]
    simp only [hf, Bool.false_eq_true, ↓reduceIte]
    unfold prev0; rw [dif_neg ht]
  · by_cases q1 : P0_1 ch t
    · by_cases q2 : P0_2 ch t
      · obtain ⟨i4, -, -, -, -, -, -⟩ := sched0_C ch t q0 q1 q2
        rw [i4] at hi; exact absurd hi (by decide)
      · rw [step0_B ch m ρ c t _ q0 q1 q2]
        simp only [hf, Bool.false_eq_true, ↓reduceIte]
        unfold prev0; rw [dif_neg ht]
    · by_cases q2 : P0_3 ch t
      · obtain ⟨i4, -, -, -, -, -, -⟩ := sched0_D ch t q0 q1 q2
        rw [i4] at hi; exact absurd hi (by decide)
      · rw [step0_E ch m ρ c t _ q0 q1 q2]
        simp only [hf, Bool.false_eq_true, ↓reduceIte]
        unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_swiglu_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4, sfn0, sfn1⟩ := sched0_A ch t q0
    have F0 := hypsR0_A ch t q0
    have hc0 := F0.1; have F1 := F0.2
    have hc1 := F1.1; have F2 := F1.2
    have k0_h3 := F2.1; have F3 := F2.2
    have k0_h4 := F3.1; have F4 := F3.2
    clear F0 F1 F2 F3 F4
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 hc1 k0_h3 k0_h4).2.2 _ a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    isplitl [HS1]; · iexact HS1
    iintro ⟨H0, H1, H2, H3, HT0, HT1, H4, HS0, HS1⟩
    isplitl [HS0 HS1 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    first | (iexists d4; iexact H4) | iexact H4
  · by_cases q1 : P0_1 ch t
    · by_cases q2 : P0_2 ch t
      · obtain ⟨i4, f4, fr4, sf0, sfn0, sf1, sfn1⟩ := sched0_C ch t q0 q1 q2
        have F0 := hypsR0_C ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3 k0_h4).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_C_4 c _ _ _ _ _ _ _ _ _ _ _ _ _ _ _ _ _ _ _ _ _ _ _)
      · obtain ⟨i4, f4, fr4, sf0, sfn0, sf1, sfn1⟩ := sched0_B ch t q0 q1 q2
        have F0 := hypsR0_B ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3 k0_h4).2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
    · by_cases q2 : P0_3 ch t
      · obtain ⟨i4, f4, fr4, sf0, sfn0, sf1, sfn1⟩ := sched0_D ch t q0 q1 q2
        have F0 := hypsR0_D ch t q0 q1 q2
        have hc0 := F0.1; have F1 := F0.2
        have hc1 := F1.1; have F2 := F1.2
        have k0_h3 := F2.1; have F3 := F2.2
        have k0_h4 := F3.1; have F4 := F3.2
        clear F0 F1 F2 F3 F4
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1 q2]
        unfold Phi; simp only [prev0T_castSucc, prev0T_succ, traj0_eq, step0_D ch m ρ c t _ q0 q1 q2, Fin.val_castSucc, Fin.val_succ]
        simp only [exists_held sf0, exists_held sf1]
        iintro ⟨⟨HS0, HS1, HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3 k0_h4).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_D_4 c _ _ _ _ _ _ _ _ _ _ _ _ _ _ _ _ _ _ _ _ _ _ _)
      · obtain ⟨i4, fr4, sf0, sfn0, sf1, sfn1⟩ := sched0_E ch t q0 q1 q2
        have F0 := hypsR0_E ch t q0 q1 q2
        have hc0 := F0.1; have F1 := F0.2
        have hc1 := F1.1; have F2 := F1.2
        have k0_h3 := F2.1; have F3 := F2.2
        have k0_h4 := F3.1; have F4 := F3.2
        clear F0 F1 F2 F3 F4
        cases f4 : ((cfgA ch).win (4 : Fin 5)).flush t
        · rewrite [i4]
          simp only [before0_0, before0_1, before0_2, before0_3, before0_4, after0_0, after0_1, after0_2, after0_3, after0_4, f4]
          simp only [fr4, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_E ch m ρ c t _ q0 q1 q2]
          unfold Phi; simp only [prev0T_castSucc, prev0T_succ, traj0_eq, step0_E ch m ρ c t _ q0 q1 q2, Fin.val_castSucc, Fin.val_succ]
          simp only [exists_held sf0, exists_held sf1]
          iintro ⟨⟨HS0, HS1, HT0, HT1⟩, Ho, ⟨%d0, H0⟩, ⟨%d1, H1⟩, ⟨%d2, H2⟩, ⟨%d3, H3⟩, ⟨%d4, H4⟩⟩
          iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3 k0_h4).2.2 _ _)
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [HT1]; · iexact HT1
          isplitl [H4]; · iexact H4
          isplitl [HS0]; · iexact HS0
          isplitl [HS1]; · iexact HS1
          iintro ⟨H0, H1, H2, H3, HT0, HT1, H4, HS0, HS1⟩
          isplitl [HS0 HS1 HT0 HT1]
          · isplitl [HS0]
            · iexists _; isplitr; swap
              · iexact HS0
              · ipureintro; intro hn; first | rfl | exact absurd hn (by first | (rw [sfn0]; decide) | decide)
            isplitl [HS1]
            · iexists _; isplitr; swap
              · iexact HS1
              · ipureintro; intro hn; first | rfl | exact absurd hn (by first | (rw [sfn1]; decide) | decide)
            isplitl [HT0]
            · iexact HT0
            iexact HT1
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          first | (iexists d4; iexact H4) | iexact H4
        · rewrite [i4]
          simp only [before0_0, before0_1, before0_2, before0_3, before0_4, after0_0, after0_1, after0_2, after0_3, after0_4, f4]
          simp only [fr4, Bool.false_eq_true, ↓reduceIte]
          rewrite [show (dats ch m ρ 0 c).Φ t.succ = Phi ch m ρ c t.succ from rfl, show (dats ch m ρ 0 c).Φ t.castSucc = Phi ch m ρ c t.castSucc from rfl,
            show (dats ch m ρ 0 c).owesAt () t.succ = (dats ch m ρ 0 c).owesAt () t.castSucc from rfl]
          try rewrite [traj0_eq, step0_E ch m ρ c t _ q0 q1 q2]
          unfold Phi; simp only [prev0T_castSucc, prev0T_succ, traj0_eq, step0_E ch m ρ c t _ q0 q1 q2, Fin.val_castSucc, Fin.val_succ, fr4, Bool.false_eq_true, ↓reduceIte]
          simp only [exists_held sf0, exists_held sf1]
          iintro ⟨⟨HS0, HS1, HT0, HT1⟩, Ho, ⟨%d0, H0⟩, ⟨%d1, H1⟩, ⟨%d2, H2⟩, ⟨%d3, H3⟩, ⟨%d4, H4⟩⟩
          iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 hc1 k0_h3 k0_h4).2.2 _ _)
          isplitl [H0]; · iapply rep_of_owns; iexact H0
          isplitl [H1]; · iapply rep_of_owns; iexact H1
          isplitl [H2]; · iapply rep_of_owns; iexact H2
          isplitl [H3]; · iapply rep_of_owns; iexact H3
          isplitl [HT0]; · iexact HT0
          isplitl [HT1]; · iexact HT1
          isplitl [H4]; · iexact H4
          isplitl [HS0]; · iexact HS0
          isplitl [HS1]; · iexact HS1
          iintro ⟨H0, H1, H2, H3, HT0, HT1, H4, HS0, HS1⟩
          isplitl [HS0 HS1 HT0 HT1]
          · isplitl [HS0]
            · iexists _; isplitr; swap
              · iexact HS0
              · ipureintro; intro hn; first | rfl | exact absurd hn (by first | (rw [sfn0]; decide) | decide)
            isplitl [HS1]
            · iexists _; isplitr; swap
              · iexact HS1
              · ipureintro; intro hn; first | rfl | exact absurd hn (by first | (rw [sfn1]; decide) | decide)
            isplitl [HT0]
            · iexact HT0
            iexact HT1
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          first | (iexists d4; iexact H4) | iexact H4

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- THE FRAME under the pinning: from a launch memory whose tables and steering words are member `ch`'s, every weakly fair
    execution terminates, nothing faults, every argument array ends unchanged and every semaphore counter of the machine reads
    zero at every final state — `Cert.quiescent_ExpertsIdeal`'s post. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsIdeal.Tables

end
-- ==== Proof.ExpertsIdealPre.lean ====
/-
  The experts' call at every admissible launch (exact instance): what the precondition says of the two tables, and the frame.
-/
module

public import proofs.«01_k».proof.Defs
public import proofs.«01_k».proof.Proof.Gen.Pre_expert_range
public import proofs.«01_k».proof.Proof.ExpertsIdealTables

@[expose] public section

set_option maxRecDepth 16384

noncomputable section

namespace Cert.ExpertsIdeal.Tables

open Cert.ExpertsIdeal Cert.ExpertsIdeal.Gen
open Idealize.ShloMosaic Idealize.ShloMosaic.TcCoe

/-- A word not negative and below sixteen names one of sixteen. -/
theorem lt_of_range (w : BitVec 32) (h0 : IntOp.cmpi .sge w 0#32 = 1#1) (h1 : IntOp.cmpi .slt w 16#32 = 1#1) : w.toNat < 16 := by
  have a : (0#32).sle w = true := by cases e : (0#32).sle w <;> simp [IntOp.cmpi, e] at h0 ⊢
  have b : w.slt 16#32 = true := by cases e : w.slt 16#32 <;> simp [IntOp.cmpi, e] at h1 ⊢
  simp only [BitVec.sle, BitVec.slt, decide_eq_true_eq, BitVec.toInt, BitVec.toNat_ofNat] at a b
  omega

/-- A word from 1 to 40 is a number from 1 to 40. -/
theorem ofNat_of_range (w : BitVec 32) (h0 : IntOp.cmpi .sge w 1#32 = 1#1) (h1 : IntOp.cmpi .sle w 40#32 = 1#1) :
    ∃ n : Fin 40, w = BitVec.ofNat 32 (n.val + 1) := by
  have a : (1#32).sle w = true := by cases e : (1#32).sle w <;> simp [IntOp.cmpi, e] at h0 ⊢
  have b : w.sle 40#32 = true := by cases e : w.sle 40#32 <;> simp [IntOp.cmpi, e] at h1 ⊢
  simp only [BitVec.sle, decide_eq_true_eq, BitVec.toInt, BitVec.toNat_ofNat] at a b
  refine ⟨⟨w.toNat - 1, by omega⟩, ?_⟩
  apply BitVec.eq_of_toNat_eq
  simp only [BitVec.toNat_ofNat]
  omega

/-- Two ones make a one only. -/
theorem and_one (a b : BitVec 1) (h : IntOp.andi a b = 1#1) : a = 1#1 ∧ b = 1#1 := by
  revert a b; decide

/-- The precondition, read: every word of the table of experts is below sixteen, the number of used blocks from 1 to 40. -/
theorem range_of_pre (m : (ℓ : Loc nD τ sig) → Buf (Elt Ideal) ℓ) (h : Cert.Pre_ExpertsIdeal m) (c : Dev nD) :
    (∀ x : S40.Idx, BitVec.toNat (m ((c.tc : Thread nD τ).loc main_arg0) x : BitVec 32) < 16)
    ∧ ∃ n : Fin 40, ((m ((c.tc : Thread nD τ).loc main_arg1) : S1.Idx → BitVec 32)) = fun _ => BitVec.ofNat 32 (n.val + 1) := by
  have key : ∀ x : S40.Idx, ∃ y z : S1.Idx,
      IntOp.andi (IntOp.andi (IntOp.andi (IntOp.cmpi .sge (m ((c.tc : Thread nD τ).loc main_arg0) x : BitVec 32) 0#32)
        (IntOp.cmpi .slt (m ((c.tc : Thread nD τ).loc main_arg0) x : BitVec 32) 16#32))
        (IntOp.cmpi .sge (m ((c.tc : Thread nD τ).loc main_arg1) y : BitVec 32) 1#32))
        (IntOp.cmpi .sle (m ((c.tc : Thread nD τ).loc main_arg1) z : BitVec 32) 40#32) = 1#1 :=
    fun x => ⟨_, _, congrFun (h c) x⟩
  have u1 : ∀ y z : S1.Idx, y = z := by decide
  constructor
  · intro x
    obtain ⟨y, z, e⟩ := key x
    obtain ⟨e, -⟩ := and_one _ _ e
    obtain ⟨e, -⟩ := and_one _ _ e
    obtain ⟨e1, e2⟩ := and_one _ _ e
    exact lt_of_range _ e1 e2
  · obtain ⟨y, z, e⟩ := key (fun a => ⟨0, by fin_cases a; decide⟩)
    obtain ⟨e, e4⟩ := and_one _ _ e
    obtain ⟨e, e3⟩ := and_one _ _ e
    obtain ⟨n, hn⟩ := ofNat_of_range _ e3 (u1 z y ▸ e4)
    exact ⟨n, funext fun w => (congrArg (m ((c.tc : Thread nD τ).loc main_arg1)) (u1 w y)).trans hn⟩

/-- Tables naming existing experts keep every block of weights inside its array. -/
theorem ok_of_lt (pf : pre0.Contents (Elt Ideal)) (h : ∀ x : S40.Idx, BitVec.toNat (pf 0 x : BitVec 32) < 16) : ok0 (F := Ideal) pf := by
  have sel : ∀ (b : BitVec 1) (j : ℕ), j < 11 → (Scalar.select b (BitVec.ofNat 32 j) 10#32).toNat ≤ 10 := by
    intro b j hj
    unfold Scalar.select
    split
    · rw [BitVec.toNat_ofNat]; omega
    · decide
  have t1 : ∀ i : grid0.Coords, ∃ (x : S40.Idx) (b : BitVec 1), cc0_transform_1 k0_off1_inb numel1_S1 inb_S1_S1_0 pf i
      = ![BitVec.toNat (pf 0 x : BitVec 32), 0, (Scalar.select b (BitVec.ofNat 32 (i 1).val) 10#32).toNat] := fun i => ⟨_, _, rfl⟩
  have t2 : ∀ i : grid0.Coords, ∃ (x : S40.Idx) (b : BitVec 1), cc0_transform_2 k0_off1_inb numel1_S1 inb_S1_S1_0 pf i
      = ![BitVec.toNat (pf 0 x : BitVec 32), 0, (Scalar.select b (BitVec.ofNat 32 (i 1).val) 10#32).toNat] := fun i => ⟨_, _, rfl⟩
  have t3 : ∀ i : grid0.Coords, ∃ (x : S40.Idx) (b : BitVec 1), cc0_transform_3 k0_off1_inb numel1_S1 inb_S1_S1_0 pf i
      = ![BitVec.toNat (pf 0 x : BitVec 32), (Scalar.select b (BitVec.ofNat 32 (i 1).val) 10#32).toNat, 0] := fun i => ⟨_, _, rfl⟩
  refine ⟨fun i => ⟨?_, Or.inl rfl⟩, fun i => ⟨?_, Or.inl rfl⟩, fun i => ⟨?_, Or.inl rfl⟩⟩
  · obtain ⟨x, b, e⟩ := t1 i
    rw [e]
    have hx := h x
    have hs := sel b (i 1).val (i 1).isLt
    intro a
    match a with
    | ⟨0, _⟩ => show (BitVec.toNat (pf 0 x : BitVec 32) + 1) * 1 ≤ 16; omega
    | ⟨1, _⟩ => show (0 + 1) * 1024 ≤ 1024; omega
    | ⟨2, _⟩ => show ((Scalar.select b (BitVec.ofNat 32 (i 1).val) 10#32).toNat + 1) * 256 ≤ 2816; omega
  · obtain ⟨x, b, e⟩ := t2 i
    rw [e]
    have hx := h x
    have hs := sel b (i 1).val (i 1).isLt
    intro a
    match a with
    | ⟨0, _⟩ => show (BitVec.toNat (pf 0 x : BitVec 32) + 1) * 1 ≤ 16; omega
    | ⟨1, _⟩ => show (0 + 1) * 1024 ≤ 1024; omega
    | ⟨2, _⟩ => show ((Scalar.select b (BitVec.ofNat 32 (i 1).val) 10#32).toNat + 1) * 256 ≤ 2816; omega
  · obtain ⟨x, b, e⟩ := t3 i
    rw [e]
    have hx := h x
    have hs := sel b (i 1).val (i 1).isLt
    intro a
    match a with
    | ⟨0, _⟩ => show (BitVec.toNat (pf 0 x : BitVec 32) + 1) * 1 ≤ 16; omega
    | ⟨1, _⟩ => show ((Scalar.select b (BitVec.ofNat 32 (i 1).val) 10#32).toNat + 1) * 256 ≤ 2816; omega
    | ⟨2, _⟩ => show (0 + 1) * 1024 ≤ 1024; omega

/-- The tables the launch memory holds. -/
def tab (m : (ℓ : Loc nD τ sig) → Buf (Elt Ideal) ℓ) (h : Cert.Pre_ExpertsIdeal m) : Tab :=
  ⟨⟨fun | ⟨0, _⟩ => m (((0 : Dev nD).tc : Thread nD τ).loc main_arg0) | ⟨1, _⟩ => m (((0 : Dev nD).tc : Thread nD τ).loc main_arg1) | ⟨_ + 2, h⟩ => absurd h (by simp),
    ok_of_lt _ (range_of_pre m h 0).1⟩, (range_of_pre m h 0).2⟩

/-- The launch memory holds them on every device. -/
theorem pinned_of_pre (m : (ℓ : Loc nD τ sig) → Buf (Elt Ideal) ℓ) (h : Cert.Pre_ExpertsIdeal m) : Pinned (tab m h) m :=
  ⟨fun c => by rw [Subsingleton.elim c 0]; rfl, fun c => by rw [Subsingleton.elim c 0]; rfl⟩

/-- The frame, under the precondition. -/
theorem claim_frame : Cert.quiescent_ExpertsIdeal := fun m ρ h => frame (tab m h) m ρ (pinned_of_pre m h)

end Cert.ExpertsIdeal.Tables

end
-- ==== Proof.ExpertsRefStages.lean ====
/-
  The experts' reference, stage by stage, each stage's value at an index, and its run.
-/
module

public import proofs.«01_k».proof.Proof.Gen.ExpertsRefIdeal.Run
public import Idealize.ShloMosaic.Lib.Pointwise

@[expose] public section

set_option maxRecDepth 16384

noncomputable section

namespace Cert.ExpertsRefIdeal.Stages

open Cert.ExpertsRefIdeal Cert.ExpertsRefIdeal.Gen Cert.ExpertsRefIdeal.Value
open Idealize.ShloMosaic

section
variable {F : FTy → Type} [FloatOps F]

/-- The index of each block's expert, as the gathers read it. -/
def pick (be : IVec S40 32) : IVec S40x1 32 :=
  broadcastInDim S40x1 ![0] bcast_S40_S40x1_0 (select (cmpi .slt be (broadcastInDim S40 ![] bcast_S_S40 (constantI S_ 32 0#32))) (addi be (broadcastInDim S40 ![] bcast_S_S40 (constantI S_ 32 16#32))) be)

/-- The rows by each block's own matrix. -/
def proj (x : FVec F S40960x1024 .f32) (w : FVec F S16x1024x2816 .f32) (p : IVec S40x1 32) : FVec F S40x1024x2816 .f32 :=
  Host.dotGeneral dot_S40x1024x1024_S40x1024x2816_S40x1024x2816_2_1_1_2_0_0 none (shapeCast _ x shapeCasts_S40960x1024_S40x1024x1024) (Host.gather gather_S16x1024x2816_S40x1_S40x1024x2816_12_0_n_n_0_1_110242816 w p)

/-- The gated hidden values. -/
def hidden (g u : FVec F S40x1024x2816 .f32) : FVec F S40x1024x2816 .f32 :=
  mulf (mulf g (Host.divf (broadcastInDim S40x1024x2816 ![] bcast_S_S40x1024x2816 (constant S_ .f32 0x3F800000#32)) (addf (broadcastInDim S40x1024x2816 ![] bcast_S_S40x1024x2816 (constant S_ .f32 0x3F800000#32)) (Host.exp (Host.negf g))))) u

/-- The hidden values by each block's own last matrix. -/
def down (h : FVec F S40x1024x2816 .f32) (w : FVec F S16x2816x1024 .f32) (p : IVec S40x1 32) : FVec F S40x1024x1024 .f32 :=
  Host.dotGeneral dot_S40x1024x2816_S40x2816x1024_S40x1024x1024_2_1_1_2_0_0 none h (Host.gather gather_S16x2816x1024_S40x1_S40x2816x1024_12_0_n_n_0_1_128161024 w p)

/-- Zeros outside the used blocks. -/
def masked (nu : IVec S1 32) (y : FVec F S40x1024x1024 .f32) : FVec F S40960x1024 .f32 :=
  shapeCast _ (select (broadcastInDim S40x1024x1024 ![0, 1, 2] bcast_S40x1x1_S40x1024x1024_0_1_2 (broadcastInDim S40x1x1 ![0] bcast_S40_S40x1x1_0 (cmpi .slt (iotaInDim S40 32 0) (broadcastInDim S40 ![] bcast_S_S40 (shapeCast _ nu shapeCasts_S1_S_))))) y (broadcastInDim S40x1024x1024 ![] bcast_S_S40x1024x1024 (id (constant S_ .f32 0x00000000#32)))) shapeCasts_S40x1024x1024_S40960x1024

/-- The whole reference. -/
def whole (be : IVec S40 32) (nu : IVec S1 32) (x : FVec F S40960x1024 .f32) (wg wu : FVec F S16x1024x2816 .f32) (wd : FVec F S16x2816x1024 .f32) : FVec F S40960x1024 .f32 :=
  masked nu (down (hidden (proj x wg (pick be)) (proj x wu (pick be))) wd (pick be))

end

/-! ## Each stage at an index -/

/-- A word among the first sixteen numbers is its own index. -/
theorem pick_apply (be : IVec S40 32) (b : Fin 40) (e : Fin 16) (h : be (ix1 b) = BitVec.ofNat 32 e.val) : pick be (ix2 b 0) = BitVec.ofNat 32 e.val := by
  have k : ∀ e : Fin 16, Scalar.select (IntOp.cmpi .slt (BitVec.ofNat 32 e.val) 0#32) (IntOp.addi (BitVec.ofNat 32 e.val) 16#32) (BitVec.ofNat 32 e.val) = BitVec.ofNat 32 e.val := by decide
  pointwise [pick]
  rw [h]
  exact k e

theorem gather_up (w : FVec Ideal S16x1024x2816 .f32) (p : IVec S40x1 32) (b : Fin 40) (e : Fin 16) (h : p (ix2 b 0) = BitVec.ofNat 32 e.val) (k : Fin 1024) (f : Fin 2816) :
    Host.gather gather_S16x1024x2816_S40x1_S40x1024x2816_12_0_n_n_0_1_110242816 w p (ix3 b k f) = w (ix3 e k f) := by
  have en : ∀ e : Fin 16, min (BitVec.ofNat 32 e.val).toInt.toNat 15 = e.val := by decide
  refine congrArg w (funext fun a => Fin.ext ?_)
  match a with
  | ⟨0, _⟩ =>
    refine (congrArg (fun q : BitVec 32 => min q.toInt.toNat 15) (?_ : (p _ : BitVec 32) = BitVec.ofNat 32 e.val)).trans (en e)
    refine Eq.trans (congrArg p (a₂ := ix2 b 0) (funext fun a => ?_)) h
    match a with | ⟨0, _⟩ => rfl | ⟨1, _⟩ => rfl
  | ⟨1, _⟩ => show 0 + 0 + k.val = k.val; omega
  | ⟨2, _⟩ => show 0 + 0 + f.val = f.val; omega

theorem gather_down (w : FVec Ideal S16x2816x1024 .f32) (p : IVec S40x1 32) (b : Fin 40) (e : Fin 16) (h : p (ix2 b 0) = BitVec.ofNat 32 e.val) (f : Fin 2816) (n : Fin 1024) :
    Host.gather gather_S16x2816x1024_S40x1_S40x2816x1024_12_0_n_n_0_1_128161024 w p (ix3 b f n) = w (ix3 e f n) := by
  have en : ∀ e : Fin 16, min (BitVec.ofNat 32 e.val).toInt.toNat 15 = e.val := by decide
  refine congrArg w (funext fun a => Fin.ext ?_)
  match a with
  | ⟨0, _⟩ =>
    refine (congrArg (fun q : BitVec 32 => min q.toInt.toNat 15) (?_ : (p _ : BitVec 32) = BitVec.ofNat 32 e.val)).trans (en e)
    refine Eq.trans (congrArg p (a₂ := ix2 b 0) (funext fun a => ?_)) h
    match a with | ⟨0, _⟩ => rfl | ⟨1, _⟩ => rfl
  | ⟨1, _⟩ => show 0 + 0 + f.val = f.val; omega
  | ⟨2, _⟩ => show 0 + 0 + n.val = n.val; omega

/-- A row of the array that a block's row is. -/
def row (b : Fin 40) (r : Fin 1024) : Fin 40960 := ⟨b.val * 1024 + r.val, by omega⟩

theorem proj_apply (x : FVec Ideal S40960x1024 .f32) (w : FVec Ideal S16x1024x2816 .f32) (p : IVec S40x1 32) (b : Fin 40) (e : Fin 16) (h : p (ix2 b 0) = BitVec.ofNat 32 e.val) (r : Fin 1024) (f : Fin 2816) :
    proj x w p (ix3 b r f) = ∑ k : Fin 1024, x (ix2 (row b r) k) * w (ix3 e k f) := by
  have g := gather_up w p b e h
  generalize hG : Host.gather gather_S16x1024x2816_S40x1_S40x1024x2816_12_0_n_n_0_1_110242816 w p = G at g
  unfold proj
  rw [hG]
  pointwise []
  exact Finset.sum_congr rfl fun k _ => congrArg (_ * ·) (g k f)

theorem hidden_apply (g u : FVec Ideal S40x1024x2816 .f32) (b : Fin 40) (r : Fin 1024) (f : Fin 2816) :
    hidden g u (ix3 b r f) = g (ix3 b r f) * Ideal.logistic (g (ix3 b r f)) * u (ix3 b r f) := by
  pointwise [hidden]
  rfl

theorem down_apply (x : FVec Ideal S40x1024x2816 .f32) (w : FVec Ideal S16x2816x1024 .f32) (p : IVec S40x1 32) (b : Fin 40) (e : Fin 16) (h : p (ix2 b 0) = BitVec.ofNat 32 e.val) (r n : Fin 1024) :
    down x w p (ix3 b r n) = ∑ f : Fin 2816, x (ix3 b r f) * w (ix3 e f n) := by
  have g := gather_down w p b e h
  generalize hG : Host.gather gather_S16x2816x1024_S40x1_S40x2816x1024_12_0_n_n_0_1_128161024 w p = G at g
  unfold down
  rw [hG]
  pointwise []
  exact Finset.sum_congr rfl fun f _ => congrArg (_ * ·) (g f n)

theorem masked_apply (nu : IVec S1 32) (n : Fin 40) (hn : nu = fun _ => BitVec.ofNat 32 (n.val + 1)) (y : FVec Ideal S40x1024x1024 .f32) (R : Fin 40960) (k : Fin 1024) :
    masked nu y (ix2 R k) = if R.val / 1024 ≤ n.val then y (ix3 ⟨R.val / 1024, by omega⟩ ⟨R.val % 1024, by omega⟩ k) else 0 := by
  have s : ∀ i n : Fin 40, IntOp.cmpi .slt (BitVec.ofNat 32 i.val) (BitVec.ofNat 32 (n.val + 1)) = BitVec.ofBool (decide (i.val ≤ n.val)) := by decide +kernel
  have sR := s ⟨R.val / 1024, by omega⟩ n
  subst hn
  pointwise [masked]
  simp only [id, constant_apply]
  rw [sR]
  by_cases a : R.val / 1024 ≤ n.val
  · simp only [a, decide_true, if_true]; rfl
  · simp only [a, decide_false, if_false]
    exact Ideal.ofBits_zero_f32

/-- The mathematics: each used block of rows through its own expert, zeros after them. -/
def spec (n : ℕ) (e : Fin 40 → Fin 16) (x : FVec Ideal S40960x1024 .f32) (wg wu : FVec Ideal S16x1024x2816 .f32) (wd : FVec Ideal S16x2816x1024 .f32) : FVec Ideal S40960x1024 .f32 := fun y =>
  if (y 0).val / 1024 ≤ n then
    ∑ f : Fin 2816,
      (∑ k : Fin 1024, x (ix2 (y 0) k) * wg (ix3 (e ⟨(y 0).val / 1024, by have : (y 0).val < 40960 := (y 0).isLt; omega⟩) k f))
        * Ideal.logistic (∑ k : Fin 1024, x (ix2 (y 0) k) * wg (ix3 (e ⟨(y 0).val / 1024, by have : (y 0).val < 40960 := (y 0).isLt; omega⟩) k f))
        * (∑ k : Fin 1024, x (ix2 (y 0) k) * wu (ix3 (e ⟨(y 0).val / 1024, by have : (y 0).val < 40960 := (y 0).isLt; omega⟩) k f))
        * wd (ix3 (e ⟨(y 0).val / 1024, by have : (y 0).val < 40960 := (y 0).isLt; omega⟩) f (y 1))
  else 0

/-- The reference is the mathematics. -/
theorem whole_eq (be : IVec S40 32) (nu : IVec S1 32) (x : FVec Ideal S40960x1024 .f32) (wg wu : FVec Ideal S16x1024x2816 .f32) (wd : FVec Ideal S16x2816x1024 .f32)
    (n : Fin 40) (hn : nu = fun _ => BitVec.ofNat 32 (n.val + 1)) (e : Fin 40 → Fin 16) (he : ∀ b, be (ix1 b) = BitVec.ofNat 32 (e b).val) :
    whole be nu x wg wu wd = spec n.val e x wg wu wd := by
  funext y
  obtain ⟨R, k, rfl⟩ : ∃ (R : Fin 40960) (k : Fin 1024), y = ix2 R k := ⟨y 0, y 1, funext fun a => match a with | ⟨0, _⟩ => rfl | ⟨1, _⟩ => rfl⟩
  have hr : row ⟨R.val / 1024, by omega⟩ ⟨R.val % 1024, by omega⟩ = R := Fin.ext (by simp only [row]; omega)
  have p := pick_apply be ⟨R.val / 1024, by omega⟩ _ (he _)
  unfold whole
  rw [masked_apply nu n hn]
  show _ = if R.val / 1024 ≤ n.val then _ else _
  split
  · rw [down_apply _ _ _ _ _ p]
    refine Finset.sum_congr rfl fun f _ => ?_
    rw [hidden_apply, proj_apply _ _ _ _ _ p, proj_apply _ _ _ _ _ p, hr]
    rfl
  · rfl

variable {F : FTy → Type} [FloatOps F]

/-- The reference's run: its result at the stages' composition of the arguments, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  unfold whole masked down hidden proj pick
  exact Cert.ExpertsRefIdeal.Value.run m ρ

end Cert.ExpertsRefIdeal.Stages

end
-- ==== Proof.ExpertsIdealStep.lean ====
/-
  What one grid point of the experts' call leaves in the scratches and in the output block, as the payloads of its loads.
-/
module

public import proofs.«01_k».proof.Proof.Gen.ExpertsIdeal.Skeleton
public import proofs.«01_k».proof.Proof.Gen.ExpertsIdeal.Flash.Pins

public import proofs.«01_k».proof.Proof.Gen.ExpertsIdeal.Flash.Runs
public import proofs.«01_k».proof.Proof.WholeBlock

@[expose] public section

set_option maxRecDepth 16384

noncomputable section

namespace Cert.ExpertsIdeal.Step

open Cert.ExpertsIdeal.Gen
open Cert.WholeBlock
open Cert.ExpertsIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The first tile keeps the rows, rounded. -/
theorem runA_x (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x1024 .f32) (harg8 : arg8.IsWhole) (T0 : (S40.Idx → Elt Ideal .i32)) (T1 : (S1.Idx → Elt Ideal .i32))
     (x0 : (S1024x1024.Idx → Elt Ideal .f32)) (x1 : (S1x1024x256.Idx → Elt Ideal .f32)) (x2 : (S1x1024x256.Idx → Elt Ideal .f32)) (x3 : (S1x256x1024.Idx → Elt Ideal .f32)) (hc0 : (Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    (kernelRun0_A c i arg4 harg4 arg5 harg5 arg6 harg6 arg7 harg7 arg8 harg8 T0 T1 x0 x1 x2 x3 hc0 hc1 k0_h3 k0_h4).1 = k0_pay1 x0 := by
  unfold kernelRun0_A
  dsimp only
  sl_unfold_words
  rw [readAt_rep _ x0 zero2]
  exact writes_whole (Val := Elt Ideal) cc0_scratch0 _ (off := ![0, 0]) zero2 inb_S1024x1024_S1024x1024_0_0 _ _

/-- The first tile leaves its own product in the running sum. -/
theorem runA_acc (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x1024 .f32) (harg8 : arg8.IsWhole) (T0 : (S40.Idx → Elt Ideal .i32)) (T1 : (S1.Idx → Elt Ideal .i32))
     (x0 : (S1024x1024.Idx → Elt Ideal .f32)) (x1 : (S1x1024x256.Idx → Elt Ideal .f32)) (x2 : (S1x1024x256.Idx → Elt Ideal .f32)) (x3 : (S1x256x1024.Idx → Elt Ideal .f32)) (hc0 : (Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    (kernelRun0_A c i arg4 harg4 arg5 harg5 arg6 harg6 arg7 harg7 arg8 harg8 T0 T1 x0 x1 x2 x3 hc0 hc1 k0_h3 k0_h4).2.1 = k0_pay3 (F := Ideal) (k0_pay1 x0) x1 x2 (k0_pay2 (F := Ideal)) x3 := by
  unfold kernelRun0_A
  dsimp only
  sl_unfold_words
  rw [readAt_rep _ x1 zero3, readAt_rep _ x2 zero3, readAt_rep _ x3 zero3, readAt_rep _ x0 zero2, readCov_store _ zero2 zero2, readCov_store _ zero2 zero2]
  exact writes_whole (Val := Elt Ideal) cc0_scratch1 _ (off := ![0, 0]) zero2 inb_S1024x1024_S1024x1024_0_0 _ _

/-- A later tile adds its product to the running sum. -/
theorem runB_acc (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x1024 .f32) (harg8 : arg8.IsWhole) (T0 : (S40.Idx → Elt Ideal .i32)) (T1 : (S1.Idx → Elt Ideal .i32))
     (x0 : (S1024x1024.Idx → Elt Ideal .f32)) (x1 : (S1x1024x256.Idx → Elt Ideal .f32)) (x2 : (S1x1024x256.Idx → Elt Ideal .f32)) (x3 : (S1x256x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1)) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    (kernelRun0_B c i arg4 harg4 arg5 harg5 arg6 harg6 arg7 harg7 arg8 harg8 T0 T1 x0 x1 x2 x3 xa0 xa1 hc0 hc1 k0_h3 k0_h4).2.1 = k0_pay3 xa0 x1 x2 xa1 x3 := by
  unfold kernelRun0_B
  dsimp only
  sl_unfold_words
  rw [readAt_rep _ x1 zero3, readAt_rep _ x2 zero3, readAt_rep _ x3 zero3, readAt_all _ _ zero2, readAt_all _ _ zero2]
  exact writes_whole (Val := Elt Ideal) cc0_scratch1 _ (off := ![0, 0]) zero2 inb_S1024x1024_S1024x1024_0_0 _ _

/-- A later tile leaves the rows it was given. -/
theorem runB_x (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x1024 .f32) (harg8 : arg8.IsWhole) (T0 : (S40.Idx → Elt Ideal .i32)) (T1 : (S1.Idx → Elt Ideal .i32))
     (x0 : (S1024x1024.Idx → Elt Ideal .f32)) (x1 : (S1x1024x256.Idx → Elt Ideal .f32)) (x2 : (S1x1024x256.Idx → Elt Ideal .f32)) (x3 : (S1x256x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1)) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    (kernelRun0_B c i arg4 harg4 arg5 harg5 arg6 harg6 arg7 harg7 arg8 harg8 T0 T1 x0 x1 x2 x3 xa0 xa1 hc0 hc1 k0_h3 k0_h4).1 = xa0 := by
  unfold kernelRun0_B
  dsimp only

/-- The last tile writes the running sum, its own product added. -/
theorem runC_out (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x1024 .f32) (harg8 : arg8.IsWhole) (T0 : (S40.Idx → Elt Ideal .i32)) (T1 : (S1.Idx → Elt Ideal .i32))
     (x0 : (S1024x1024.Idx → Elt Ideal .f32)) (x1 : (S1x1024x256.Idx → Elt Ideal .f32)) (x2 : (S1x1024x256.Idx → Elt Ideal .f32)) (x3 : (S1x256x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1)) (hc1 : (Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1) (k0_h3 : k0_cond3 i (View.readAt (Elt Ideal) (tbM0_1).view (Rect.unit (s := S1) ![0] S1.size inb_S1_S1_0).toLoadRect T1 (Shape.Idx.first (numel1_S1.symm ▸ Nat.one_pos))) = 1#1) (k0_h4 : ¬(k0_cond4 i (View.readAt (Elt Ideal) (tbM0_1).view (Rect.unit (s := S1) ![0] S1.size inb_S1_S1_0).toLoadRect T1 (Shape.Idx.first (numel1_S1.symm ▸ Nat.one_pos))) = 1#1)) :
    out0_C_4 c i arg4 harg4 arg5 harg5 arg6 harg6 arg7 harg7 arg8 harg8 T0 T1 x0 x1 x2 x3 xa0 xa1 hc0 hc1 k0_h3 k0_h4 = k0_pay3 xa0 x1 x2 xa1 x3 := by
  unfold out0_C_4
  unfold kernelRun0_C
  dsimp only
  sl_unfold_words
  rw [readAt_rep _ x1 zero3, readAt_rep _ x2 zero3, readAt_rep _ x3 zero3, readAt_all _ _ zero2, readAt_all _ _ zero2, readCov_store _ zero2 zero2]
  exact read_store _ _ zero2 _ _ _

/-- A block past the used ones is written zeros. -/
theorem runD_out (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x1024 .f32) (harg8 : arg8.IsWhole) (T0 : (S40.Idx → Elt Ideal .i32)) (T1 : (S1.Idx → Elt Ideal .i32))
     (x0 : (S1024x1024.Idx → Elt Ideal .f32)) (x1 : (S1x1024x256.Idx → Elt Ideal .f32)) (x2 : (S1x1024x256.Idx → Elt Ideal .f32)) (x3 : (S1x256x1024.Idx → Elt Ideal .f32)) (xa0 : Buf (Elt Ideal) ((c : Thread nD τ).loc cc0_scratch0)) (xa1 : Buf (Elt Ideal) ((c : Thread nD τ).loc cc0_scratch1)) (hc0 : ¬((Scalar.cmpi .ne (Scalar.extui (Scalar.andi (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos)))) (Scalar.cmpi .eq (BitVec.ofNat 32 (i 1).val) 0#32))) 0#32) = 1#1)) (hc1 : ¬((Scalar.cmpi .ne (Scalar.extui (Scalar.cmpi .slt (BitVec.ofNat 32 (i 0).val) (View.readAt (Elt Ideal) (tbM0_1).view (Rect.unit (s := S1) ![0] S1.size inb_S1_S1_0).toLoadRect T1 (Shape.Idx.first (numel1_S1.symm ▸ Nat.one_pos))))) 0#32) = 1#1)) (k0_h3 : ¬(k0_cond3 i (View.readAt (Elt Ideal) (tbM0_1).view (Rect.unit (s := S1) ![0] S1.size inb_S1_S1_0).toLoadRect T1 (Shape.Idx.first (numel1_S1.symm ▸ Nat.one_pos))) = 1#1)) (k0_h4 : k0_cond4 i (View.readAt (Elt Ideal) (tbM0_1).view (Rect.unit (s := S1) ![0] S1.size inb_S1_S1_0).toLoadRect T1 (Shape.Idx.first (numel1_S1.symm ▸ Nat.one_pos))) = 1#1) :
    out0_D_4 c i arg4 harg4 arg5 harg5 arg6 harg6 arg7 harg7 arg8 harg8 T0 T1 x0 x1 x2 x3 xa0 xa1 hc0 hc1 k0_h3 k0_h4 = k0_pay4 (F := Ideal) := by
  unfold out0_D_4
  unfold kernelRun0_D
  dsimp only
  sl_unfold_words
  exact read_store _ _ zero2 _ _ _

end Cert.ExpertsIdeal.Step

end
-- ==== Proof.ExpertsIdealValue.lean ====
/-
  What the experts' call computes at exact values: the running sum at every grid point, the array the run ends with, and
  that it is the mathematics' — each used block of rows through its own expert, zeros after them.
-/
module

public import proofs.«01_k».proof.Proof.ExpertsRefStages
public import proofs.«01_k».proof.Proof.ExpertsIdealStep
public import proofs.«01_k».proof.Proof.ExpertsIdealTables
public import Idealize.ShloMosaic.Lib.Pipeline.ValueKit
public import Idealize.ShloMosaic.Lib.Pointwise

@[expose] public section

set_option maxRecDepth 16384

noncomputable section

namespace Cert.ExpertsIdeal.Tables

open Cert.ExpertsIdeal
open Cert.ExpertsIdeal.Gen hiding pinT_0 pinT_1 pfN Pinned okcons
open Idealize.ShloMosaic
open Idealize.ShloMosaic.TcCoe Idealize.ShloMosaic.Tactic
open Idealize.ShloMosaic.Pipeline (Dat Cfg Window)
open Cert.ExpertsIdeal.Step

/-! ## The payloads at an index -/

theorem two (y : S1024x1024.Idx) : ∃ r n : Fin 1024, y = ix2 r n := ⟨y 0, y 1, funext fun a => match a with | ⟨0, _⟩ => rfl | ⟨1, _⟩ => rfl⟩

theorem pay1 (x : Vec Ideal S1024x1024 .f32) : k0_pay1 (F := Ideal) x = x := by
  funext y
  obtain ⟨r, n, rfl⟩ := two y
  pointwise [k0_pay1]

theorem pay2 (r n : Fin 1024) : k0_pay2 (F := Ideal) (ix2 r n) = 0 := by
  pointwise [k0_pay2]

theorem pay4 (r n : Fin 1024) : k0_pay4 (F := Ideal) (ix2 r n) = 0 := by
  pointwise [k0_pay4]

theorem pay3 (x : Vec Ideal S1024x1024 .bf16) (g u : Vec Ideal S1x1024x256 .f32) (a : Vec Ideal S1024x1024 .f32) (d : Vec Ideal S1x256x1024 .f32) (r n : Fin 1024) :
    k0_pay3 (F := Ideal) x g u a d (ix2 r n) = a (ix2 r n) + ∑ h : Fin 256,
      (∑ k : Fin 1024, x (ix2 r k) * g (ix3 0 k h)) * Ideal.logistic (∑ k : Fin 1024, x (ix2 r k) * g (ix3 0 k h))
        * (∑ k : Fin 1024, x (ix2 r k) * u (ix3 0 k h)) * d (ix3 0 h n) := by
  pointwise [k0_pay3]

/-! ## A sum by tiles -/

/-- A sum of 256 terms at a time. -/
theorem sum_tiles (T : ℕ → EReal) (a : ℕ) : ∑ f ∈ Finset.range (256 * a), T f = ∑ j ∈ Finset.range a, ∑ h : Fin 256, T (256 * j + h.val) := by
  induction a with
  | zero => rfl
  | succ a ih =>
    rw [Finset.sum_range_succ (fun j => ∑ h : Fin 256, T (256 * j + h.val)) a, Nat.mul_succ, Finset.sum_range_add, ih, Finset.sum_range (fun x => T (256 * a + x))]

/-! ## The path of a grid point, and the blocks there -/

variable (ch : Tab) (m : (ℓ : Loc nD τ sig) → Buf (Elt Ideal) ℓ) (ρ : Dev nD → PrngReg)
variable (n : Fin 40) (hn : ch.1.1 1 = fun _ => BitVec.ofNat 32 (n.val + 1))
variable (e : Fin 40 → Fin 16) (he : ∀ b : Fin 40, ch.1.1 0 (ix1 b) = BitVec.ofNat 32 (e b).val)

include hn

theorem word_eq : View.readAt (Elt Ideal) (tbM0_1).view (Rect.unit (s := S1) ![0] S1.size inb_S1_S1_0).toLoadRect (pinT_1 ch) (Shape.Idx.first (numel1_S1.symm ▸ Nat.one_pos)) = BitVec.ofNat 32 (n.val + 1) := by
  show pinT_1 ch _ = _
  exact congrFun hn _

theorem P0_0_iff (t : Fin (cfgA ch).N) : P0_0 ch t ↔ (t.val / 11 ≤ n.val ∧ t.val % 11 = 0) := by
  have ht : t.val < 440 := lt_of_lt_of_eq t.isLt (by decide +kernel : grid0.N = 440)
  obtain ⟨h0, h1⟩ := crd_eq t
  unfold P0_0; rw [word_eq ch n hn]; rw [show ((crd ch t) 0).val = t.val / 11 from h0, show ((crd ch t) 1).val = t.val % 11 from h1, slt_eq ⟨t.val / 11, by omega⟩ n, eq0_eq ⟨t.val % 11, by omega⟩]
  by_cases a : t.val / 11 ≤ n.val <;> by_cases b : t.val % 11 = 0 <;> simp [a, b] <;> decide

theorem P0_1_iff (t : Fin (cfgA ch).N) : P0_1 ch t ↔ t.val / 11 ≤ n.val := by
  have ht : t.val < 440 := lt_of_lt_of_eq t.isLt (by decide +kernel : grid0.N = 440)
  obtain ⟨h0, h1⟩ := crd_eq t
  unfold P0_1; rw [word_eq ch n hn]; rw [show ((crd ch t) 0).val = t.val / 11 from h0, slt_eq ⟨t.val / 11, by omega⟩ n]
  by_cases a : t.val / 11 ≤ n.val <;> simp [a] <;> decide

theorem P0_2_iff (t : Fin (cfgA ch).N) : P0_2 ch t ↔ (t.val / 11 ≤ n.val ∧ t.val % 11 = 10) := by
  have ht : t.val < 440 := lt_of_lt_of_eq t.isLt (by decide +kernel : grid0.N = 440)
  obtain ⟨h0, h1⟩ := crd_eq t
  unfold P0_2 k0_cond3; rw [word_eq ch n hn]; dsimp only; rw [show ((crd ch t) 0).val = t.val / 11 from h0, show ((crd ch t) 1).val = t.val % 11 from h1, slt_eq ⟨t.val / 11, by omega⟩ n, eq10_eq ⟨t.val % 11, by omega⟩]
  by_cases a : t.val / 11 ≤ n.val <;> by_cases b : t.val % 11 = 10 <;> simp [a, b] <;> decide

theorem P0_3_iff (t : Fin (cfgA ch).N) : P0_3 ch t ↔ (¬ t.val / 11 ≤ n.val ∧ t.val % 11 = 0) := by
  have ht : t.val < 440 := lt_of_lt_of_eq t.isLt (by decide +kernel : grid0.N = 440)
  obtain ⟨h0, h1⟩ := crd_eq t
  unfold P0_3 k0_cond4; rw [word_eq ch n hn]; dsimp only; rw [show ((crd ch t) 0).val = t.val / 11 from h0, show ((crd ch t) 1).val = t.val % 11 from h1, slt_eq ⟨t.val / 11, by omega⟩ n, eq0_eq ⟨t.val % 11, by omega⟩]
  by_cases a : t.val / 11 ≤ n.val <;> by_cases b : t.val % 11 = 0 <;> simp [a, b] <;> decide

/-- Past the used blocks a block's content is kept from its first tile on. -/
theorem kept (t : Fin (cfgA ch).N) (h : ¬ t.val / 11 ≤ n.val) (h' : t.val % 11 ≠ 0) : (cfgA ch).fresh (4 : Fin 5) t.val = false := by
  rw [freshF0_4]
  rcases t with ⟨_ | k, hk⟩
  · exact absurd (by simp) h
  · have e1 : pinT_1 ch (Shape.Idx.first (numel1_S1.symm ▸ Nat.one_pos)) = BitVec.ofNat 32 (n.val + 1) := congrFun hn _
    have e2 : (BitVec.ofNat 32 (n.val + 1)).toNat = n.val + 1 := by simp; omega
    simp only [frTab0_4, e1, e2]
    simp only at h h'
    simp [h']
    omega

omit hn

/-- The block of rows an index map names. -/
theorem tr0 : ∀ i : grid0.Coords, cc0_transform_0 i = ![(i 0).val, 0] := by decide +kernel
theorem tr4 : ∀ i : grid0.Coords, cc0_transform_4 i = ![(i 0).val, 0] := by decide +kernel

theorem ofN : ∀ i : Fin 40, (Scalar.indexCast (BitVec.ofNat 32 i.val)).toNat + 1 * 0 = i.val := by decide
theorem ofE : ∀ i : Fin 16, (BitVec.ofNat 32 i.val).toNat = i.val := by decide
theorem ofJ : ∀ j : Fin 11, (Scalar.select (BitVec.ofBool true) (BitVec.ofNat 32 j.val) 10#32).toNat = j.val := by decide

include hn he in
/-- In a used block the weights' index maps name the block's expert and the tile. -/
theorem tr1 (i : grid0.Coords) (hi : (i 0).val ≤ n.val) :
    cc0_transform_1 k0_off1_inb numel1_S1 inb_S1_S1_0 ch.1.1 i = ![(e (i 0)).val, 0, (i 1).val]
    ∧ cc0_transform_2 k0_off1_inb numel1_S1 inb_S1_S1_0 ch.1.1 i = ![(e (i 0)).val, 0, (i 1).val]
    ∧ cc0_transform_3 k0_off1_inb numel1_S1 inb_S1_S1_0 ch.1.1 i = ![(e (i 0)).val, (i 1).val, 0] := by
  have k : ∀ x : S40.Idx, (x 0).val = (Scalar.indexCast (BitVec.ofNat 32 (i 0).val)).toNat + 1 * 0 → BitVec.toNat (ch.1.1 0 x : BitVec 32) = (e (i 0)).val := by
    intro x hx
    have : x = ix1 (i 0) := funext fun a => Fin.ext (match a with | ⟨0, _⟩ => hx.trans (ofN (i 0)))
    rw [this]; exact (congrArg BitVec.toNat (he (i 0))).trans (ofE _)
  have s : ∀ y : S1.Idx, (Scalar.select (Scalar.cmpi .slt (BitVec.ofNat 32 (i 0).val) (ch.1.1 1 y)) (BitVec.ofNat 32 (i 1).val) 10#32).toNat = (i 1).val := by
    intro y
    rw [show (ch.1.1 1 y : BitVec 32) = BitVec.ofNat 32 (n.val + 1) from congrFun hn y, slt_eq (i 0) n, decide_eq_true hi]; exact ofJ (i 1)
  have v1 : ∀ a a' b b' : ℕ, a = a' → b = b' → ![a, 0, b] = ![a', 0, b'] := by rintro a _ b _ rfl rfl; rfl
  have v2 : ∀ a a' b b' : ℕ, a = a' → b = b' → ![a, b, 0] = ![a', b', 0] := by rintro a _ b _ rfl rfl; rfl
  refine ⟨?_, ?_, ?_⟩
  · exact v1 _ _ _ _ (k _ rfl) (s _)
  · exact v1 _ _ _ _ (k _ rfl) (s _)
  · exact v2 _ _ _ _ (k _ rfl) (s _)

/-- The array's row that a block's row is. -/
def rowOf (b : Fin 40) (r : Fin 1024) : Fin 40960 := ⟨b.val * 1024 + r.val, by omega⟩
/-- The hidden column that a tile's column is. -/
def colOf (j : Fin 11) (h : Fin 256) : Fin 2816 := ⟨j.val * 256 + h.val, by omega⟩

/-- An argument of the run. -/
abbrev aX (c : Dev nD) : FVec Ideal S40960x1024 .f32 := m ((c : Thread nD τ).loc main_arg2)
/-- An argument of the run. -/
abbrev aG (c : Dev nD) : FVec Ideal S16x1024x2816 .f32 := m ((c : Thread nD τ).loc main_arg3)
/-- An argument of the run. -/
abbrev aU (c : Dev nD) : FVec Ideal S16x1024x2816 .f32 := m ((c : Thread nD τ).loc main_arg4)
/-- An argument of the run. -/
abbrev aD (c : Dev nD) : FVec Ideal S16x2816x1024 .f32 := m ((c : Thread nD τ).loc main_arg5)

/-- The block of rows. -/
def xb (c : Dev nD) (b : Fin 40) : S1024x1024.Idx → EReal := fun y => aX m c (ix2 (rowOf b (y 0)) (y 1))

theorem iblk_0 (c : Dev nD) (t : Fin (cfgA ch).N) : iblk ch m ρ c (0 : Fin 5) t = xb m c (crd ch t 0) := by
  funext y
  refine congrArg (aX m c) (funext fun a => Fin.ext ?_)
  match a with
  | ⟨0, _⟩ =>
    show cc0_transform_0 (crd ch t) 0 * 1024 + 1 * (y 0).val = (crd ch t 0).val * 1024 + (y 0).val
    rw [tr0]; show (crd ch t 0).val * 1024 + _ = _; omega
  | ⟨1, _⟩ =>
    show cc0_transform_0 (crd ch t) 1 * 1024 + 1 * (y 1).val = (y 1).val
    rw [tr0]; show 0 * 1024 + _ = _; omega

include hn he in
theorem iblk_1 (c : Dev nD) (t : Fin (cfgA ch).N) (ht : (crd ch t 0).val ≤ n.val) (k : Fin 1024) (h : Fin 256) :
    iblk ch m ρ c (1 : Fin 5) t (ix3 0 k h) = aG m c (ix3 (e (crd ch t 0)) k (colOf (crd ch t 1) h)) := by
  have E := (tr1 ch n hn e he (crd ch t) ht).1
  refine congrArg (aG m c) (funext fun a => Fin.ext ?_)
  match a with
  | ⟨0, _⟩ => show cc0_transform_1 k0_off1_inb numel1_S1 inb_S1_S1_0 ch.1.1 (crd ch t) 0 * 1 + 1 * 0 = (e (crd ch t 0)).val; rw [E]; show (e (crd ch t 0)).val * 1 + 1 * 0 = _; omega
  | ⟨1, _⟩ => show cc0_transform_1 k0_off1_inb numel1_S1 inb_S1_S1_0 ch.1.1 (crd ch t) 1 * 1024 + 1 * k.val = k.val; rw [E]; show 0 * 1024 + 1 * k.val = _; omega
  | ⟨2, _⟩ => show cc0_transform_1 k0_off1_inb numel1_S1 inb_S1_S1_0 ch.1.1 (crd ch t) 2 * 256 + 1 * h.val = (crd ch t 1).val * 256 + h.val; rw [E]; show (crd ch t 1).val * 256 + 1 * h.val = _; omega

include hn he in
theorem iblk_2 (c : Dev nD) (t : Fin (cfgA ch).N) (ht : (crd ch t 0).val ≤ n.val) (k : Fin 1024) (h : Fin 256) :
    iblk ch m ρ c (2 : Fin 5) t (ix3 0 k h) = aU m c (ix3 (e (crd ch t 0)) k (colOf (crd ch t 1) h)) := by
  have E := (tr1 ch n hn e he (crd ch t) ht).2.1
  refine congrArg (aU m c) (funext fun a => Fin.ext ?_)
  match a with
  | ⟨0, _⟩ => show cc0_transform_2 k0_off1_inb numel1_S1 inb_S1_S1_0 ch.1.1 (crd ch t) 0 * 1 + 1 * 0 = (e (crd ch t 0)).val; rw [E]; show (e (crd ch t 0)).val * 1 + 1 * 0 = _; omega
  | ⟨1, _⟩ => show cc0_transform_2 k0_off1_inb numel1_S1 inb_S1_S1_0 ch.1.1 (crd ch t) 1 * 1024 + 1 * k.val = k.val; rw [E]; show 0 * 1024 + 1 * k.val = _; omega
  | ⟨2, _⟩ => show cc0_transform_2 k0_off1_inb numel1_S1 inb_S1_S1_0 ch.1.1 (crd ch t) 2 * 256 + 1 * h.val = (crd ch t 1).val * 256 + h.val; rw [E]; show (crd ch t 1).val * 256 + 1 * h.val = _; omega

include hn he in
theorem iblk_3 (c : Dev nD) (t : Fin (cfgA ch).N) (ht : (crd ch t 0).val ≤ n.val) (h : Fin 256) (k : Fin 1024) :
    iblk ch m ρ c (3 : Fin 5) t (ix3 0 h k) = aD m c (ix3 (e (crd ch t 0)) (colOf (crd ch t 1) h) k) := by
  have E := (tr1 ch n hn e he (crd ch t) ht).2.2
  refine congrArg (aD m c) (funext fun a => Fin.ext ?_)
  match a with
  | ⟨0, _⟩ => show cc0_transform_3 k0_off1_inb numel1_S1 inb_S1_S1_0 ch.1.1 (crd ch t) 0 * 1 + 1 * 0 = (e (crd ch t 0)).val; rw [E]; show (e (crd ch t 0)).val * 1 + 1 * 0 = _; omega
  | ⟨1, _⟩ => show cc0_transform_3 k0_off1_inb numel1_S1 inb_S1_S1_0 ch.1.1 (crd ch t) 1 * 256 + 1 * h.val = (crd ch t 1).val * 256 + h.val; rw [E]; show (crd ch t 1).val * 256 + 1 * h.val = _; omega
  | ⟨2, _⟩ => show cc0_transform_3 k0_off1_inb numel1_S1 inb_S1_S1_0 ch.1.1 (crd ch t) 2 * 1024 + 1 * k.val = k.val; rw [E]; show 0 * 1024 + 1 * k.val = _; omega

/-! ## The running sum -/

/-- One hidden column's part of one value of block `b`'s rows. -/
def term (c : Dev nD) (b : Fin 40) (r k : Fin 1024) (f : Fin 2816) : EReal :=
  (∑ i : Fin 1024, aX m c (ix2 (rowOf b r) i) * aG m c (ix3 (e b) i f))
    * Ideal.logistic (∑ i : Fin 1024, aX m c (ix2 (rowOf b r) i) * aG m c (ix3 (e b) i f))
    * (∑ i : Fin 1024, aX m c (ix2 (rowOf b r) i) * aU m c (ix3 (e b) i f))
    * aD m c (ix3 (e b) f k)

/-- The same at any number, nothing past the last column. -/
def termN (c : Dev nD) (b : Fin 40) (r k : Fin 1024) (f : ℕ) : EReal := if h : f < 2816 then term m e c b r k ⟨f, h⟩ else 0

include hn he in
/-- A grid point adds its tile's columns. -/
theorem add_tile (c : Dev nD) (t : Fin (cfgA ch).N) (ht : (crd ch t 0).val ≤ n.val) (a : Vec Ideal S1024x1024 .f32) (r k : Fin 1024) :
    k0_pay3 (F := Ideal) (xb m c (crd ch t 0)) (iblk ch m ρ c (1 : Fin 5) t) (iblk ch m ρ c (2 : Fin 5) t) a (iblk ch m ρ c (3 : Fin 5) t) (ix2 r k)
      = a (ix2 r k) + ∑ h : Fin 256, termN m e c (crd ch t 0) r k (256 * (crd ch t 1).val + h.val) := by
  rw [pay3]
  refine congrArg (a (ix2 r k) + ·) (Finset.sum_congr rfl fun h _ => ?_)
  have hc : 256 * (crd ch t 1).val + h.val < 2816 := by have : (crd ch t 1).val < 11 := (crd ch t 1).isLt; omega
  have hcol : (⟨256 * (crd ch t 1).val + h.val, hc⟩ : Fin 2816) = colOf (crd ch t 1) h := Fin.ext (by simp only [colOf]; omega)
  have g1 := fun i => iblk_1 ch m ρ n hn e he c t ht i h
  have g2 := fun i => iblk_2 ch m ρ n hn e he c t ht i h
  have g3 := iblk_3 ch m ρ n hn e he c t ht h k
  unfold termN
  rw [dif_pos hc, hcol]
  unfold term
  simp only [g1, g2, g3]
  rfl

theorem crd0 (t : Fin (cfgA ch).N) : (crd ch t 0).val = t.val / 11 := (crd_eq t).1
theorem crd1 (t : Fin (cfgA ch).N) : (crd ch t 1).val = t.val % 11 := (crd_eq t).2

/-- What the output block and the scratches hold at a point. -/
abbrev St (c : Dev nD) : Type := (S1024x1024.Idx → Elt Ideal .f32) × Buf (Elt Ideal) ((c : Thread nD τ).loc cc0_scratch0) × Buf (Elt Ideal) ((c : Thread nD τ).loc cc0_scratch1)

/-- The running sum at an element. -/
abbrev acc {c : Dev nD} (s : St c) (r k : Fin 1024) : EReal := s.2.2 (ix2 r k)

include hn he in
/-- A used block's first tile. -/
theorem first (c : Dev nD) (t : Fin (cfgA ch).N) (prev : St c) (hb : t.val / 11 ≤ n.val) (hj : t.val % 11 = 0) :
    (step0 ch m ρ c t prev).2.1 = xb m c (crd ch t 0)
    ∧ ∀ r k : Fin 1024, acc (step0 ch m ρ c t prev) r k = ∑ h : Fin 256, termN m e c (crd ch t 0) r k (256 * (t.val % 11) + h.val) := by
  have q0 : P0_0 ch t := (P0_0_iff ch n hn t).2 ⟨hb, hj⟩
  have ex : k0_pay1 (F := Ideal) (iblk ch m ρ c (0 : Fin 5) t) = xb m c (crd ch t 0) := (pay1 _).trans (iblk_0 ch m ρ c t)
  have ea := congrArg (fun z => k0_pay3 (F := Ideal) z (iblk ch m ρ c (1 : Fin 5) t) (iblk ch m ρ c (2 : Fin 5) t) (k0_pay2 (F := Ideal)) (iblk ch m ρ c (3 : Fin 5) t)) ex
  have st := step0_A ch m ρ c t prev q0
  have s1 : (step0 ch m ρ c t prev).2.1 = _ := congrArg (fun s : St c => s.2.1) st
  dsimp only at s1
  have s2 : (step0 ch m ρ c t prev).2.2 = _ := congrArg (fun s : St c => s.2.2) st
  dsimp only at s2
  refine ⟨(s1.trans (runA_x ..)).trans ex, fun r k => (congrFun ((s2.trans (runA_acc ..)).trans ea) (ix2 r k)).trans ?_⟩
  beta_reduce
  rw [add_tile ch m ρ n hn e he c t (by rw [crd0]; exact hb), pay2, zero_add, crd1]

include hn he in
/-- A used block's later tile but the last. -/
theorem later (c : Dev nD) (t : Fin (cfgA ch).N) (prev : St c) (hb : t.val / 11 ≤ n.val) (hj : t.val % 11 ≠ 0) (hl : t.val % 11 ≠ 10) (hx : prev.2.1 = xb m c (crd ch t 0)) :
    (step0 ch m ρ c t prev).2.1 = xb m c (crd ch t 0)
    ∧ ∀ r k : Fin 1024, acc (step0 ch m ρ c t prev) r k = acc prev r k + ∑ h : Fin 256, termN m e c (crd ch t 0) r k (256 * (t.val % 11) + h.val) := by
  have q0 : ¬ P0_0 ch t := fun h => hj ((P0_0_iff ch n hn t).1 h).2
  have q1 : P0_1 ch t := (P0_1_iff ch n hn t).2 hb
  have q2 : ¬ P0_2 ch t := fun h => hl ((P0_2_iff ch n hn t).1 h).2
  have ea := congrArg (fun z => k0_pay3 (F := Ideal) z (iblk ch m ρ c (1 : Fin 5) t) (iblk ch m ρ c (2 : Fin 5) t) prev.2.2 (iblk ch m ρ c (3 : Fin 5) t)) hx
  have st := step0_B ch m ρ c t prev q0 q1 q2
  have s1 : (step0 ch m ρ c t prev).2.1 = _ := congrArg (fun s : St c => s.2.1) st
  dsimp only at s1
  have s2 : (step0 ch m ρ c t prev).2.2 = _ := congrArg (fun s : St c => s.2.2) st
  dsimp only at s2
  refine ⟨(s1.trans (runB_x ..)).trans hx, fun r k => (congrFun ((s2.trans (runB_acc ..)).trans ea) (ix2 r k)).trans ?_⟩
  beta_reduce
  rw [add_tile ch m ρ n hn e he c t (by rw [crd0]; exact hb), crd1]

include hn he in
/-- A used block's last tile. -/
theorem last (c : Dev nD) (t : Fin (cfgA ch).N) (prev : St c) (hb : t.val / 11 ≤ n.val) (hl : t.val % 11 = 10) (hx : prev.2.1 = xb m c (crd ch t 0)) (r k : Fin 1024) :
    (step0 ch m ρ c t prev).1 (ix2 r k) = acc prev r k + ∑ h : Fin 256, termN m e c (crd ch t 0) r k (256 * (t.val % 11) + h.val) := by
  have q0 : ¬ P0_0 ch t := fun h => by have := ((P0_0_iff ch n hn t).1 h).2; omega
  have q1 : P0_1 ch t := (P0_1_iff ch n hn t).2 hb
  have q2 : P0_2 ch t := (P0_2_iff ch n hn t).2 ⟨hb, hl⟩
  have ea := congrArg (fun z => k0_pay3 (F := Ideal) z (iblk ch m ρ c (1 : Fin 5) t) (iblk ch m ρ c (2 : Fin 5) t) prev.2.2 (iblk ch m ρ c (3 : Fin 5) t)) hx
  have st := step0_C ch m ρ c t prev q0 q1 q2
  have s1 : (step0 ch m ρ c t prev).1 = _ := congrArg (fun s : St c => s.1) st
  dsimp only at s1
  refine (congrFun ((s1.trans (runC_out ..)).trans ea) (ix2 r k)).trans ?_
  beta_reduce
  rw [add_tile ch m ρ n hn e he c t (by rw [crd0]; exact hb), crd1]

include hn in
/-- A tile past the used blocks: zeros, kept. -/
theorem past (c : Dev nD) (t : Fin (cfgA ch).N) (prev : St c) (hb : ¬ t.val / 11 ≤ n.val) (hp : t.val % 11 ≠ 0 → ∀ r k : Fin 1024, prev.1 (ix2 r k) = (0 : EReal)) (r k : Fin 1024) :
    (step0 ch m ρ c t prev).1 (ix2 r k) = (0 : EReal) := by
  have q0 : ¬ P0_0 ch t := fun h => hb ((P0_0_iff ch n hn t).1 h).1
  have q1 : ¬ P0_1 ch t := fun h => hb ((P0_1_iff ch n hn t).1 h)
  by_cases hj : t.val % 11 = 0
  · have q2 : P0_3 ch t := (P0_3_iff ch n hn t).2 ⟨hb, hj⟩
    have fa := runD_out c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2.1 prev.2.2 (hypsR0_D ch t q0 q1 q2).1 (hypsR0_D ch t q0 q1 q2).2.1 (hypsR0_D ch t q0 q1 q2).2.2.1 (hypsR0_D ch t q0 q1 q2).2.2.2.1
    have st := step0_D ch m ρ c t prev q0 q1 q2
    have s1 : (step0 ch m ρ c t prev).1 = _ := congrArg (fun s : St c => s.1) st
    exact (congrFun (s1.trans fa) (ix2 r k)).trans (pay4 r k)
  · have q2 : ¬ P0_3 ch t := fun h => hj ((P0_3_iff ch n hn t).1 h).2
    have st := step0_E ch m ρ c t prev q0 q1 q2
    have s1 : (step0 ch m ρ c t prev).1 = _ := congrArg (fun s : St c => s.1) st
    rw [s1]
    show (if (cfgA ch).fresh (4 : Fin 5) t.val then default else prev.1) (ix2 r k) = _
    rw [kept ch n hn t hb hj]
    exact hp hj r k

theorem crd_same (q : ℕ) (hq : q + 1 < (cfgA ch).N) (h : (q + 1) % 11 ≠ 0) : crd ch ⟨q + 1, hq⟩ 0 = crd ch ⟨q, Nat.lt_of_succ_lt hq⟩ 0 :=
  Fin.ext (by rw [crd0, crd0]; show (q + 1) / 11 = q / 11; omega)

include hn he in
/-- Up to a used block's last tile but one, the first scratch holds the rows and the second the sum of the tiles so far. -/
theorem running (c : Dev nD) : ∀ (q : ℕ) (hq : q < (cfgA ch).N), q / 11 ≤ n.val → q % 11 ≤ 9 →
    (traj0 ch m ρ c q hq).2.1 = xb m c (crd ch ⟨q, hq⟩ 0)
    ∧ ∀ r k : Fin 1024, acc (traj0 ch m ρ c q hq) r k = ∑ j ∈ Finset.range (q % 11 + 1), ∑ h : Fin 256, termN m e c (crd ch ⟨q, hq⟩ 0) r k (256 * j + h.val) := by
  intro q
  induction q with
  | zero =>
    intro hq hb hj
    obtain ⟨f1, f2⟩ := first ch m ρ n hn e he c ⟨0, hq⟩ (default, default, default) hb rfl
    refine ⟨f1, fun r k => (f2 r k).trans ?_⟩
    exact (Finset.sum_range_one fun j => ∑ h : Fin 256, termN m e c (crd ch ⟨0, hq⟩ 0) r k (256 * j + h.val)).symm
  | succ q ih =>
    intro hq hb hj
    by_cases hz : (q + 1) % 11 = 0
    · obtain ⟨f1, f2⟩ := first ch m ρ n hn e he c ⟨q + 1, hq⟩ (traj0 ch m ρ c q (Nat.lt_of_succ_lt hq)) hb hz
      refine ⟨f1, fun r k => (f2 r k).trans ?_⟩
      show ∑ h : Fin 256, termN m e c (crd ch ⟨q + 1, hq⟩ 0) r k (256 * ((q + 1) % 11) + h.val) = _
      rw [hz]
      exact (Finset.sum_range_one fun j => ∑ h : Fin 256, termN m e c (crd ch ⟨q + 1, hq⟩ 0) r k (256 * j + h.val)).symm
    · obtain ⟨g1, g2⟩ := ih (Nat.lt_of_succ_lt hq) (by omega) (by omega)
      rw [← crd_same ch q hq hz] at g1 g2
      obtain ⟨f1, f2⟩ := later ch m ρ n hn e he c ⟨q + 1, hq⟩ (traj0 ch m ρ c q (Nat.lt_of_succ_lt hq)) hb hz (by show (q + 1) % 11 ≠ 10; omega) g1
      refine ⟨f1, fun r k => (f2 r k).trans ?_⟩
      rw [g2]
      show _ + ∑ h : Fin 256, termN m e c (crd ch ⟨q + 1, hq⟩ 0) r k (256 * ((q + 1) % 11) + h.val) = _
      have hs : (q + 1) % 11 = q % 11 + 1 := by omega
      rw [hs]
      exact (Finset.sum_range_succ (fun j => ∑ h : Fin 256, termN m e c (crd ch ⟨q + 1, hq⟩ 0) r k (256 * j + h.val)) (q % 11 + 1)).symm

include hn he in
/-- A used block's output: the sum over every hidden column. -/
theorem out_used (c : Dev nD) (q : ℕ) (hq : q < (cfgA ch).N) (hb : q / 11 ≤ n.val) (hl : q % 11 = 10) (r k : Fin 1024) :
    (traj0 ch m ρ c q hq).1 (ix2 r k) = ∑ f : Fin 2816, term m e c (crd ch ⟨q, hq⟩ 0) r k f := by
  obtain ⟨p, rfl⟩ : ∃ p, q = p + 1 := ⟨q - 1, by omega⟩
  obtain ⟨g1, g2⟩ := running ch m ρ n hn e he c p (Nat.lt_of_succ_lt hq) (by omega) (by omega)
  rw [← crd_same ch p hq (by omega)] at g1 g2
  refine (last ch m ρ n hn e he c ⟨p + 1, hq⟩ (traj0 ch m ρ c p (Nat.lt_of_succ_lt hq)) hb hl g1 r k).trans ?_
  rw [g2]
  show _ + ∑ h : Fin 256, termN m e c (crd ch ⟨p + 1, hq⟩ 0) r k (256 * ((p + 1) % 11) + h.val) = _
  have hs : p % 11 = 9 := by omega
  rw [hl, hs]
  refine (Finset.sum_range_succ (fun j => ∑ h : Fin 256, termN m e c (crd ch ⟨p + 1, hq⟩ 0) r k (256 * j + h.val)) 10).symm.trans ?_
  refine (sum_tiles (termN m e c (crd ch ⟨p + 1, hq⟩ 0) r k) 11).symm.trans ?_
  rw [show 256 * 11 = 2816 from rfl, Finset.sum_range]
  exact Finset.sum_congr rfl fun f _ => dif_pos f.isLt

include hn in
/-- A block past the used ones: zeros. -/
theorem out_past (c : Dev nD) : ∀ (q : ℕ) (hq : q < (cfgA ch).N), ¬ q / 11 ≤ n.val → ∀ r k : Fin 1024, (traj0 ch m ρ c q hq).1 (ix2 r k) = (0 : EReal) := by
  intro q
  induction q with
  | zero => intro hq hb; exact absurd (by simp) hb
  | succ q ih =>
    intro hq hb
    exact past ch m ρ n hn c ⟨q + 1, hq⟩ (traj0 ch m ρ c q (Nat.lt_of_succ_lt hq)) hb fun hz => ih _ (by
      have hz' : (q + 1) % 11 ≠ 0 := hz
      omega)

/-! ## The array -/

/-- An element's place in the output's blocks. -/
theorem emb4 (t : Fin (cfgA ch).N) (r k : Fin 1024) : ((((cfgA ch).win (4 : Fin 5)).blk t).view.emb (ix2 r k) : S40960x1024.Idx) = ix2 (rowOf (crd ch t 0) r) k := by
  refine funext fun a => Fin.ext ?_
  match a with
  | ⟨0, _⟩ =>
    show cc0_transform_4 (crd ch t) 0 * 1024 + 1 * r.val = (crd ch t 0).val * 1024 + r.val
    rw [tr4]; show (crd ch t 0).val * 1024 + _ = _; omega
  | ⟨1, _⟩ =>
    show cc0_transform_4 (crd ch t) 1 * 1024 + 1 * k.val = k.val
    rw [tr4]; show 0 * 1024 + _ = _; omega

/-- Every element lies in a block written back. -/
theorem cover (i : S40960x1024.Idx) : ∃ t : Fin (cfgA ch).N, ((cfgA ch).win (4 : Fin 5)).flush t = true ∧ i ∈ (((cfgA ch).win (4 : Fin 5)).blk t).view.set := by
  obtain ⟨R, k, rfl⟩ : ∃ (R : Fin 40960) (k : Fin 1024), i = ix2 R k := ⟨i 0, i 1, funext fun a => match a with | ⟨0, _⟩ => rfl | ⟨1, _⟩ => rfl⟩
  have hN : 11 * (R.val / 1024) + 10 < (cfgA ch).N := lt_of_lt_of_eq (show 11 * (R.val / 1024) + 10 < 440 by omega) (by decide +kernel : 440 = grid0.N)
  refine ⟨⟨11 * (R.val / 1024) + 10, hN⟩, ?_, Finset.mem_map.2 ⟨ix2 ⟨R.val % 1024, by omega⟩ k, Finset.mem_univ _, ?_⟩⟩
  · rw [flush_eq]; exact decide_eq_true (by show (11 * (R.val / 1024) + 10) % 11 = 10; omega)
  · rw [emb4]
    refine congrArg (fun q : Fin 40960 => (ix2 q k : S40960x1024.Idx)) (Fin.ext ?_)
    show (crd ch _ 0).val * 1024 + R.val % 1024 = R.val
    rw [crd0]
    show (11 * (R.val / 1024) + 10) / 11 * 1024 + R.val % 1024 = R.val
    omega

include hn he in
/-- The array the run ends with is the mathematics'. -/
theorem final (c : Dev nD) : (dats ch m ρ 0 c).arrAt (4 : Fin 5) (cfgA ch).N = Cert.ExpertsRefIdeal.Stages.spec n.val e (aX m c) (aG m c) (aU m c) (aD m c) := by
  refine (dats ch m ρ 0 c).arrAt_eq_of_emb (4 : Fin 5) _ (fun t hf y => ?_) fun i => ?_
  · obtain ⟨r, k, rfl⟩ := two y
    have hl : t.val % 11 = 10 := of_decide_eq_true ((flush_eq ch t).symm.trans hf)
    show (traj0 ch m ρ c t.val t.isLt).1 (ix2 r k) = Cert.ExpertsRefIdeal.Stages.spec n.val e (aX m c) (aG m c) (aU m c) (aD m c) (((cfgA ch).win (4 : Fin 5)).blk t |>.view.emb (ix2 r k))
    rw [emb4]
    have hr : (rowOf (crd ch t 0) r).val / 1024 = t.val / 11 := by rw [← crd0 ch t]; simp only [rowOf]; omega
    have hB : (⟨(rowOf (crd ch t 0) r).val / 1024, by have := (rowOf (crd ch t 0) r).isLt; omega⟩ : Fin 40) = crd ch t 0 := Fin.ext (hr.trans (crd0 ch t).symm)
    unfold Cert.ExpertsRefIdeal.Stages.spec
    show _ = if (rowOf (crd ch t 0) r).val / 1024 ≤ n.val then _ else _
    by_cases hb : t.val / 11 ≤ n.val
    · rw [if_pos (by rw [hr]; exact hb), out_used ch m ρ n hn e he c t.val t.isLt hb hl r k]
      refine Finset.sum_congr rfl fun f _ => ?_
      have key : ∀ B : Fin 40, B = crd ch t 0 → term m e c (crd ch t 0) r k f
          = (∑ i : Fin 1024, aX m c (ix2 (rowOf (crd ch t 0) r) i) * aG m c (ix3 (e B) i f))
            * Ideal.logistic (∑ i : Fin 1024, aX m c (ix2 (rowOf (crd ch t 0) r) i) * aG m c (ix3 (e B) i f))
            * (∑ i : Fin 1024, aX m c (ix2 (rowOf (crd ch t 0) r) i) * aU m c (ix3 (e B) i f))
            * aD m c (ix3 (e B) f k) := by rintro _ rfl; rfl
      exact key _ hB
    · rw [if_neg (by rw [hr]; exact hb)]
      exact out_past ch m ρ n hn c t.val t.isLt hb r k
  · exact cover ch i

end Cert.ExpertsIdeal.Tables

end
-- ==== Proof.ExpertsClaims.lean ====
/-
  The claims about the experts' feed-forward layer: the reference's frame and the equality of the two results.
-/
module

public import proofs.«01_k».proof.Proof.ExpertsIdealPre
public import proofs.«01_k».proof.Proof.ExpertsIdealValue
public import proofs.«01_k».proof.Proof.ExpertsRefStages
public import Idealize.ShloMosaic.Adequacy
public import Idealize.ShloMosaic.Init

@[expose] public section

set_option maxRecDepth 16384

noncomputable section

namespace Cert.ExpertsClaims

open Idealize.ShloMosaic
open Idealize.ShloMosaic.TcCoe
open Cert.ExpertsIdeal Cert.ExpertsIdeal.Gen Cert.ExpertsIdeal.Tables

/-- The reference runs and leaves its arguments and the counters as they were. -/
theorem reference_frame : Cert.quiescent_ExpertsRefIdeal := fun m ρ _ =>
  (θ_run _ _ _).mono (fun r h => ⟨fun c => (h c).2, Idealize.ShloMosaic.sem_eq_zero_of_no_sems (by decide) r.2⟩)
    (Cert.ExpertsRefIdeal.Stages.run (F := Ideal) m ρ)

/-- The expert of each block. -/
def ex (m : (ℓ : Loc nD τ sig) → Buf (Elt Ideal) ℓ) (h : Cert.Pre_ExpertsIdeal m) (b : Fin 40) : Fin 16 :=
  ⟨BitVec.toNat (m (((0 : Dev nD).tc : Thread nD τ).loc main_arg0) (ix1 b) : BitVec 32), (range_of_pre m h 0).1 (ix1 b)⟩

/-- The table's word is its number. -/
theorem ex_eq (m : (ℓ : Loc nD τ sig) → Buf (Elt Ideal) ℓ) (h : Cert.Pre_ExpertsIdeal m) (b : Fin 40) :
    ((tab m h).1.1 0 (ix1 b) : BitVec 32) = BitVec.ofNat 32 (ex m h b).val :=
  BitVec.eq_of_toNat_eq ((Nat.mod_eq_of_lt (lt_trans (ex m h b).isLt (by decide))).symm.trans (BitVec.toNat_ofNat _ _).symm)

/-- The table of experts and the number of used blocks, read on any device. -/
theorem tables (m : (ℓ : Loc nD τ sig) → Buf (Elt Ideal) ℓ) (h : Cert.Pre_ExpertsIdeal m) (c : Dev nD) :
    (m ((c.tc : Thread nD τ).loc main_arg0) : S40.Idx → BitVec 32) = (tab m h).1.1 0
    ∧ (m ((c.tc : Thread nD τ).loc main_arg1) : S1.Idx → BitVec 32) = (tab m h).1.1 1 :=
  ⟨(pinned_of_pre m h).1 c, (pinned_of_pre m h).2 c⟩

/-- Kernel and reference end with equal results. -/
theorem algebraic : Cert.algebraic_ExpertsIdeal_ExpertsRefIdeal := by
  intro m g m' g' hp ha
  obtain ⟨n, hn⟩ := (tab m hp).2
  refine ⟨fun c => Cert.ExpertsRefIdeal.Stages.spec n.val (ex m hp) (aX m c) (aG m c) (aU m c) (aD m c), ?_, ?_⟩
  · refine (θ_run _ _ _).mono (fun r h c => ⟨?_, h.2.1 c⟩) (θ_run_and (run_main (tab m hp) m g (pinned_of_pre m hp)) (claim_frame m g hp))
    exact ((h.1 c).1 4).trans (final (tab m hp) m g n hn (ex m hp) (ex_eq m hp) c)
  · refine (θ_run _ _ _).mono (fun r h c => ⟨(h c).1.trans ?_, (h c).2⟩) (Cert.ExpertsRefIdeal.Stages.run (F := Ideal) m' g')
    obtain ⟨a0, a1, a2, a3, a4, a5⟩ := ha c
    obtain ⟨t0, t1⟩ := tables m hp c
    rw [a0, a1, a2, a3, a4, a5]
    exact Cert.ExpertsRefIdeal.Stages.whole_eq _ _ _ _ _ _ n (t1.trans hn) (ex m hp) (fun b => (congrFun t0 (ix1 b)).trans (ex_eq m hp b))

end Cert.ExpertsClaims

end
-- ==== Proof.lean ====
/-
  Assembly.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.Dense
public import proofs.«01_k».proof.Proof.Gen.Dense.Skeleton
public import proofs.«01_k».proof.Proof.Gen.Dense.Launch
public import proofs.«01_k».proof.Proof.Gen.Dense.Flash
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Flash
public import proofs.«01_k».proof.Proof.Gen.DenseRefIdeal
public import proofs.«01_k».proof.Proof.Gen.DenseRefIdeal.Run
public import proofs.«01_k».proof.Proof.Gen.Pre_one_layer
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsRefIdeal
public import proofs.«01_k».proof.Proof.Gen.ExpertsRefIdeal.Run
public import proofs.«01_k».proof.Proof.Gen.Pre_expert_range
public import proofs.«01_k».proof.Proof.KernelGo
public import proofs.«01_k».proof.Proof.AttnClaims
public import proofs.«01_k».proof.Proof.InprojClaims
public import proofs.«01_k».proof.Proof.OutprojClaims
public import proofs.«01_k».proof.Proof.DensePre
public import proofs.«01_k».proof.Proof.DenseClaims
public import proofs.«01_k».proof.Proof.ExpertsPre
public import proofs.«01_k».proof.Proof.ExpertsClaims

@[expose] public section

noncomputable section

namespace Cert.Proof

/-- Everything this certificate claims. -/
theorem claim : Cert.Claim :=
  ⟨Cert.Kernel.Gen.facts, Cert.KernelIdeal.Gen.facts, Cert.ReferenceIdeal.Gen.facts, Cert.Inproj.Gen.facts, Cert.InprojIdeal.Gen.facts, Cert.InprojRefIdeal.Gen.facts, Cert.Outproj.Gen.facts, Cert.OutprojIdeal.Gen.facts, Cert.OutprojRefIdeal.Gen.facts, Cert.Dense.Gen.facts, Cert.DenseIdeal.Gen.facts, Cert.DenseRefIdeal.Gen.facts, Cert.Experts.Gen.facts, Cert.ExpertsIdeal.Gen.facts, Cert.ExpertsRefIdeal.Gen.facts, Cert.Pre_finite.Gen.facts, Cert.Pre_one_layer.Gen.facts, Cert.Pre_expert_range.Gen.facts,
    fun m g _ => Cert.Kernel.Attn.frame m g,
    fun m g _ => Cert.KernelIdeal.Attn.frame m g,
    fun m g _ => Cert.KernelIdeal.Attn.frame m g,
    fun m g _ => Cert.AttnClaims.reference_frame m g,
    fun m g _ => Cert.AttnClaims.reference_frame m g,
    fun m g _ => Cert.Inproj.Gen.frame m g,
    fun m g _ => Cert.InprojIdeal.Gen.frame m g,
    Cert.InprojClaims.reference_frame,
    fun m g _ => Cert.Outproj.Gen.frame m g,
    fun m g _ => Cert.OutprojIdeal.Gen.frame m g,
    Cert.OutprojClaims.reference_frame,
    Cert.Dense.Tables.claim_frame,
    Cert.DenseIdeal.Tables.claim_frame,
    Cert.DenseClaims.reference_frame,
    fun m g _ => Cert.DenseClaims.reference_frame m g trivial,
    Cert.Experts.Tables.claim_frame,
    Cert.ExpertsIdeal.Tables.claim_frame,
    Cert.ExpertsClaims.reference_frame,
    fun m g _ => Cert.ExpertsClaims.reference_frame m g trivial,
    Cert.AttnClaims.preserves,
    Cert.AttnClaims.algebraic,
    trivial,
    Cert.InprojClaims.algebraic,
    trivial,
    Cert.OutprojClaims.algebraic,
    trivial,
    Cert.DenseClaims.algebraic,
    trivial,
    Cert.ExpertsClaims.algebraic⟩

end Cert.Proof

end
